-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def preserves_Kernel_KernelIdeal : Prop :=
  IdealRules.named_const.Statement Cert.KernelIdeal.κ "low" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v4) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)) (v1 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_v16) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6)) (v1 : (c : Dev Cert.Kernel10Ideal.nD) → Buf (Elt Ideal) ((c.tc : Thread Cert.Kernel10Ideal.nD Cert.Kernel10Ideal.τ).loc Cert.Kernel10Ideal.main_v4_0)) (v2 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_v4_0) = v1 c
          ∧ r.2.mem ((c.tc : Thread Cert.Kernel10Ideal.nD Cert.Kernel10Ideal.τ).loc Cert.Kernel10Ideal.main_v7) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v9)) (v1 : (c : Dev Cert.Kernel12Ideal.nD) → Buf (Elt Ideal) ((c.tc : Thread Cert.Kernel12Ideal.nD Cert.Kernel12Ideal.τ).loc Cert.Kernel12Ideal.main_v7_1)) (v2 : (c : Dev Cert.Kernel12Ideal.nD) → Buf (Elt Ideal) ((c.tc : Thread Cert.Kernel12Ideal.nD Cert.Kernel12Ideal.τ).loc Cert.Kernel12Ideal.main_v7_2)) (v3 : (c : Dev Cert.Kernel12Ideal.nD) → Buf (Elt Ideal) ((c.tc : Thread Cert.Kernel12Ideal.nD Cert.Kernel12Ideal.τ).loc Cert.Kernel12Ideal.main_v7_3)) (v4 : (c : Dev Cert.Kernel12Ideal.nD) → Buf (Elt Ideal) ((c.tc : Thread Cert.Kernel12Ideal.nD Cert.Kernel12Ideal.τ).loc Cert.Kernel12Ideal.main_v7_4)) (v5 : (c : Dev Cert.Kernel12Ideal.nD) → Buf (Elt Ideal) ((c.tc : Thread Cert.Kernel12Ideal.nD Cert.Kernel12Ideal.τ).loc Cert.Kernel12Ideal.main_v7_5)) (v6 : (c : Dev Cert.Kernel12Ideal.nD) → Buf (Elt Ideal) ((c.tc : Thread Cert.Kernel12Ideal.nD Cert.Kernel12Ideal.τ).loc Cert.Kernel12Ideal.main_v7_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_v7_2) = v2 c
          ∧ r.2.mem ((c.tc : Thread Cert.Kernel12Ideal.nD Cert.Kernel12Ideal.τ).loc Cert.Kernel12Ideal.main_v7_3) = v3 c
          ∧ r.2.mem ((c.tc : Thread Cert.Kernel12Ideal.nD Cert.Kernel12Ideal.τ).loc Cert.Kernel12Ideal.main_v7_4) = v4 c
          ∧ r.2.mem ((c.tc : Thread Cert.Kernel12Ideal.nD Cert.Kernel12Ideal.τ).loc Cert.Kernel12Ideal.main_v7_5) = v5 c
          ∧ r.2.mem ((c.tc : Thread Cert.Kernel12Ideal.nD Cert.Kernel12Ideal.τ).loc Cert.Kernel12Ideal.main_v7_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v51) = v0 c
          ∧ r.2.mem ((c.tc : Thread Cert.Reference12Ideal.nD Cert.Reference12Ideal.τ).loc Cert.Reference12Ideal.main_v48) = v1 c
          ∧ r.2.mem ((c.tc : Thread Cert.Reference12Ideal.nD Cert.Reference12Ideal.τ).loc Cert.Reference12Ideal.main_v45) = v2 c
          ∧ r.2.mem ((c.tc : Thread Cert.Reference12Ideal.nD Cert.Reference12Ideal.τ).loc Cert.Reference12Ideal.main_v42) = v3 c
          ∧ r.2.mem ((c.tc : Thread Cert.Reference12Ideal.nD Cert.Reference12Ideal.τ).loc Cert.Reference12Ideal.main_v49) = v4 c
          ∧ r.2.mem ((c.tc : Thread Cert.Reference12Ideal.nD Cert.Reference12Ideal.τ).loc Cert.Reference12Ideal.main_v46) = v5 c
          ∧ r.2.mem ((c.tc : Thread Cert.Reference12Ideal.nD Cert.Reference12Ideal.τ).loc Cert.Reference12Ideal.main_v43) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v8)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v9) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2048x6912 : Shape := ⟨2, ![2048, 6912]⟩
abbrev S2048x512 : Shape := ⟨2, ![2048, 512]⟩
abbrev S_ : Shape := ⟨0, ![]⟩

class Facts : Prop where
  bcast_S_S2048x6912 : S_.BroadcastsInDim S2048x6912 (![] : Fin 0 → Fin S2048x6912.rank)
  reducesTo_S2048x6912_S_d0_1 : S2048x6912.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x6912 .f32) (main_arg1 : FVec F S2048x512 .f32) : IVec S_ 1 :=
  let main_v0 : FVec F S2048x6912 .f32 := Host.absf main_arg0
  let main_cst : FVec F S_ .f32 := constant S_ .f32 0x7F800000#32
  let main_v1 : FVec F S2048x6912 .f32 := broadcastInDim S2048x6912 ![] bcast_S_S2048x6912 main_cst
  let main_v2 : IVec S2048x6912 1 := cmpf .olt main_v0 main_v1
  let main_c : IVec S_ 1 := constantI S_ 1 1#1
  let main_v3 : IVec S_ 1 := (fun x v => Host.reduce IntOp.andi x v reducesTo_S2048x6912_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S2048x6912 : Shape := ⟨2, ![2048, 6912]⟩
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩
abbrev S512x512 : Shape := ⟨2, ![512, 512]⟩
abbrev S256x256 : Shape := ⟨2, ![256, 256]⟩
abbrev S512x256 : Shape := ⟨2, ![512, 256]⟩

abbrev nBuf : Space → Nat
  | .hbm => 50
  | .vmem => 16
  | .smem => 0
  | _ => 0

abbrev bufTy : (tb : Table) → Fin (tcTables nBuf tb) → BufTy
  | .hbm, ⟨0, _⟩ => ⟨S2048x6912, .f32⟩
  | .hbm, ⟨1, _⟩ => ⟨S2048x512, .f32⟩
  | .hbm, ⟨2, _⟩ => ⟨S2048x512, .f32⟩
  | .hbm, ⟨3, _⟩ => ⟨S2048x8x64, .f32⟩
  | .hbm, ⟨4, _⟩ => ⟨S8x2048x64, .f32⟩
  | .hbm, ⟨5, _⟩ => ⟨S2048x512, .f32⟩
  | .hbm, ⟨6, _⟩ => ⟨S2048x8x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S2048x8, .f32⟩
  | .hbm, ⟨44, _⟩ => ⟨S2048x8x1, .f32⟩
  | .hbm, ⟨45, _⟩ => ⟨S2048x8x64, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_24 : BitVec 32 := 0#32
  let arg1 : BitVec 32 := BitVec.ofNat 32 (i 1).val
  let v64 : BitVec 32 := Scalar.subi arg1 c0_i32_24
  let c1_i32 : BitVec 32 := 1#32
  let v66 : BitVec 32 := Scalar.divsi v64 c1_i32
  let v67 : BitVec 32 := Scalar.muli v66 c1_i32
  let v68 : BitVec 32 := Scalar.addi c0_i32_24 v67
  let c1_i32_25 : BitVec 32 := 1#32
  ⟨c0_i32_24, v68, c1_i32_25⟩
def k0_mult1 (i : grid0.Coords) (k0_t1 : Fin (k0_t1_loop i).trips) : BitVec 32 :=
  let c0_i32_24 : BitVec 32 := 0#32
  let c1_i32_25 : BitVec 32 := 1#32
  let arg10 : BitVec 32 := Scf.iv c0_i32_24 c1_i32_25 k0_t1
  let c512_i32_72 : BitVec 32 := 512#32
  let v223 : BitVec 32 := Scalar.muli arg10 c512_i32_72
  v223
def k0_off1 (i : grid0.Coords) (k0_t1 : Fin (k0_t1_loop i).trips) : Fin 2 → Nat :=
  let c0_i32_24 : BitVec 32 := 0#32
  let c1_i32_25 : BitVec 32 := 1#32
  let arg10 : BitVec 32 := Scf.iv c0_i32_24 c1_i32_25 k0_t1
  let c512_i32_72 : BitVec 32 := 512#32
  let v223 : BitVec 32 := Scalar.muli arg10 c512_i32_72
  let v224 : BitVec 32 := v223
  let v225 : Index := Scalar.indexCast v224
  let c0_73 : Index := 0#32
  ![v225.toNat, 0]
@[reducible] def k0_t2_loop (i : grid0.Coords) : Scf.Loop 32 :=
  let c0_i32_24 : BitVec 32 := 0#32
  let arg1 : BitVec 32 := BitVec.ofNat 32 (i 1).val
  let v64 : BitVec 32 := Scalar.subi arg1 c0_i32_24
  let c1_i32 : BitVec 32 := 1#32
  let v66 : BitVec 32 := Scalar.divsi v64 c1_i32
  let v67 : BitVec 32 := Scalar.muli v66 c1_i32
  let v68 : BitVec 32 := Scalar.addi c0_i32_24 v67
  let v65 : BitVec 32 := Scalar.addi c0_i32_24 v64
  let c1_i32_26 : BitVec 32 := 1#32
  ⟨v68, v65, c1_i32_26⟩
def k0_mult2 (i : grid0.Coords) (k0_t2 : Fin (k0_t2_loop i).trips) : BitVec 32 :=
  let c0_i32_24 : BitVec 32 := 0#32
  let arg1 : BitVec 32 := BitVec.ofNat 32 (i 1).val
  let v64 : BitVec 32 := Scalar.subi arg1 c0_i32_24
  let c1_i32 : BitVec 32 := 1#32
  let v66 : BitVec 32 := Scalar.divsi v64 c1_i32
  let v67 : BitVec 32 := Scalar.muli v66 c1_i32
  let v68 : BitVec 32 := Scalar.addi c0_i32_24 v67
  let c1_i32_26 : BitVec 32 := 1#32
  let arg10 : BitVec 32 := Scf.iv v68 c1_i32_26 k0_t2
  let c512_i32_72 : BitVec 32 := 512#32
  let v223 : BitVec 32 := Scalar.muli arg10 c512_i32_72
  v223
def k0_off2 (i : grid0.Coords) (k0_t2 : Fin (k0_t2_loop i).trips) : Fin 2 → Nat :=
  let c0_i32_24 : BitVec 32 := 0#32
  let arg1 : BitVec 32 := BitVec.ofNat 32 (i 1).val
  let v64 : BitVec 32 := Scalar.subi arg1 c0_i32_24
  let c1_i32 : BitVec 32 := 1#32
  let v66 : BitVec 32 := Scalar.divsi v64 c1_i32
  let v67 : BitVec 32 := Scalar.muli v66 c1_i32
  let v68 : BitVec 32 := Scalar.addi c0_i32_24 v67
  let c1_i32_26 : BitVec 32 := 1#32
  let arg10 : BitVec 32 := Scf.iv v68 c1_i32_26 k0_t2
  let c512_i32_72 : BitVec 32 := 512#32
  let v223 : BitVec 32 := Scalar.muli arg10 c512_i32_72
  let v224 : BitVec 32 := v223
  let v225 : Index := Scalar.indexCast v224
  let c0_73 : Index := 0#32
  ![v225.toNat, 0]
def k0_mult3 (i : grid0.Coords) : BitVec 32 :=
  let arg1 : BitVec 32 := BitVec.ofNat 32 (i 1).val
  let c512_i32 : BitVec 32 := 512#32
  let v71 : BitVec 32 := Scalar.muli arg1 c512_i32
  v71
def k0_off3 (i : grid0.Coords) : Fin 2 → Nat :=
  let arg1 : BitVec 32 := BitVec.ofNat 32 (i 1).val
  let c512_i32 : BitVec 32 := 512#32
  let v71 : BitVec 32 := Scalar.muli arg1 c512_i32
  let v72 : BitVec 32 := v71
  let v73 : Index := Scalar.indexCast v72
  let c0_27 : Index := 0#32
  ![v73.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "low" => some ⊥
  | _ => none
-- ==== ReferenceIdeal.lean ====
abbrev S2048x6912 : Shape := ⟨2, ![2048, 6912]⟩
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 178
  | .vmem => 0
  | .smem => 0
  | _ => 0

abbrev hbmTy0_0 (i : Nat) : BufTy := match i % 128 with
  | 0 => ⟨S2048x6912, .f32⟩
  | 1 => ⟨S2048x512, .f32⟩
  | 2 => ⟨S2048x512, .f32⟩
  | 3 => ⟨S2048x512, .f32⟩
  | 4 => ⟨S2048x512, .f32⟩
  | 5 => ⟨S2048x8x64, .f32⟩
  | 6 => ⟨S8x2048x64, .f32⟩
  | 7 => ⟨S2048x8x64, .f32⟩
  | 8 => ⟨S8x2048x64, .f32⟩
  | 9 => ⟨S2048x8x64, .f32⟩
  | 10 => ⟨S8x2048x64, .f32⟩
  | 11 => ⟨S8x2048x2048, .f32⟩
  | 12 => ⟨S_, .f32⟩
  | 13 => ⟨S8x2048x2048, .f32⟩
  | 14 => ⟨S8x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .i1⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .i1⟩
  | 41 => ⟨S_, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .i1⟩
  | 47 => ⟨S_, .f32⟩
  | 48 => ⟨S8x2048x2048, .f32⟩
  | 49 => ⟨S8x2048x2048, .f32⟩
  | 50 => ⟨S8x2048x2048, .f32⟩
  | 51 => ⟨S8x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x2048x2048, .f32⟩
  | 60 => ⟨S8x2048x2048, .i1⟩
  | 61 => ⟨S_, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S8x2048x2048, .f32⟩
  | 69 => ⟨S8x2048x2048, .f32⟩
  | 70 => ⟨S8x2048x2048, .f32⟩
  | 71 => ⟨S_, .f32⟩
  | 72 => ⟨S_, .f32⟩
  | 73 => ⟨S8x2048x2048, .i1⟩
  | 74 => ⟨S8x2048x2048, .f32⟩
  | 75 => ⟨S8x2048x2048, .f32⟩
  | 76 => ⟨S_, .f32⟩
  | 77 => ⟨S8x2048x2048, .f32⟩
  | 78 => ⟨S_, .f32⟩
  | 79 => ⟨S_, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .i1⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .i1⟩
  | 100 => ⟨S_, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .i1⟩
  | 106 => ⟨S_, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x2048x2048, .f32⟩
  | 119 => ⟨S8x2048x2048, .i1⟩
  | 120 => ⟨S_, .f32⟩
  | 121 => ⟨S8x2048x2048, .f32⟩
  | 122 => ⟨S8x2048x2048, .f32⟩
  | 123 => ⟨S8x2048x2048, .f32⟩
  | 124 => ⟨S8x2048x2048, .f32⟩
  | 125 => ⟨S8x2048x2048, .f32⟩
  | 126 => ⟨S_, .f32⟩
  | 127 => ⟨S8x2048x2048, .f32⟩
  | _ => ⟨S2048x6912, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S_, .f32⟩
  | 5 => ⟨S_, .f32⟩
  | 6 => ⟨S8x2048x2048, .i1⟩
  | 7 => ⟨S8x2048x2048, .f32⟩
  | 8 => ⟨S8x2048x2048, .f32⟩
  | 9 => ⟨S_, .f32⟩
  | 10 => ⟨S8x2048x2048, .f32⟩
  | 11 => ⟨S8x2048x64, .f32⟩
  | 12 => ⟨S2048x8x64, .f32⟩
  | 13 => ⟨S2048x512, .f32⟩
  | 14 => ⟨S2048x8x64, .f32⟩
  | 15 => ⟨S8x2048x64, .f32⟩
  | 16 => ⟨S8x64x2048, .f32⟩
  | 17 => ⟨S8x2048x64, .f32⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S_, .f32⟩
  | 28 => ⟨S_, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .f32⟩
  | 42 => ⟨S8x2048x64, .f32⟩
  | 43 => ⟨S8x2048x64, .f32⟩
  | 44 => ⟨S2048x8x64, .f32⟩
  | 45 => ⟨S2048x512, .f32⟩
  | 46 => ⟨S2048x8x64, .f32⟩
  | 47 => ⟨S2048x512, .f32⟩
  | 48 => ⟨S2048x8x64, .f32⟩
  | 49 => ⟨S2048x512, .f32⟩
  | _ => ⟨S2048x6912, .f32⟩

abbrev hbmTy (i : Nat) : BufTy := match i / 128 with
  | 0 => hbmTy0_0 i
  | 1 => hbmTy0_1 i
  | _ => ⟨S2048x6912, .f32⟩

abbrev bufTy : (tb : Table) → Fin (tcTables nBuf tb) → BufTy
  | .hbm, ⟨i, _⟩ => hbmTy i
  | _, _ => ⟨S2048x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_call6_v0 : Ref sig .tc := ⟨.hbm, 151, rfl⟩
abbrev main_call6_v1 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel2.lean ====
abbrev S2048x4096 : Shape := ⟨2, ![2048, 4096]⟩
abbrev S2048x1024 : Shape := ⟨2, ![2048, 1024]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x1024, .bf16⟩
  | .hbm, ⟨8, _⟩ => ⟨S4096x1024, .bf16⟩
  | .hbm, ⟨9, _⟩ => ⟨S2048x4096, .bf16⟩
  | .hbm, ⟨10, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x4096 : Shape := ⟨2, ![2048, 4096]⟩
abbrev S2048x1024 : Shape := ⟨2, ![2048, 1024]⟩
abbrev S4096x1024 : Shape := ⟨2, ![4096, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x1024, .bf16⟩
  | .hbm, ⟨8, _⟩ => ⟨S4096x1024, .bf16⟩
  | .hbm, ⟨9, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4096 : Shape := ⟨2, ![1024, 4096]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x4096, .bf16⟩
  | .hbm, ⟨20, _⟩ => ⟨S1024x4096, .bf16⟩
  | .hbm, ⟨21, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S1x1024 : Shape := ⟨2, ![1, 1024]⟩
abbrev S_ : Shape := ⟨0, ![]⟩
abbrev S1024x4096 : Shape := ⟨2, ![1024, 4096]⟩
abbrev S2048 : Shape := ⟨1, ![2048]⟩
abbrev S2048x1 : Shape := ⟨2, ![2048, 1]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1x1024, .f32⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S4096x1024, .f32⟩
  | .hbm, ⟨22, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S2048x1024 : Shape := ⟨2, ![2048, 1024]⟩
abbrev S2048x4096 : Shape := ⟨2, ![2048, 4096]⟩
abbrev S1024x4096 : Shape := ⟨2, ![1024, 4096]⟩
abbrev S1x1024 : Shape := ⟨2, ![1, 1024]⟩
abbrev S32x1024 : Shape := ⟨2, ![32, 1024]⟩
abbrev S512x2048 : Shape := ⟨2, ![512, 2048]⟩
abbrev S1024x2048 : Shape := ⟨2, ![1024, 2048]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4096, .f32⟩
  | .hbm, ⟨3, _⟩ => ⟨S1024x4096, .f32⟩
  | .hbm, ⟨4, _⟩ => ⟨S1x1024, .f32⟩
  | .hbm, ⟨5, _⟩ => ⟨S2048x4096, .bf16⟩
  | .hbm, ⟨6, _⟩ => ⟨S1024x4096, .bf16⟩
  | .hbm, ⟨7, _⟩ => ⟨S2048x1024, .f32⟩
  | .hbm, ⟨8, _⟩ => ⟨S32x1024, .f32⟩
  | .hbm, ⟨9, _⟩ => ⟨S_, .f32⟩
  | .hbm, ⟨10, _⟩ => ⟨S1024, .f32⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S2048x1024 : Shape := ⟨2, ![2048, 1024]⟩
abbrev S2048x4096 : Shape := ⟨2, ![2048, 4096]⟩
abbrev S1024x4096 : Shape := ⟨2, ![1024, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4096, .f32⟩
  | .hbm, ⟨3, _⟩ => ⟨S1024x4096, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S2048x1024 : Shape := ⟨2, ![2048, 1024]⟩
abbrev S2048x6912 : Shape := ⟨2, ![2048, 6912]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S6912x1024 : Shape := ⟨2, ![6912, 1024]⟩
abbrev S2048x1152 : Shape := ⟨2, ![2048, 1152]⟩
abbrev S1152x1024 : Shape := ⟨2, ![1152, 1024]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x6912, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x6912, .bf16⟩
  | .hbm, ⟨20, _⟩ => ⟨S6912x1024, .bf16⟩
  | .hbm, ⟨21, _⟩ => ⟨S6912x1024, .f32⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S1152x1024, .bf16⟩
  | .local _ .vmem, ⟨4, _⟩ => ⟨S1152x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x6912 : Shape := ⟨2, ![2048, 6912]⟩
abbrev S1x1024 : Shape := ⟨2, ![1, 1024]⟩
abbrev S_ : Shape := ⟨0, ![]⟩
abbrev S6912x1024 : Shape := ⟨2, ![6912, 1024]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6912, .f32⟩
  | .hbm, ⟨2, _⟩ => ⟨S1x1024, .f32⟩
  | .hbm, ⟨3, _⟩ => ⟨S_, .f32⟩
  | .hbm, ⟨4, _⟩ => ⟨S6912x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x6912, .f32⟩
  | .hbm, ⟨21, _⟩ => ⟨S6912x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel7.lean ====
abbrev S2048x1024 : Shape := ⟨2, ![2048, 1024]⟩
abbrev S2048x6912 : Shape := ⟨2, ![2048, 6912]⟩
abbrev S6912x1024 : Shape := ⟨2, ![6912, 1024]⟩
abbrev S1x1024 : Shape := ⟨2, ![1, 1024]⟩
abbrev S32x1024 : Shape := ⟨2, ![32, 1024]⟩
abbrev S512x2304 : Shape := ⟨2, ![512, 2304]⟩
abbrev S2304x1024 : Shape := ⟨2, ![2304, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x6912, .f32⟩
  | .hbm, ⟨3, _⟩ => ⟨S6912x1024, .f32⟩
  | .hbm, ⟨4, _⟩ => ⟨S1x1024, .f32⟩
  | .hbm, ⟨5, _⟩ => ⟨S2048x6912, .bf16⟩
  | .hbm, ⟨6, _⟩ => ⟨S6912x1024, .bf16⟩
  | .hbm, ⟨7, _⟩ => ⟨S2048x1024, .f32⟩
  | .hbm, ⟨8, _⟩ => ⟨S32x1024, .f32⟩
  | .hbm, ⟨9, _⟩ => ⟨S_, .f32⟩
  | .hbm, ⟨10, _⟩ => ⟨S1024, .f32⟩
  | .hbm, ⟨11, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S2304x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S2048x1024 : Shape := ⟨2, ![2048, 1024]⟩
abbrev S2048x6912 : Shape := ⟨2, ![2048, 6912]⟩
abbrev S6912x1024 : Shape := ⟨2, ![6912, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x6912, .f32⟩
  | .hbm, ⟨3, _⟩ => ⟨S6912x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x6912, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel8.lean ====
abbrev S2048x1024 : Shape := ⟨2, ![2048, 1024]⟩
abbrev S6912x1024 : Shape := ⟨2, ![6912, 1024]⟩
abbrev S1x1024 : Shape := ⟨2, ![1, 1024]⟩
abbrev S2048x6912 : Shape := ⟨2, ![2048, 6912]⟩
abbrev S1024x1024 : Shape := ⟨2, ![1024, 1024]⟩
abbrev S1152x1024 : Shape := ⟨2, ![1152, 1024]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S6912x1024, .f32⟩
  | .hbm, ⟨2, _⟩ => ⟨S1x1024, .f32⟩
  | .hbm, ⟨3, _⟩ => ⟨S6912x1024, .bf16⟩
  | .hbm, ⟨4, _⟩ => ⟨S2048x6912, .f32⟩
  | .hbm, ⟨5, _⟩ => ⟨S2048x1024, .bf16⟩
  | .hbm, ⟨6, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1152x1024, .bf16⟩
  | .local _ .vmem, ⟨3, _⟩ => ⟨S1152x1024, .bf16⟩
  | .local _ .vmem, ⟨4, _⟩ => ⟨S1x1024, .f32⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 6, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference8Ideal.lean ====
abbrev S2048x1024 : Shape := ⟨2, ![2048, 1024]⟩
abbrev S6912x1024 : Shape := ⟨2, ![6912, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x6912 : Shape := ⟨2, ![2048, 6912]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6912x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x6912, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel9.lean ====
abbrev S2048x1024 : Shape := ⟨2, ![2048, 1024]⟩
abbrev S1024x4096 : Shape := ⟨2, ![1024, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024x1024 : Shape := ⟨2, ![1024, 1024]⟩

abbrev nBuf : Space → Nat
  | .hbm => 24
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x4096, .bf16⟩
  | .hbm, ⟨20, _⟩ => ⟨S2048x4096, .bf16⟩
  | .hbm, ⟨21, _⟩ => ⟨S2048x4096, .bf16⟩
  | .hbm, ⟨22, _⟩ => ⟨S2048x4096, .f32⟩
  | .hbm, ⟨23, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S1024x4096 : Shape := ⟨2, ![1024, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel10.lean ====
abbrev S2048x4096 : Shape := ⟨2, ![2048, 4096]⟩
abbrev S2048x1024 : Shape := ⟨2, ![2048, 1024]⟩
abbrev S4096x1024 : Shape := ⟨2, ![4096, 1024]⟩
abbrev S_ : Shape := ⟨0, ![]⟩
abbrev S16x1024 : Shape := ⟨2, ![16, 1024]⟩
abbrev S1024x2048 : Shape := ⟨2, ![1024, 2048]⟩
abbrev S2048x512 : Shape := ⟨2, ![2048, 512]⟩
abbrev S1024x512 : Shape := ⟨2, ![1024, 512]⟩
abbrev S8x512 : Shape := ⟨2, ![8, 512]⟩
abbrev S512 : Shape := ⟨1, ![512]⟩
abbrev S1x512 : Shape := ⟨2, ![1, 512]⟩

abbrev nBuf : Space → Nat
  | .hbm => 18
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S4096x1024, .bf16⟩
  | .hbm, ⟨10, _⟩ => ⟨S2048x1024, .f32⟩
  | .hbm, ⟨11, _⟩ => ⟨S2048x1024, .bf16⟩
  | .hbm, ⟨12, _⟩ => ⟨S16x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x512, .f32⟩
  | .local _ .vmem, ⟨13, _⟩ => ⟨S8x512, .f32⟩
  | .local _ .vmem, ⟨14, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference10Ideal.lean ====
abbrev S2048x4096 : Shape := ⟨2, ![2048, 4096]⟩
abbrev S2048x1024 : Shape := ⟨2, ![2048, 1024]⟩
abbrev S4096x1024 : Shape := ⟨2, ![4096, 1024]⟩
abbrev S_ : Shape := ⟨0, ![]⟩
abbrev S2048 : Shape := ⟨1, ![2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x1024, .f32⟩
  | .hbm, ⟨32, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x512 : Shape := ⟨2, ![2048, 512]⟩
abbrev S512x1024 : Shape := ⟨2, ![512, 1024]⟩
abbrev S2048x6912 : Shape := ⟨2, ![2048, 6912]⟩
abbrev S2048x1024 : Shape := ⟨2, ![2048, 1024]⟩
abbrev S1024x1024 : Shape := ⟨2, ![1024, 1024]⟩
abbrev S256x512 : Shape := ⟨2, ![256, 512]⟩
abbrev S256x1024 : Shape := ⟨2, ![256, 1024]⟩
abbrev S256x3072 : Shape := ⟨2, ![256, 3072]⟩
abbrev S2048x3072 : Shape := ⟨2, ![2048, 3072]⟩

abbrev nBuf : Space → Nat
  | .hbm => 25
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S2048x6912, .f32⟩
  | .hbm, ⟨7, _⟩ => ⟨S2048x1024, .f32⟩
  | .hbm, ⟨8, _⟩ => ⟨S1024x1024, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S512x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S2048x6912, .bf16⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x3072, .bf16⟩
  | .hbm, ⟨24, _⟩ => ⟨S2048x3072, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S256x3072, .bf16⟩
  | .local _ .vmem, ⟨19, _⟩ => ⟨S256x3072, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v35 : BitVec 32 := Scalar.extui v0
  let c0_i32_24 : BitVec 32 := 0#32
  let v36 : BitVec 1 := Scalar.cmpi .ne v35 c0_i32_24
  v36

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v37 : BitVec 1 := Scalar.xori v0 v_true
  let v38 : BitVec 32 := Scalar.extui v37
  let c0_i32_25 : BitVec 32 := 0#32
  let v39 : BitVec 1 := Scalar.cmpi .ne v38 c0_i32_25
  v39

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v69 : BitVec 32 := Scalar.extui v0
  let c0_i32_46 : BitVec 32 := 0#32
  let v70 : BitVec 1 := Scalar.cmpi .ne v69 c0_i32_46
  v70

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v71 : BitVec 1 := Scalar.xori v0 true_47
  let v72 : BitVec 32 := Scalar.extui v71
  let c0_i32_48 : BitVec 32 := 0#32
  let v73 : BitVec 1 := Scalar.cmpi .ne v72 c0_i32_48
  v73

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_69 : BitVec 32 := 0#32
  let v104 : BitVec 1 := Scalar.cmpi .ne v103 c0_i32_69
  v104

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_70 : BitVec 1 := 1#1
  let v105 : BitVec 1 := Scalar.xori v0 true_70
  let v106 : BitVec 32 := Scalar.extui v105
  let c0_i32_71 : BitVec 32 := 0#32
  let v107 : BitVec 1 := Scalar.cmpi .ne v106 c0_i32_71
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference12Ideal.lean ====
abbrev S2048x512 : Shape := ⟨2, ![2048, 512]⟩
abbrev S512x1024 : Shape := ⟨2, ![512, 1024]⟩
abbrev S2048x6912 : Shape := ⟨2, ![2048, 6912]⟩
abbrev S2048x1024 : Shape := ⟨2, ![2048, 1024]⟩
abbrev S1024x1024 : Shape := ⟨2, ![1024, 1024]⟩
abbrev S2048x3072 : Shape := ⟨2, ![2048, 3072]⟩
abbrev S2048x3x1024 : Shape := ⟨3, ![2048, 3, 1024]⟩
abbrev S_ : Shape := ⟨0, ![]⟩
abbrev S2048x1x1024 : Shape := ⟨3, ![2048, 1, 1024]⟩
abbrev S1024x512 : Shape := ⟨2, ![1024, 512]⟩

abbrev nBuf : Space → Nat
  | .hbm => 67
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S2048x6912, .f32⟩
  | .hbm, ⟨7, _⟩ => ⟨S2048x1024, .f32⟩
  | .hbm, ⟨8, _⟩ => ⟨S1024x1024, .f32⟩
  | .hbm, ⟨9, _⟩ => ⟨S2048x3072, .f32⟩
  | .hbm, ⟨10, _⟩ => ⟨S2048x3x1024, .f32⟩
  | .hbm, ⟨11, _⟩ => ⟨S2048x3x1024, .f32⟩
  | .hbm, ⟨12, _⟩ => ⟨S2048x3x1024, .f32⟩
  | .hbm, ⟨13, _⟩ => ⟨S_, .f32⟩
  | .hbm, ⟨14, _⟩ => ⟨S2048x3x1024, .f32⟩
  | .hbm, ⟨15, _⟩ => ⟨S2048x3x1024, .f32⟩
  | .hbm, ⟨16, _⟩ => ⟨S_, .f32⟩
  | .hbm, ⟨17, _⟩ => ⟨S2048x3x1024, .f32⟩
  | .hbm, ⟨18, _⟩ => ⟨S2048x3x1024, .f32⟩
  | .hbm, ⟨19, _⟩ => ⟨S_, .f32⟩
  | .hbm, ⟨20, _⟩ => ⟨S2048x3x1024, .f32⟩
  | .hbm, ⟨21, _⟩ => ⟨S2048x3x1024, .f32⟩
  | .hbm, ⟨22, _⟩ => ⟨S2048x3x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1x1024, .f32⟩
  | .hbm, ⟨42, _⟩ => ⟨S_, .f32⟩
  | .hbm, ⟨43, _⟩ => ⟨S2048x3x1024, .f32⟩
  | .hbm, ⟨44, _⟩ => ⟨S2048x1024, .f32⟩
  | .hbm, ⟨45, _⟩ => ⟨S2048x1024, .f32⟩
  | .hbm, ⟨46, _⟩ => ⟨S2048x1x1024, .f32⟩
  | .hbm, ⟨47, _⟩ => ⟨S_, .f32⟩
  | .hbm, ⟨48, _⟩ => ⟨S2048x3x1024, .f32⟩
  | .hbm, ⟨49, _⟩ => ⟨S2048x3x1024, .f32⟩
  | .hbm, ⟨50, _⟩ => ⟨S2048x1024, .f32⟩
  | .hbm, ⟨51, _⟩ => ⟨S2048x1024, .f32⟩
  | .hbm, ⟨52, _⟩ => ⟨S2048x1x1024, .f32⟩
  | .hbm, ⟨53, _⟩ => ⟨S_, .f32⟩
  | .hbm, ⟨54, _⟩ => ⟨S2048x3x1024, .f32⟩
  | .hbm, ⟨55, _⟩ => ⟨S2048x3x1024, .f32⟩
  | .hbm, ⟨56, _⟩ => ⟨S1024x512, .f32⟩
  | .hbm, ⟨57, _⟩ => ⟨S512x1024, .f32⟩
  | .hbm, ⟨58, _⟩ => ⟨S2048x512, .f32⟩
  | .hbm, ⟨59, _⟩ => ⟨S1024x512, .f32⟩
  | .hbm, ⟨60, _⟩ => ⟨S512x1024, .f32⟩
  | .hbm, ⟨61, _⟩ => ⟨S2048x512, .f32⟩
  | .hbm, ⟨62, _⟩ => ⟨S1024x512, .f32⟩
  | .hbm, ⟨63, _⟩ => ⟨S512x1024, .f32⟩
  | .hbm, ⟨64, _⟩ => ⟨S2048x512, .f32⟩
  | .hbm, ⟨65, _⟩ => ⟨S2048x3x1024, .f32⟩
  | .hbm, ⟨66, _⟩ => ⟨S2048x3072, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel13.lean ====
abbrev S2048x512 : Shape := ⟨2, ![2048, 512]⟩
abbrev S512x1024 : Shape := ⟨2, ![512, 1024]⟩
abbrev S2048x6912 : Shape := ⟨2, ![2048, 6912]⟩
abbrev S2048x1024 : Shape := ⟨2, ![2048, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 25
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S2048x6912, .f32⟩
  | .hbm, ⟨7, _⟩ => ⟨S2048x1024, .f32⟩
  | .hbm, ⟨8, _⟩ => ⟨S1024x1024, .f32⟩
  | .hbm, ⟨9, _⟩ => ⟨S1x1024, .f32⟩
  | .hbm, ⟨10, _⟩ => ⟨S2048x512, .bf16⟩
  | .hbm, ⟨11, _⟩ => ⟨S2048x512, .bf16⟩
  | .hbm, ⟨12, _⟩ => ⟨S2048x512, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1024x1024, .bf16⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference13Ideal.lean ====
abbrev S2048x512 : Shape := ⟨2, ![2048, 512]⟩
abbrev S512x1024 : Shape := ⟨2, ![512, 1024]⟩
abbrev S2048x6912 : Shape := ⟨2, ![2048, 6912]⟩
abbrev S2048x1024 : Shape := ⟨2, ![2048, 1024]⟩
abbrev S1024x1024 : Shape := ⟨2, ![1024, 1024]⟩
abbrev S1x1024 : Shape := ⟨2, ![1, 1024]⟩
abbrev S2048x3072 : Shape := ⟨2, ![2048, 3072]⟩
abbrev S2048x3x1024 : Shape := ⟨3, ![2048, 3, 1024]⟩
abbrev S_ : Shape := ⟨0, ![]⟩
abbrev S2048x1x1024 : Shape := ⟨3, ![2048, 1, 1024]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S2048x6912, .f32⟩
  | .hbm, ⟨7, _⟩ => ⟨S2048x1024, .f32⟩
  | .hbm, ⟨8, _⟩ => ⟨S1024x1024, .f32⟩
  | .hbm, ⟨9, _⟩ => ⟨S1x1024, .f32⟩
  | .hbm, ⟨10, _⟩ => ⟨S2048x3072, .f32⟩
  | .hbm, ⟨11, _⟩ => ⟨S2048x3x1024, .f32⟩
  | .hbm, ⟨12, _⟩ => ⟨S2048x3x1024, .f32⟩
  | .hbm, ⟨13, _⟩ => ⟨S2048x3x1024, .f32⟩
  | .hbm, ⟨14, _⟩ => ⟨S_, .f32⟩
  | .hbm, ⟨15, _⟩ => ⟨S2048x3x1024, .f32⟩
  | .hbm, ⟨16, _⟩ => ⟨S2048x3x1024, .f32⟩
  | .hbm, ⟨17, _⟩ => ⟨S_, .f32⟩
  | .hbm, ⟨18, _⟩ => ⟨S2048x3x1024, .f32⟩
  | .hbm, ⟨19, _⟩ => ⟨S2048x3x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1x1024, .f32⟩
  | .hbm, ⟨24, _⟩ => ⟨S2048x1024, .f32⟩
  | .hbm, ⟨25, _⟩ => ⟨S2048x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Math.lean ====
/-
  The attention's backward pass over the real numbers, for one head: the queries' rows against the keys' rows in `Z`, the
  output's gradient against the values' rows in `D`. Indices are natural numbers, so that a block's rows are an interval.
-/
module

public import Idealize.ShloMosaic.Lib.IdealHost
public import Mathlib.Tactic.FieldSimp
public import Mathlib.Tactic.Positivity
public import Mathlib.Algebra.BigOperators.Intervals
public import Mathlib.Analysis.SpecialFunctions.Log.Basic

@[expose] public section

set_option maxRecDepth 16384

noncomputable section

namespace Cert.Sb

open Finset

/-- log (1 + exp x), the way that doesn't overflow. -/
def sp (x : ℝ) : ℝ := max x 0 + Real.log (1 + Real.exp (-|x|))

theorem exp_sp (x : ℝ) : Real.exp (sp x) = 1 + Real.exp x := by
  unfold sp
  have h : (0 : ℝ) < 1 + Real.exp (-|x|) := by positivity
  rw [Real.exp_add, Real.exp_log h]
  rcases le_total 0 x with hx | hx
  · rw [max_eq_left hx, abs_of_nonneg hx, mul_add, ← Real.exp_add]; simp; ring
  · rw [max_eq_right hx, abs_of_nonpos hx]; simp

theorem sp_eq (x : ℝ) : sp x = Real.log (1 + Real.exp x) := by rw [← exp_sp, Real.log_exp]

theorem sp_neg (x : ℝ) : sp (-x) = sp x - x := by
  apply Real.exp_injective
  rw [Real.exp_sub, exp_sp, exp_sp, Real.exp_neg]
  have := (Real.exp_pos x).ne'
  field_simp
  ring

/-- The two logistic factors add up to one. -/
theorem exp_neg_sp (x : ℝ) : Real.exp (-sp x) = 1 - Real.exp (x - sp x) := by
  have h : Real.exp (sp x) = 1 + Real.exp x := exp_sp x
  have hp : (0 : ℝ) < 1 + Real.exp x := by positivity
  rw [Real.exp_neg, Real.exp_sub, h]
  field_simp
  ring

/-- Below the diagonal the number, elsewhere zero. -/
def low (x : ℕ → ℕ → ℝ) (t s : ℕ) : ℝ := if s < t then x t s else 0

/-- The amounts of stick taken. -/
def gP (Z : ℕ → ℕ → ℝ) : ℕ → ℕ → ℝ := low fun t s => sp (Z t s)

/-- The attention weights of n keys. -/
def gW (n : ℕ) (Z : ℕ → ℕ → ℝ) : ℕ → ℕ → ℝ :=
  low fun t s => Real.exp (Z t s - sp (Z t s) - ∑ u ∈ Ico (s + 1) n, gP Z t u)

/-- The gradient of the weights times the weights. -/
def gG (n : ℕ) (Z D : ℕ → ℕ → ℝ) (t s : ℕ) : ℝ := D t s * gW n Z t s

/-- The gradient of the logits. -/
def gZ (n : ℕ) (Z D : ℕ → ℕ → ℝ) : ℕ → ℕ → ℝ :=
  low fun t s => gG n Z D t s - Real.exp (Z t s - sp (Z t s)) * (gG n Z D t s + ∑ u ∈ range s, gG n Z D t u)

theorem low_of_le (x : ℕ → ℕ → ℝ) {t s : ℕ} (h : t ≤ s) : low x t s = 0 := if_neg (by omega)
theorem low_of_lt (x : ℕ → ℕ → ℝ) {t s : ℕ} (h : s < t) : low x t s = x t s := if_pos h

theorem sum_fin (n : ℕ) (f : ℕ → ℝ) : ∑ k : Fin n, ((f k.val : ℝ) : EReal) = ((∑ k ∈ range n, f k : ℝ) : EReal) := by
  induction n with
  | zero => simp
  | succ n ih => rw [Fin.sum_univ_castSucc, Finset.sum_range_succ, EReal.coe_add, ← ih]; rfl

/-- A block's sum and what comes before it. -/
theorem sum_block (f : ℕ → ℝ) (j w : ℕ) : ∑ u ∈ range (w * (j + 1)), f u = ∑ u ∈ range (w * j), f u + ∑ c ∈ range w, f (w * j + c) := by
  rw [Nat.mul_succ, Finset.sum_range_add]

theorem sum_ico (f : ℕ → ℝ) (a w : ℕ) : ∑ u ∈ Ico a (a + w), f u = ∑ c ∈ range w, f (a + c) := by
  rw [Finset.sum_Ico_eq_sum_range, Nat.add_sub_cancel_left]

/-- Of n lanes, only those of the interval count. -/
theorem sum_lanes (f g : ℕ → ℝ) (a w n : ℕ) (h : a + w ≤ n) :
    ∑ l ∈ range n, (if a ≤ l ∧ l < a + w then f l else 0) * g l = ∑ d ∈ range w, f (a + d) * g (a + d) := by
  rw [← sum_ico (fun l => f l * g l), ← Finset.sum_subset (s₁ := Ico a (a + w))]
  · exact Finset.sum_congr rfl fun l hl => by rw [if_pos (Finset.mem_Ico.mp hl)]
  · intro l hl; have := Finset.mem_Ico.mp hl; exact Finset.mem_range.mpr (by omega)
  · intro l _ hl; rw [if_neg fun h => hl (Finset.mem_Ico.mpr h), zero_mul]

end Cert.Sb

end
-- ==== Proof.Tile.lean ====
/-
  One tile of the backward pass as the kernel's body computes it: the query block against one block of 512 keys, for
  one of the two heads that share the 128 lanes. Each step of the body has a name here, over any meaning of the floating
  point operations; `keep` is the identity off the diagonal and the strict lower triangle's mask on it.
-/
module

public import proofs.«01_k».proof.Proof.Gen.KernelIdeal.Frame

@[expose] public section

set_option maxRecDepth 16384

noncomputable section

namespace Cert.Sb.Tile

open Cert.KernelIdeal Cert.KernelIdeal.Gen Idealize.ShloMosaic Idealize.ShloMosaic.TcCoe Idealize.SL.Sem

variable {F : FTy → Type} [FloatOps F] [Named F]

/-- A square of 512 by 512 numbers. -/
abbrev Sq (F : FTy → Type) := FVec F S512x512 .f32
/-- A column of 512 numbers. -/
abbrev Col (F : FTy → Type) := FVec F S512x1 .f32
/-- 512 rows of the 128 lanes. -/
abbrev Rows (F : FTy → Type) := FVec F S512x128 .f32
/-- 512 rows of the 128 lanes, in the narrow format. -/
abbrev RowsB (F : FTy → Type) := FVec F S512x128 .bf16

/-- The square of zeros. -/
abbrev zeros : Sq F := broadcast S512x512 (Scalar.ofBits .f32 0x00000000#32 : F .f32)

/-- Row by row products: entry (t, s) is row t of `a` against row s of `b`. -/
def dotNT (a b : RowsB F) : Sq F :=
  matmul dot_S512x128_S512x128_S512x512_1_1_0_0_n_n none a b (constant S512x512 .f32 0x00000000#32)

/-- The square against rows. -/
def dotNN (x : Sq F) (b : RowsB F) : Rows F :=
  matmul dot_S512x512_S512x128_S512x128_1_0_0_1_n_n none (truncf .bf16 x bitsLt_bf16_f32) b (constant S512x128 .f32 0x00000000#32)

/-- The square's transpose against rows. -/
def dotTN (x : Sq F) (b : RowsB F) : Rows F :=
  matmul dot_S512x512_S512x128_S512x128_0_0_1_1_n_n none (truncf .bf16 x bitsLt_bf16_f32) b (constant S512x128 .f32 0x00000000#32)

/-- A block of 256 columns against a triangle of ones. -/
def dotTri (x : FVec F S512x256 .f32) (tri : FVec F S256x256 .bf16) : FVec F S512x256 .f32 :=
  matmul dot_S512x256_S256x256_S512x256_1_0_0_1_n_n none (truncf .bf16 x bitsLt_bf16_f32) tri (constant S512x256 .f32 0x00000000#32)

/-- log (1 + exp z), the way that doesn't overflow. -/
def softplus (z : Sq F) : Sq F :=
  addf (maximumf z zeros)
    (log (addf (broadcast S512x512 (Scalar.ofBits .f32 0x3F800000#32 : F .f32)) (exp (subf zeros (absf z)))))

/-- The left half of the columns. -/
def left (x : Sq F) : FVec F S512x256 .f32 := extractStridedSlice S512x256 ![0, 0] x slices_S512x512_o0_0_S512x256
/-- The right half of the columns. -/
def right (x : Sq F) : FVec F S512x256 .f32 := extractStridedSlice S512x256 ![0, 256] x slices_S512x512_o0_256_S512x256

/-- The sum of each row of a half. -/
def rowSum (x : FVec F S512x256 .f32) : Col F :=
  shapeCast S512x1 (multiReduction .add [1] S512 x 0x00000000#32 reduces_S512x256_S512 (.inl rfl) rfl) shapeCasts_S512_S512x1

/-- A column spread over a half. -/
abbrev spreadHalf (x : Col F) : FVec F S512x256 .f32 := broadcastTo S512x256 x broadcasts_S512x1_S512x256
/-- A column spread over the square. -/
abbrev spread (x : Col F) : Sq F := broadcastTo S512x512 x broadcasts_S512x1_S512x512

/-- The two halves side by side. -/
def sideBySide (a b : FVec F S512x256 .f32) : Sq F :=
  concatenate S512x512 1 [⟨S512x256, a⟩, ⟨S512x256, b⟩] concatenates_S512x256_S512x256_S512x512_d1

/-- Per row, the sum of the later columns. -/
def scanAfter (x : Sq F) (tri : FVec F S256x256 .bf16) : Sq F :=
  sideBySide (addf (dotTri (left x) tri) (spreadHalf (rowSum (right x)))) (dotTri (right x) tri)
/-- The row sums, in the order of the scan from the right. -/
def totalAfter (x : Sq F) : Col F := addf (rowSum (right x)) (rowSum (left x))
/-- Per row, the sum of the earlier columns. -/
def scanBefore (x : Sq F) (tri : FVec F S256x256 .bf16) : Sq F :=
  sideBySide (dotTri (left x) tri) (addf (dotTri (right x) tri) (spreadHalf (rowSum (left x))))
/-- The row sums, in the order of the scan from the left. -/
def totalBefore (x : Sq F) : Col F := addf (rowSum (left x)) (rowSum (right x))

/-- The strict lower triangle of the square. -/
def onDiag (x : Sq F) : Sq F := select k0_pay94 x zeros

section Step

variable (keep : Sq F → Sq F)

/-- The carried sum of `softplus` after the tile. -/
def posNext (z : Sq F) (cpos : Col F) : Col F := addf cpos (totalAfter (keep (softplus z)))

/-- The attention weights of the tile. -/
def weight (z : Sq F) (rest cpos : Col F) (later : FVec F S256x256 .bf16) : Sq F :=
  keep (exp (subf (subf z (softplus z))
    (addf (scanAfter (keep (softplus z)) later) (spread (subf rest (posNext keep z cpos))))))

/-- The gradient of the weights times the weights. -/
def gOf (dov vv : RowsB F) (w : Sq F) : Sq F := mulf (dotNT dov vv) w

/-- The carried sum of `gOf` after the tile. -/
def gNext (g : Sq F) (cg : Col F) : Col F := addf cg (totalBefore g)

/-- The gradient of the logits. -/
def dLogits (z g : Sq F) (cg : Col F) (before : FVec F S256x256 .bf16) : Sq F :=
  keep (subf g (mulf (exp (subf z (softplus z))) (addf g (addf (scanBefore g before) (spread cg)))))

end Step

/-- What a query block brings to its tiles, for one head: the scaled queries, the output's gradient (both zero off the
    head's lanes) and the sum of `softplus` over all the keys. -/
structure Block (F : FTy → Type) where
  q : RowsB F
  d : RowsB F
  rest : Col F

/-- What is carried from tile to tile, for one head: the gradient of the queries and the two sums. -/
abbrev Carry (F : FTy → Type) := Rows F × Col F × Col F

/-- The weights of one head's tile. -/
def headW (keep : Sq F → Sq F) (b : Block F) (kv : RowsB F) (s : Carry F) : Sq F :=
  weight keep (dotNT b.q kv) b.rest s.2.1 k0_pay95

/-- `gOf` of one head's tile. -/
def headG (keep : Sq F → Sq F) (b : Block F) (kv vv : RowsB F) (s : Carry F) : Sq F :=
  gOf b.d vv (headW keep b kv s)

/-- The gradient of the logits of one head's tile. -/
def headZ (keep : Sq F → Sq F) (b : Block F) (kv vv : RowsB F) (s : Carry F) : Sq F :=
  dLogits keep (dotNT b.q kv) (headG keep b kv vv s) s.2.2 k0_pay96

/-- What one head carries after the tile. -/
def headNext (keep : Sq F → Sq F) (b : Block F) (kv vv : RowsB F) (s : Carry F) : Carry F :=
  (addf s.1 (dotNN (headZ keep b kv vv s) kv), posNext keep (dotNT b.q kv) s.2.1, gNext (headG keep b kv vv s) s.2.2)

/-- What the tile adds to the keys' gradient. -/
def tileK (keep : Sq F → Sq F) (b b' : Block F) (kv vv : RowsB F) (s s' : Carry F) : Rows F :=
  addf (dotTN (headZ keep b kv vv s) b.q) (dotTN (headZ keep b' kv vv s') b'.q)

/-- What the tile adds to the values' gradient. -/
def tileV (keep : Sq F → Sq F) (b b' : Block F) (kv : RowsB F) (s s' : Carry F) : Rows F :=
  addf (dotTN (headW keep b kv s) b.d) (dotTN (headW keep b' kv s') b'.d)

/-- Six carried values as two heads' threes. -/
abbrev fst3 (a : Rows F × Col F × Col F × Rows F × Col F × Col F) : Carry F := (a.1, a.2.1, a.2.2.1)
/-- The second head's three. -/
abbrev snd3 (a : Rows F × Col F × Col F × Rows F × Col F × Col F) : Carry F := a.2.2.2
/-- Two threes as six. -/
abbrev both (s s' : Carry F) : Rows F × Col F × Col F × Rows F × Col F × Col F := (s.1, s.2.1, s.2.2, s'.1, s'.2.1, s'.2.2)

end Cert.Sb.Tile

end
-- ==== Proof.Trip.lean ====
/-
  What the generated run of the kernel's body leaves, in the names of the tile: one trip of the loop over the earlier
  key blocks.
-/
module

public import proofs.«01_k».proof.Proof.Tile

@[expose] public section

set_option maxRecDepth 16384

noncomputable section

namespace Cert.Sb

open Cert.KernelIdeal Cert.KernelIdeal.Gen Idealize.ShloMosaic Idealize.ShloMosaic.TcCoe Idealize.SL.Sem Cert.Sb.Tile

variable {F : FTy → Type} [FloatOps F] [Named F]

/-- The rectangle of the key block a trip reads and adds to. -/
abbrev rectAt (i : grid0.Coords) (k : Fin (k0_t1_loop i).trips) : Rect S2048x128 :=
  Rect.unit (s := S2048x128) (k0_off1 i k) S512x128.size (k0_off1_inb i k)

/-- The key block a trip reads, in the narrow format. -/
abbrev blockAt (X : Vec F S2048x128 .f32) (i : grid0.Coords) (k : Fin (k0_t1_loop i).trips) : RowsB F :=
  truncf .bf16 (View.ld X (rectAt i k)) bitsLt_bf16_f32

section
variable (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S2048x128 .f32) (harg9 : arg9.IsWhole) (arg1 : BitVec 32) (v13 : IVec S512x128 1) (v19 : FVec F S512x128 .bf16) (v22 : FVec F S512x128 .bf16) (v26 : FVec F S512x128 .bf16) (v30 : FVec F S512x128 .bf16) (v35 : FVec F S512 .f32) (v39 : Vec F S512x128 .f32) (X_arg3 : BufTy.Contents (Elt F) arg3.view.ty) (X_arg4 : BufTy.Contents (Elt F) arg4.view.ty) (k : Fin (k0_t1_loop i).trips) (acc : FVec F S512x128 .f32 × FVec F S512x1 .f32 × FVec F S512x1 .f32 × FVec F S512x128 .f32 × FVec F S512x1 .f32 × FVec F S512x1 .f32) (f_arg8 : BufTy.Contents (Elt F) arg8.view.ty) (f_arg9 : BufTy.Contents (Elt F) arg9.view.ty)

/-- What a trip yields: each head's carried values after the tile. -/
theorem trip_yield :
    tripR_k0_t1 (F := F) 𝒱 c bd i arg2 harg2 arg3 harg3 arg4 harg4 arg5 harg5 arg6 harg6 arg7 harg7 arg8 harg8 arg9 harg9 arg1 v13 v19 v22 v26 v30 v35 v39 X_arg3 X_arg4 k acc f_arg8 f_arg9
      = both (headNext id ⟨v19, v26, k0_pay92 v35⟩ (blockAt (arg3.view.read (Elt F) X_arg3) i k) (blockAt (arg4.view.read (Elt F) X_arg4) i k) (fst3 acc))
          (headNext id ⟨v22, v30, k0_pay93 v13 v39⟩ (blockAt (arg3.view.read (Elt F) X_arg3) i k) (blockAt (arg4.view.read (Elt F) X_arg4) i k) (snd3 acc)) := by
  unfold tripR_k0_t1 trip_k0_t1
  rfl

/-- What a trip writes: the tile's gradients added to the block's rows of the two outputs. -/
theorem trip_pieces :
    tripL_k0_t1 (F := F) 𝒱 c bd i arg2 harg2 arg3 harg3 arg4 harg4 arg5 harg5 arg6 harg6 arg7 harg7 arg8 harg8 arg9 harg9 arg1 v13 v19 v22 v26 v30 v35 v39 X_arg3 X_arg4 k acc f_arg8 f_arg9
      = ([⟨rectAt i k, addf (shapeCast S512x128 (View.ld (arg8.view.read (Elt F) f_arg8) (rectAt i k)) shapeCasts_S512x128_S512x128)
            (tileK id ⟨v19, v26, k0_pay92 v35⟩ ⟨v22, v30, k0_pay93 v13 v39⟩ (blockAt (arg3.view.read (Elt F) X_arg3) i k) (blockAt (arg4.view.read (Elt F) X_arg4) i k) (fst3 acc) (snd3 acc))⟩],
         [⟨rectAt i k, addf (shapeCast S512x128 (View.ld (arg9.view.read (Elt F) f_arg9) (rectAt i k)) shapeCasts_S512x128_S512x128)
            (tileV id ⟨v19, v26, k0_pay92 v35⟩ ⟨v22, v30, k0_pay93 v13 v39⟩ (blockAt (arg3.view.read (Elt F) X_arg3) i k) (fst3 acc) (snd3 acc))⟩]) := by
  unfold tripL_k0_t1 trip_k0_t1
  rfl

end

end Cert.Sb

end
-- ==== Proof.Run.lean ====
/-
  What the body leaves in the three outputs' staging buffers at a grid point, in the names of the tile: the carried
  values go through the earlier key blocks and then the diagonal one, and each block's rows of the keys' and the values'
  gradients gain the tile's part.
-/
module

public import proofs.«01_k».proof.Proof.Trip
public import Idealize.ShloMosaic.Lib.WritesUnit
public import Idealize.ShloMosaic.Lib.ValueIdx
public import Idealize.ShloMosaic.Lib.LoopRemainder
public import Idealize.ShloMosaic.Lib.Pipeline.Value
public import Idealize.ShloMosaic.Lib.Pipeline.ValueKit.Geometry

@[expose] public section

set_option maxRecDepth 16384

noncomputable section

namespace Cert.Sb

open Idealize.ShloMosaic.ValueIdx (ix2)
open Cert.KernelIdeal Cert.KernelIdeal.Gen Idealize.ShloMosaic Idealize.ShloMosaic.TcCoe Idealize.SL.Sem Cert.Sb.Tile

variable {F : FTy → Type} [FloatOps F] [Named F]

theorem hz : (![0, 0] : Fin 2 → Nat) = fun _ => 0 := funext fun a => by fin_cases a <;> rfl

/-- Row r, lane l of the whole array. -/
abbrev at2 (r l : ℕ) (hr : r < 2048) (hl : l < 128) : S2048x128.Idx := ix2 (n0 := 2048) (n1 := 128) ⟨r, hr⟩ ⟨l, hl⟩

/-- Block j of 512 rows of an array of 2048. -/
def rowsOf (X : Vec F S2048x128 .f32) (j : ℕ) : Vec F S512x128 .f32 :=
  fun y => X (at2 ((512 * j + (y 0).val) % 2048) (y 1).val (Nat.mod_lt _ (by decide)) (y 1).isLt)

/-- The array with `t` added to the rows of block j. -/
def addRows (X : Vec F S2048x128 .f32) (j : ℕ) (t : Vec F S512x128 .f32) : Vec F S2048x128 .f32 :=
  fun y => if h : 512 * j ≤ (y 0).val ∧ (y 0).val < 512 * j + 512 then
    FloatOps.addf (X y) (t (ix2 (n0 := 512) (n1 := 128) ⟨(y 0).val - 512 * j, by omega⟩ (y 1))) else X y

theorem ld_rows (X : Vec F S2048x128 .f32) {off : Fin 2 → ℕ} (j : ℕ) (hj : j < 4) (inb : ∀ a, off a + S512x128.size a ≤ S2048x128.size a)
    (ho : off = ![512 * j, 0]) : View.ld X (Rect.unit (s := S2048x128) off S512x128.size inb) = rowsOf X j := by
  subst ho
  funext y
  unfold View.ld rowsOf
  have hy : (y 0).val < 512 := (y 0).isLt
  refine congrArg X (funext fun a => Fin.ext ?_)
  refine (ValueKit.rect_emb_unit_val _ _ _ _ _).trans ?_
  match a with
  | ⟨0, _⟩ => exact (Nat.mod_eq_of_lt (by omega : 512 * j + (y 0).val < 2048)).symm
  | ⟨1, _⟩ => exact Nat.zero_add _

/-- A store of a block's rows with `t` added to what was read there. -/
theorem read_add {sig' : RefSig} {κ : Kind} {sp : Space} (v : View sig' κ sp S2048x128 .f32) (f : v.ty.Contents (Elt F)) (L : List (View.Piece (Elt F) S2048x128 .f32))
    {off : Fin 2 → ℕ} (j : ℕ) (hj : j < 4) (inb : ∀ a, off a + S512x128.size a ≤ S2048x128.size a) (ho : off = ![512 * j, 0])
    (X : Vec F S2048x128 .f32) (hX : v.read (Elt F) (v.writes (Elt F) f L) = X) (t : FVec F S512x128 .f32) :
    v.read (Elt F) (v.writes (Elt F) f (⟨Rect.unit (s := S2048x128) off S512x128.size inb,
      addf (shapeCast S512x128 (View.ld X (Rect.unit (s := S2048x128) off S512x128.size inb)) shapeCasts_S512x128_S512x128) t⟩ :: L)) = addRows X j t := by
  rw [ld_rows X j hj inb ho, show shapeCast S512x128 (rowsOf X j) shapeCasts_S512x128_S512x128 = rowsOf X j from shapeCast_self _ _]
  funext y
  have hy0 : (y 0).val < 2048 := (y 0).isLt
  unfold addRows
  by_cases h : 512 * j ≤ (y 0).val ∧ (y 0).val < 512 * j + 512
  · rw [dif_pos h]
    refine (View.read_writes_cons_rows_of_mem v f inb _ L y (ix2 (n0 := 512) (n1 := 128) ⟨(y 0).val - 512 * j, by omega⟩ (y 1)) ho
      (by show (y 0).val = 512 * j + ((y 0).val - 512 * j); omega) rfl).trans ?_
    refine congrArg (fun q => FloatOps.addf q _) ?_
    unfold rowsOf
    refine congrArg X (funext fun a => Fin.ext ?_)
    match a with
    | ⟨0, _⟩ =>
      show (512 * j + ((y 0).val - 512 * j)) % 2048 = (y 0).val
      rw [Nat.add_sub_cancel' h.1]; exact Nat.mod_eq_of_lt hy0
    | ⟨1, _⟩ => rfl
  · rw [dif_neg h]
    refine (View.read_writes_cons_rows_of_not_mem (W := 512) v f inb _ L y ho rfl (by omega)).trans ?_
    rw [hX]

/-- What is carried at the start. -/
abbrev start : Carry F := (k0_pay98, k0_pay97, k0_pay97)

/-- Block j of the keys or values, in the narrow format. -/
abbrev blk (X : Vec F S2048x128 .f32) (j : ℕ) : RowsB F := truncf .bf16 (rowsOf X j) bitsLt_bf16_f32

/-- What one head carries before key block j. -/
def carried (b : Block F) (K V : Vec F S2048x128 .f32) : ℕ → Carry F
  | 0 => start
  | j + 1 => headNext id b (blk K j) (blk V j) (carried b K V j)

/-- The keys' gradient before key block j. -/
def keysAt (b b' : Block F) (K V : Vec F S2048x128 .f32) (X : Vec F S2048x128 .f32) : ℕ → Vec F S2048x128 .f32
  | 0 => X
  | j + 1 => addRows (keysAt b b' K V X j) j (tileK id b b' (blk K j) (blk V j) (carried b K V j) (carried b' K V j))

/-- The values' gradient before key block j. -/
def valsAt (b b' : Block F) (K V : Vec F S2048x128 .f32) (X : Vec F S2048x128 .f32) : ℕ → Vec F S2048x128 .f32
  | 0 => X
  | j + 1 => addRows (valsAt b b' K V X j) j (tileV id b b' (blk K j) (carried b K V j) (carried b' K V j))

/-- The keys' gradient after query block n. -/
def keysOut (b b' : Block F) (K V X : Vec F S2048x128 .f32) (n : ℕ) : Vec F S2048x128 .f32 :=
  addRows (keysAt b b' K V X n) n (tileK onDiag b b' (blk K n) (blk V n) (carried b K V n) (carried b' K V n))

/-- The values' gradient after query block n. -/
def valsOut (b b' : Block F) (K V X : Vec F S2048x128 .f32) (n : ℕ) : Vec F S2048x128 .f32 :=
  addRows (valsAt b b' K V X n) n (tileV onDiag b b' (blk K n) (carried b K V n) (carried b' K V n))

/-- The queries' gradient of query block n. -/
def queriesOut (b b' : Block F) (K V : Vec F S2048x128 .f32) (n : ℕ) : Vec F S512x128 .f32 :=
  k0_pay1 k0_pay84 (headNext onDiag b (blk K n) (blk V n) (carried b K V n)).1
    (headNext onDiag b' (blk K n) (blk V n) (carried b' K V n)).1

/-- The first head's block. -/
abbrev blockA (q d t : Vec F S512x128 .f32) : Block F := ⟨k0_pay87 q, k0_pay89 d, k0_pay92 (k0_pay91 t)⟩
/-- The second head's block. -/
abbrev blockB (q d t : Vec F S512x128 .f32) : Block F := ⟨k0_pay88 q, k0_pay90 d, k0_pay93 k0_pay85 t⟩

theorem trips1 : ∀ i : grid0.Coords, (k0_t1_loop i).trips = (i 1).val := by decide +kernel
theorem lt4 (i : grid0.Coords) : (i 1).val < 4 := (i 1).isLt

section
variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S2048x128 .f32) (harg9 : arg9.IsWhole)
variable (q d t : Vec F S512x128 .f32) (X3 : BufTy.Contents (Elt F) arg3.view.ty) (X4 : BufTy.Contents (Elt F) arg4.view.ty)
  (G8 : BufTy.Contents (Elt F) arg8.view.ty) (G9 : BufTy.Contents (Elt F) arg9.view.ty)

/-- The generated state before trip n of the loop over the earlier blocks. -/
abbrev state1 (n : ℕ) :=
  st_k0_t1 (F := F) Variants.none c none i arg2 harg2 arg3 harg3 arg4 harg4 arg5 harg5 arg6 harg6 arg7 harg7 arg8 harg8 arg9 harg9 (BitVec.ofNat 32 (i 1).val) k0_pay85 (k0_pay87 q) (k0_pay88 q) (k0_pay89 d) (k0_pay90 d) (k0_pay91 t) t X3 X4 G8 G9 (k0_pay98, k0_pay97, k0_pay97, k0_pay98, k0_pay97, k0_pay97) n

theorem state1_eq (K V x8 x9 : Vec F S2048x128 .f32) (hK : arg3.view.read (Elt F) X3 = K) (hV : arg4.view.read (Elt F) X4 = V)
    (h8 : arg8.view.read (Elt F) G8 = x8) (h9 : arg9.view.read (Elt F) G9 = x9) : ∀ n : ℕ, n ≤ (k0_t1_loop i).trips →
    (state1 c i arg2 harg2 arg3 harg3 arg4 harg4 arg5 harg5 arg6 harg6 arg7 harg7 arg8 harg8 arg9 harg9 q d t X3 X4 G8 G9 n).1 = both (carried (blockA q d t) K V n) (carried (blockB q d t) K V n)
    ∧ arg8.view.read (Elt F) (arg8.view.writes (Elt F) G8 (state1 c i arg2 harg2 arg3 harg3 arg4 harg4 arg5 harg5 arg6 harg6 arg7 harg7 arg8 harg8 arg9 harg9 q d t X3 X4 G8 G9 n).2.1) = keysAt (blockA q d t) (blockB q d t) K V x8 n
    ∧ arg9.view.read (Elt F) (arg9.view.writes (Elt F) G9 (state1 c i arg2 harg2 arg3 harg3 arg4 harg4 arg5 harg5 arg6 harg6 arg7 harg7 arg8 harg8 arg9 harg9 q d t X3 X4 G8 G9 n).2.2) = valsAt (blockA q d t) (blockB q d t) K V x9 n
  | 0, _ => ⟨rfl, h8, h9⟩
  | n + 1, hn => by
    obtain ⟨e1, e8, e9⟩ := state1_eq K V x8 x9 hK hV h8 h9 n (Nat.le_of_succ_le hn)
    have hn4 : n < 4 := by have := trips1 i; have := lt4 i; omega
    have ho := k0_off1_eq i ⟨n, hn⟩
    rw [show state1 c i arg2 harg2 arg3 harg3 arg4 harg4 arg5 harg5 arg6 harg6 arg7 harg7 arg8 harg8 arg9 harg9 q d t X3 X4 G8 G9 (n + 1) = _ from st_k0_t1_succ (F := F) Variants.none c none i arg2 harg2 arg3 harg3 arg4 harg4 arg5 harg5 arg6 harg6 arg7 harg7 arg8 harg8 arg9 harg9 (BitVec.ofNat 32 (i 1).val) k0_pay85 (k0_pay87 q) (k0_pay88 q) (k0_pay89 d) (k0_pay90 d) (k0_pay91 t) t X3 X4 G8 G9 (k0_pay98, k0_pay97, k0_pay97, k0_pay98, k0_pay97, k0_pay97) ⟨n, hn⟩]
    rw [trip_yield, trip_pieces]
    have eK : blockAt (arg3.view.read (Elt F) X3) i ⟨n, hn⟩ = blk K n := by rw [hK]; exact congrArg (fun x => truncf .bf16 x bitsLt_bf16_f32) (ld_rows K n hn4 _ ho)
    have eV : blockAt (arg4.view.read (Elt F) X4) i ⟨n, hn⟩ = blk V n := by rw [hV]; exact congrArg (fun x => truncf .bf16 x bitsLt_bf16_f32) (ld_rows V n hn4 _ ho)
    simp only [eK, eV, e1]
    refine ⟨rfl, ?_, ?_⟩
    · rw [List.singleton_append]
      have := read_add arg8.view G8 _ n hn4 (k0_off1_inb i ⟨n, hn⟩) ho _ e8
        (tileK id (blockA q d t) (blockB q d t) (blk K n) (blk V n) (carried (blockA q d t) K V n) (carried (blockB q d t) K V n))
      rw [← e8] at this
      exact this.trans (by rw [e8]; rfl)
    · rw [List.singleton_append]
      have := read_add arg9.view G9 _ n hn4 (k0_off1_inb i ⟨n, hn⟩) ho _ e9
        (tileV id (blockA q d t) (blockB q d t) (blk K n) (carried (blockA q d t) K V n) (carried (blockB q d t) K V n))
      rw [← e9] at this
      exact this.trans (by rw [e9]; rfl)

end

end Cert.Sb

end
-- ==== Proof.Ops.lean ====
/-
  The tile's operations on real numbers.
-/
module

public import proofs.«01_k».proof.Proof.Run
public import proofs.«01_k».proof.Proof.Math
public import Idealize.ShloMosaic.Lib.Pointwise
public import Idealize.ShloMosaic.Lib.WordCmp
public import Idealize.ShloMosaic.Lib.IdealHost

@[expose] public section

set_option maxRecDepth 16384

noncomputable section

namespace Cert.Sb

open Finset Idealize.ShloMosaic.WordCmp
open Cert.KernelIdeal Cert.KernelIdeal.Gen Idealize.ShloMosaic Idealize.ShloMosaic.TcCoe Idealize.SL.Sem Cert.Sb.Tile

/-- The square at query block n and key block j. -/
def sq (f : ℕ → ℕ → ℝ) (n j : ℕ) : Sq Ideal := fun y => ((f (512 * n + (y 0).val) (512 * j + (y 1).val) : ℝ) : EReal)
/-- The rows of block n. -/
def rws (f : ℕ → ℕ → ℝ) (n : ℕ) : Rows Ideal := fun y => ((f (512 * n + (y 0).val) (y 1).val : ℝ) : EReal)
/-- The rows of block n, in the narrow format. -/
def rwsB (f : ℕ → ℕ → ℝ) (n : ℕ) : RowsB Ideal := fun y => ((f (512 * n + (y 0).val) (y 1).val : ℝ) : EReal)
/-- The column of block n. -/
def cl (f : ℕ → ℝ) (n : ℕ) : Col Ideal := fun y => ((f (512 * n + (y 0).val) : ℝ) : EReal)

theorem word_slt (a b : ℕ) (ha : a < 2 ^ 31) (hb : b < 2 ^ 31) :
    IntOp.cmpi .slt (BitVec.ofNat 32 a) (BitVec.ofNat 32 b) = if a < b then 1#1 else 0#1 := by
  rw [cmpi_slt_ofNat ha hb]; by_cases h : a < b <;> simp [h]

theorem word_sge (a b : ℕ) (ha : a < 2 ^ 31) (hb : b < 2 ^ 31) :
    IntOp.cmpi .sge (BitVec.ofNat 32 a) (BitVec.ofNat 32 b) = if b ≤ a then 1#1 else 0#1 := by
  rw [cmpi_sge_ofNat ha hb]; by_cases h : b ≤ a <;> simp [h]

theorem word_sgt (a b : ℕ) (ha : a < 2 ^ 31) (hb : b < 2 ^ 31) :
    IntOp.cmpi .sgt (BitVec.ofNat 32 a) (BitVec.ofNat 32 b) = if b < a then 1#1 else 0#1 := by
  rw [cmpi_sgt_ofNat ha hb]; by_cases h : b < a <;> simp [h]

theorem dotNT_eq (a b : ℕ → ℕ → ℝ) (n j : ℕ) :
    dotNT (rwsB a n) (rwsB b j) = sq (fun t s => ∑ l ∈ range 128, a t l * b s l) n j := by
  funext y
  unfold dotNT
  pointwise
  unfold sq
  rw [← sum_fin]
  refine Finset.sum_congr rfl fun k _ => ?_
  exact (EReal.coe_mul _ _).symm

theorem dotNN_eq (x b : ℕ → ℕ → ℝ) (n j : ℕ) :
    dotNN (sq x n j) (rwsB b j) = rws (fun t l => ∑ c ∈ range 512, x t (512 * j + c) * b (512 * j + c) l) n := by
  funext y
  unfold dotNN
  pointwise
  unfold rws
  rw [← sum_fin]
  refine Finset.sum_congr rfl fun k _ => ?_
  exact (EReal.coe_mul _ _).symm

theorem dotTN_eq (x a : ℕ → ℕ → ℝ) (n j : ℕ) :
    dotTN (sq x n j) (rwsB a n) = rws (fun s l => ∑ r ∈ range 512, x (512 * n + r) s * a (512 * n + r) l) j := by
  funext y
  unfold dotTN
  pointwise
  unfold rws
  rw [← sum_fin]
  refine Finset.sum_congr rfl fun k _ => ?_
  exact (EReal.coe_mul _ _).symm

/-- `max z 0 + log (1 + exp (-|z|))` of a real number. -/
theorem softplus_coe (z : ℝ) : max (z : EReal) 0 + Ideal.log (1 + Ideal.exp (0 - max (z : EReal) (-(z : EReal)))) = ((sp z : ℝ) : EReal) := by
  have h1 : max (z : EReal) 0 = ((max z 0 : ℝ) : EReal) := by
    rw [← EReal.coe_zero]; exact (EReal.coe_strictMono.monotone.map_max).symm
  have h2 : max (z : EReal) (-(z : EReal)) = ((|z| : ℝ) : EReal) := by
    rw [← EReal.coe_neg]; exact (EReal.coe_strictMono.monotone.map_max).symm
  have h3 : (0 : EReal) - ((|z| : ℝ) : EReal) = ((-|z| : ℝ) : EReal) := by
    rw [zero_sub, EReal.coe_neg]
  have hp : ¬ (1 + Real.exp (-|z|) ≤ 0) := by have := Real.exp_pos (-|z|); linarith
  rw [h1, h2, h3, Ideal.exp_coe, ← EReal.coe_one, ← EReal.coe_add, Ideal.log_coe, if_neg hp, ← EReal.coe_add]
  rfl

theorem softplus_eq (z : ℕ → ℕ → ℝ) (n j : ℕ) : softplus (sq z n j) = sq (fun t s => sp (z t s)) n j := by
  funext y
  unfold softplus
  pointwise
  exact softplus_coe _

theorem rowSum_left (x : ℕ → ℕ → ℝ) (n j : ℕ) : rowSum (left (sq x n j)) = cl (fun t => ∑ c ∈ range 256, x t (512 * j + c)) n := by
  funext y
  unfold rowSum left
  pointwise
  unfold cl
  rw [← sum_fin]
  rfl

theorem rowSum_right (x : ℕ → ℕ → ℝ) (n j : ℕ) : rowSum (right (sq x n j)) = cl (fun t => ∑ c ∈ range 256, x t (512 * j + (256 + c))) n := by
  funext y
  unfold rowSum right
  pointwise
  unfold cl
  rw [← sum_fin]
  rfl

theorem addCl (f g : ℕ → ℝ) (n : ℕ) : addf (cl f n) (cl g n) = cl (fun t => f t + g t) n := funext fun _ => (EReal.coe_add _ _).symm
theorem subCl (f g : ℕ → ℝ) (n : ℕ) : subf (cl f n) (cl g n) = cl (fun t => f t - g t) n := funext fun _ => (EReal.coe_sub _ _).symm
theorem addSq (f g : ℕ → ℕ → ℝ) (n j : ℕ) : addf (sq f n j) (sq g n j) = sq (fun t s => f t s + g t s) n j := funext fun _ => (EReal.coe_add _ _).symm
theorem subSq (f g : ℕ → ℕ → ℝ) (n j : ℕ) : subf (sq f n j) (sq g n j) = sq (fun t s => f t s - g t s) n j := funext fun _ => (EReal.coe_sub _ _).symm
theorem mulSq (f g : ℕ → ℕ → ℝ) (n j : ℕ) : mulf (sq f n j) (sq g n j) = sq (fun t s => f t s * g t s) n j := funext fun _ => (EReal.coe_mul _ _).symm
theorem expSq (f : ℕ → ℕ → ℝ) (n j : ℕ) : exp (sq f n j) = sq (fun t s => Real.exp (f t s)) n j := rfl
theorem addRws (f g : ℕ → ℕ → ℝ) (n : ℕ) : addf (rws f n) (rws g n) = rws (fun t s => f t s + g t s) n := funext fun _ => (EReal.coe_add _ _).symm
theorem spread_eq (f : ℕ → ℝ) (n j : ℕ) : spread (cl f n) = sq (fun t _ => f t) n j := by
  funext y
  unfold spread
  pointwise
  rfl

theorem totalBefore_eq (x : ℕ → ℕ → ℝ) (n j : ℕ) : totalBefore (sq x n j) = cl (fun t => ∑ c ∈ range 512, x t (512 * j + c)) n := by
  unfold totalBefore
  rw [rowSum_left, rowSum_right, addCl]
  refine congrArg (fun f => cl f n) (funext fun t => ?_)
  rw [show 512 = 256 + 256 from rfl, Finset.sum_range_add]

theorem totalAfter_eq (x : ℕ → ℕ → ℝ) (n j : ℕ) : totalAfter (sq x n j) = cl (fun t => ∑ c ∈ range 512, x t (512 * j + c)) n := by
  unfold totalAfter
  rw [rowSum_left, rowSum_right, addCl]
  refine congrArg (fun f => cl f n) (funext fun t => ?_)
  rw [show 512 = 256 + 256 from rfl, Finset.sum_range_add, add_comm]

theorem later_eq (y : S256x256.Idx) : k0_pay95 (F := Ideal) y = (((if (y 1).val < (y 0).val then 1 else 0 : ℝ)) : EReal) := by
  unfold k0_pay95
  pointwise
  have h0 : (y 0).val < 256 := (y 0).isLt
  have h1 : (y 1).val < 256 := (y 1).isLt
  rw [word_sgt _ _ (by omega) (by omega)]
  by_cases h : (y 1).val < (y 0).val
  · rw [if_pos h, if_pos h]; show (((_ : ℤ) : ℝ) : EReal) = _; norm_num
  · rw [if_neg h, if_neg h]; show (((_ : ℤ) : ℝ) : EReal) = _; norm_num

theorem before_eq (y : S256x256.Idx) : k0_pay96 (F := Ideal) y = (((if (y 0).val < (y 1).val then 1 else 0 : ℝ)) : EReal) := by
  unfold k0_pay96
  pointwise
  have h0 : (y 0).val < 256 := (y 0).isLt
  have h1 : (y 1).val < 256 := (y 1).isLt
  rw [word_slt _ _ (by omega) (by omega)]
  by_cases h : (y 0).val < (y 1).val
  · rw [if_pos h, if_pos h]; show (((_ : ℤ) : ℝ) : EReal) = _; norm_num
  · rw [if_neg h, if_neg h]; show (((_ : ℤ) : ℝ) : EReal) = _; norm_num

/-- A sum with a triangle's column for factor: the later indices. -/
theorem tri_later (f : ℕ → ℝ) (c n : ℕ) : ∑ k ∈ range n, f k * (if c < k then 1 else 0) = ∑ k ∈ Ico (c + 1) n, f k := by
  rw [← Finset.sum_subset (s₁ := Ico (c + 1) n)]
  · exact Finset.sum_congr rfl fun k hk => by rw [if_pos (by have := Finset.mem_Ico.mp hk; omega), mul_one]
  · intro k hk; exact Finset.mem_range.mpr (Finset.mem_Ico.mp hk).2
  · intro k hk h
    rw [if_neg fun hc : c < k => h (Finset.mem_Ico.mpr ⟨hc, Finset.mem_range.mp hk⟩), mul_zero]

theorem tri_before (f : ℕ → ℝ) (c n : ℕ) (hc : c ≤ n) : ∑ k ∈ range n, f k * (if k < c then 1 else 0) = ∑ k ∈ range c, f k := by
  rw [← Finset.sum_subset (s₁ := range c)]
  · exact Finset.sum_congr rfl fun k hk => by rw [if_pos (Finset.mem_range.mp hk), mul_one]
  · intro k hk; have := Finset.mem_range.mp hk; exact Finset.mem_range.mpr (by omega)
  · intro k hk h
    rw [if_neg fun hc => h (Finset.mem_range.mpr hc), mul_zero]

theorem sum_ico_shift (f : ℕ → ℝ) (a b m : ℕ) : ∑ k ∈ Ico a b, f (m + k) = ∑ u ∈ Ico (m + a) (m + b), f u := by
  rw [Finset.sum_Ico_add (fun x => f x), Nat.add_comm a, Nat.add_comm b]

theorem scanAfter_eq (x : ℕ → ℕ → ℝ) (n j : ℕ) :
    scanAfter (sq x n j) k0_pay95 = sq (fun t s => ∑ u ∈ Ico (s + 1) (512 * (j + 1)), x t u) n j := by
  funext y
  unfold scanAfter sideBySide dotTri rowSum left right
  pointwise
  have h1 : (y 1).val < 512 := (y 1).isLt
  by_cases h : (y 1).val < 256
  · rw [dif_pos h]
    trans ((∑ k ∈ range 256, x (512 * n + (y 0).val) (512 * j + k) * (if (y 1).val < k then 1 else 0) : ℝ) : EReal)
        + ((∑ k ∈ range 256, x (512 * n + (y 0).val) (512 * j + 256 + k) : ℝ) : EReal)
    · congr 1
      · rw [← sum_fin (f := fun k => x (512 * n + (y 0).val) (512 * j + k) * (if (y 1).val < k then 1 else 0))]
        refine Finset.sum_congr rfl fun k _ => ?_
        rw [later_eq, EReal.coe_mul]
        rfl
    rw [← EReal.coe_add]
    refine congrArg _ ?_
    rw [tri_later (fun k => x (512 * n + (y 0).val) (512 * j + k)), sum_ico_shift (fun u => x (512 * n + (y 0).val) u), ← sum_ico (fun u => x (512 * n + (y 0).val) u),
      Finset.sum_Ico_consecutive _ (by omega) (by omega)]
    refine Finset.sum_congr (congrArg₂ Ico ?_ ?_) fun _ _ => rfl <;> omega
  · rw [dif_neg h]
    trans ((∑ k ∈ range 256, x (512 * n + (y 0).val) (512 * j + 256 + k) * (if (y 1).val - 256 < k then 1 else 0) : ℝ) : EReal)
    · rw [← sum_fin (f := fun k => x (512 * n + (y 0).val) (512 * j + 256 + k) * (if (y 1).val - 256 < k then 1 else 0))]
      refine Finset.sum_congr rfl fun k _ => ?_
      rw [later_eq, EReal.coe_mul]
      rw [Nat.add_assoc (512 * j) 256]
      rfl
    refine congrArg _ ?_
    rw [tri_later (fun k => x (512 * n + (y 0).val) (512 * j + 256 + k)), sum_ico_shift (fun u => x (512 * n + (y 0).val) u)]
    refine Finset.sum_congr (congrArg₂ Ico ?_ ?_) fun _ _ => rfl <;> omega

theorem scanBefore_eq (x : ℕ → ℕ → ℝ) (n j : ℕ) :
    scanBefore (sq x n j) k0_pay96 = sq (fun t s => ∑ u ∈ Ico (512 * j) s, x t u) n j := by
  funext y
  unfold scanBefore sideBySide dotTri rowSum left right
  pointwise
  have h1 : (y 1).val < 512 := (y 1).isLt
  by_cases h : (y 1).val < 256
  · rw [dif_pos h]
    trans ((∑ k ∈ range 256, x (512 * n + (y 0).val) (512 * j + k) * (if k < (y 1).val then 1 else 0) : ℝ) : EReal)
    · rw [← sum_fin (f := fun k => x (512 * n + (y 0).val) (512 * j + k) * (if k < (y 1).val then 1 else 0))]
      refine Finset.sum_congr rfl fun k _ => ?_
      rw [before_eq, EReal.coe_mul]
      rfl
    refine congrArg _ ?_
    rw [tri_before (fun k => x (512 * n + (y 0).val) (512 * j + k)) _ _ (by omega), ← sum_ico (fun u => x (512 * n + (y 0).val) u)]
  · rw [dif_neg h]
    trans ((∑ k ∈ range 256, x (512 * n + (y 0).val) (512 * j + 256 + k) * (if k < (y 1).val - 256 then 1 else 0) : ℝ) : EReal)
        + ((∑ k ∈ range 256, x (512 * n + (y 0).val) (512 * j + k) : ℝ) : EReal)
    · congr 1
      · rw [← sum_fin (f := fun k => x (512 * n + (y 0).val) (512 * j + 256 + k) * (if k < (y 1).val - 256 then 1 else 0))]
        refine Finset.sum_congr rfl fun k _ => ?_
        rw [before_eq, EReal.coe_mul]
        rw [Nat.add_assoc (512 * j) 256]
        rfl
    rw [← EReal.coe_add]
    refine congrArg _ ?_
    rw [tri_before (fun k => x (512 * n + (y 0).val) (512 * j + 256 + k)) _ _ (by omega), ← sum_ico (fun u => x (512 * n + (y 0).val) u), ← sum_ico (fun u => x (512 * n + (y 0).val) u), add_comm,
      Finset.sum_Ico_consecutive _ (by omega) (by omega)]
    refine Finset.sum_congr (congrArg₂ Ico ?_ ?_) fun _ _ => rfl <;> omega

theorem lanes0 (y : S512x128.Idx) : k0_pay84 y = if (y 1).val < 64 then 1#1 else 0#1 := by
  unfold k0_pay84
  pointwise
  have h1 : (y 1).val < 128 := (y 1).isLt
  rw [show (0#32) = BitVec.ofNat 32 0 from rfl, show (64#32) = BitVec.ofNat 32 64 from rfl, word_sge _ _ (by omega) (by omega), word_slt _ _ (by omega) (by omega), if_pos (Nat.zero_le _)]
  by_cases h : (y 1).val < 64
  · rw [if_pos h]; rfl
  · rw [if_neg h]; rfl

theorem lanes1 (y : S512x128.Idx) : k0_pay85 y = if 64 ≤ (y 1).val then 1#1 else 0#1 := by
  unfold k0_pay85
  pointwise
  have h1 : (y 1).val < 128 := (y 1).isLt
  rw [show (128#32) = BitVec.ofNat 32 128 from rfl, show (64#32) = BitVec.ofNat 32 64 from rfl, word_sge _ _ (by omega) (by omega), word_slt _ _ (by omega) (by omega), if_pos h1]
  by_cases h : 64 ≤ (y 1).val
  · rw [if_pos h]; rfl
  · rw [if_neg h]; rfl

theorem onDiag_eq (x : ℕ → ℕ → ℝ) (n : ℕ) : onDiag (sq x n n) = sq (low x) n n := by
  funext y
  unfold onDiag k0_pay94
  pointwise
  have h0 : (y 0).val < 512 := (y 0).isLt
  have h1 : (y 1).val < 512 := (y 1).isLt
  rw [word_slt _ _ (by omega) (by omega)]
  unfold sq low
  by_cases h : (y 1).val < (y 0).val
  · rw [if_pos h, if_pos (by omega)]; rfl
  · rw [if_neg h, if_neg (by omega)]; rfl

theorem id_eq_low (x : ℕ → ℕ → ℝ) (n j : ℕ) (h : j < n) : sq x n j = sq (low x) n j := by
  funext y
  have h1 : (y 1).val < 512 := (y 1).isLt
  unfold sq
  rw [low_of_lt]
  omega

end Cert.Sb

end
-- ==== Proof.Scal.lean ====
/-
  The softplus chain, the masks and the constants of the reference, on real numbers.
-/
module

public import proofs.«01_k».proof.Proof.Math
public import proofs.«01_k».proof.Proof.Ops
public import Idealize.ShloMosaic.Lib.IdealHost
public import Idealize.ShloMosaic.Lib.Pointwise

@[expose] public section

set_option maxRecDepth 16384

noncomputable section

namespace Cert.Sb

open Finset
open Idealize.ShloMosaic

theorem sel_zero {α : Type} (a b : α) : Scalar.select 0#1 a b = b := rfl
theorem sel_one {α : Type} (a b : α) : Scalar.select 1#1 a b = a := rfl

/-- A choice made by a strict comparison of naturals. -/
theorem sel_if {α : Type} (c : Prop) [Decidable c] (a b : α) : Scalar.select (if c then 1#1 else 0#1) a b = if c then a else b := by
  by_cases h : c
  · rw [if_pos h, if_pos h, sel_one]
  · rw [if_neg h, if_neg h, sel_zero]

theorem une_self (a : Ideal .f32) : FloatOps.cmpf (F := Ideal) .une a a = 0#1 := by
  rw [Ideal.cmpf_def]; simp [Ideal.cmp]

theorem oeq_inf (x : ℝ) : FloatOps.cmpf (F := Ideal) (φ := .f32) .oeq (x : EReal) (FloatOps.ofBits .f32 0x7F800000#32) = 0#1 := by
  have e : FloatOps.ofBits (F := Ideal) .f32 0x7F800000#32 = (⊤ : EReal) := by
    show Ideal.ofBits .f32 _ = _
    simp [Ideal.ofBits, Ideal.ieee]
  rw [e]
  rw [Ideal.cmpf_def]; simp [Ideal.cmp]

theorem zero_word : FloatOps.ofBits (F := Ideal) .f32 0x00000000#32 = ((0 : ℝ) : EReal) := by
  show Ideal.ofBits .f32 _ = _
  rw [Ideal.ofBits_zero_f32]; rfl

theorem eighth_word : FloatOps.ofBits (F := Ideal) .f32 0x3E000000#32 = ((1 / 8 : ℝ) : EReal) := by
  show Ideal.ofBits .f32 _ = _
  simp [Ideal.ofBits, Ideal.ieee, -EReal.coe_mul]; norm_num

theorem neg_real (x : ℝ) : FloatOps.hostNegf (F := Ideal) (φ := .f32) (x : EReal) = ((-x : ℝ) : EReal) := by
  rw [Ideal.hostNegf_def, Ideal.negf_def, EReal.coe_neg]
theorem mul_real (x y : ℝ) : FloatOps.mulf (F := Ideal) (φ := .f32) (x : EReal) (y : EReal) = ((x * y : ℝ) : EReal) := by
  rw [Ideal.mulf_def, EReal.coe_mul]
theorem add_real (x y : ℝ) : FloatOps.addf (F := Ideal) (φ := .f32) (x : EReal) (y : EReal) = ((x + y : ℝ) : EReal) := by
  rw [Ideal.addf_def, EReal.coe_add]
theorem sub_real (x y : ℝ) : FloatOps.subf (F := Ideal) (φ := .f32) (x : EReal) (y : EReal) = ((x - y : ℝ) : EReal) := by
  rw [Ideal.subf_def, EReal.coe_sub]
theorem exp_real (x : ℝ) : FloatOps.hostUnary (F := Ideal) (φ := .f32) .exp (x : EReal) = ((Real.exp x : ℝ) : EReal) := by
  rw [Ideal.hostUnary_exp_def, Ideal.exp_coe]

/-- The maximum and the logarithm that softplus is printed as. -/
theorem sp_chain (x : ℝ) :
    FloatOps.addf (F := Ideal) (φ := .f32) (FloatOps.maximumf (x : EReal) (FloatOps.ofBits .f32 0x00000000#32))
      (FloatOps.hostUnary .log1p (FloatOps.hostUnary .exp (FloatOps.hostNegf (FloatOps.hostAbsf
        (FloatOps.subf (x : EReal) (FloatOps.ofBits .f32 0x00000000#32)))))) = ((sp x : ℝ) : EReal) := by
  rw [← softplus_coe]
  simp only [zero_word, sub_real, sub_zero, Ideal.hostUnary_exp_def, Ideal.hostUnary_log1p_def, Ideal.log1p, Ideal.addf_def, Ideal.maximumf_def,
    Ideal.hostNegf_def, Ideal.hostAbsf_def, Ideal.negf_def, Ideal.absf_def, Ideal.subf_def, EReal.coe_zero, sub_zero, zero_sub]

theorem low_if (x : ℕ → ℕ → ℝ) (t s : ℕ) : (if s < t then ((x t s : ℝ) : EReal) else ((0 : ℝ) : EReal)) = ((low x t s : ℝ) : EReal) := by
  unfold low
  split_ifs <;> rfl

end Cert.Sb
-- ==== Proof.Out.lean ====
/-
  The three outputs' staging buffers after the body, at a grid point that opens a head pair (its buffers start at zero)
  and at one that doesn't (they go on from the point before).
-/
module

public import proofs.«01_k».proof.Proof.Run

@[expose] public section

set_option maxRecDepth 16384

noncomputable section

namespace Cert.Sb

open Idealize.ShloMosaic.ValueIdx (ix2)
open Cert.KernelIdeal Cert.KernelIdeal.Gen Idealize.ShloMosaic Idealize.ShloMosaic.TcCoe Idealize.SL.Sem Cert.Sb.Tile

variable {F : FTy → Type} [FloatOps F] [Named F]

/-- The rectangle of the whole array. -/
abbrev whole8 : Rect S2048x128 := Rect.unit (s := S2048x128) ![0, 0] S2048x128.size inb_S2048x128_S2048x128_0_0

/-- A load of a whole buffer of 512 rows. -/
abbrev loadAll (m : Memref sig .tc .vmem S512x128 .f32) (f : BufTy.Contents (Elt F) m.view.ty) : Vec F S512x128 .f32 :=
  View.readAt (Elt F) m.view (Rect.unit (s := S512x128) ![0, 0] S512x128.size inb_S512x128_S512x128_0_0).toLoadRect f

/-- Six carried values. -/
abbrev Six (F : FTy → Type) := FVec F S512x128 .f32 × FVec F S512x1 .f32 × FVec F S512x1 .f32 × FVec F S512x128 .f32 × FVec F S512x1 .f32 × FVec F S512x1 .f32

section
variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S2048x128 .f32) (harg9 : arg9.IsWhole)

/-- The rectangle of the diagonal block. -/
abbrev rectD : Rect S2048x128 := Rect.unit (s := S2048x128) (k0_off3 i) S512x128.size (k0_off3_inb i)

section
variable (q d t : Vec F S512x128 .f32) (X3 : BufTy.Contents (Elt F) arg3.view.ty) (X4 : BufTy.Contents (Elt F) arg4.view.ty)
  (G8 : BufTy.Contents (Elt F) arg8.view.ty) (G9 : BufTy.Contents (Elt F) arg9.view.ty)
  (M8 : BufTy.Contents (Elt F) arg8.view.ty) (M9 : BufTy.Contents (Elt F) arg9.view.ty) (s : Six F)

/-- The generated state after the loop over the earlier blocks. -/
abbrev afterLoop := state1 c i arg2 harg2 arg3 harg3 arg4 harg4 arg5 harg5 arg6 harg6 arg7 harg7 arg8 harg8 arg9 harg9 q d t X3 X4 G8 G9 (k0_t1_loop i).trips

/-- The generated state of the loop's remainder, which makes no trip. -/
abbrev afterRest :=
  st_k0_t2 (F := F) Variants.none c none i arg2 harg2 arg3 harg3 arg4 harg4 arg5 harg5 arg6 harg6 arg7 harg7 arg8 harg8 arg9 harg9 (BitVec.ofNat 32 (i 1).val) k0_pay85 (k0_pay87 q) (k0_pay88 q) (k0_pay89 d) (k0_pay90 d) (k0_pay91 t) t
    (Scalar.addi 0#32 (Scalar.muli (Scalar.divsi (Scalar.subi (BitVec.ofNat 32 (i 1).val) 0#32) 1#32) 1#32)) X3 X4 M8 M9
    ((afterLoop c i arg2 harg2 arg3 harg3 arg4 harg4 arg5 harg5 arg6 harg6 arg7 harg7 arg8 harg8 arg9 harg9 q d t X3 X4 G8 G9).1.1, (afterLoop c i arg2 harg2 arg3 harg3 arg4 harg4 arg5 harg5 arg6 harg6 arg7 harg7 arg8 harg8 arg9 harg9 q d t X3 X4 G8 G9).1.2.1, (afterLoop c i arg2 harg2 arg3 harg3 arg4 harg4 arg5 harg5 arg6 harg6 arg7 harg7 arg8 harg8 arg9 harg9 q d t X3 X4 G8 G9).1.2.2.1,
      (afterLoop c i arg2 harg2 arg3 harg3 arg4 harg4 arg5 harg5 arg6 harg6 arg7 harg7 arg8 harg8 arg9 harg9 q d t X3 X4 G8 G9).1.2.2.2.1, (afterLoop c i arg2 harg2 arg3 harg3 arg4 harg4 arg5 harg5 arg6 harg6 arg7 harg7 arg8 harg8 arg9 harg9 q d t X3 X4 G8 G9).1.2.2.2.2.1, (afterLoop c i arg2 harg2 arg3 harg3 arg4 harg4 arg5 harg5 arg6 harg6 arg7 harg7 arg8 harg8 arg9 harg9 q d t X3 X4 G8 G9).1.2.2.2.2.2)
    (k0_t2_loop i).trips

theorem afterRest_eq : afterRest c i arg2 harg2 arg3 harg3 arg4 harg4 arg5 harg5 arg6 harg6 arg7 harg7 arg8 harg8 arg9 harg9 q d t X3 X4 G8 G9 M8 M9 = ((afterLoop c i arg2 harg2 arg3 harg3 arg4 harg4 arg5 harg5 arg6 harg6 arg7 harg7 arg8 harg8 arg9 harg9 q d t X3 X4 G8 G9).1, [], []) := by
  have h : (k0_t2_loop i).trips = 0 := Scf.rem_trips 0#32 (Scalar.subi (BitVec.ofNat 32 (i 1).val) 0#32)
  unfold afterRest
  rw [h]
  rfl

/-- The diagonal block of the keys or values, in the narrow format. -/
abbrev blockD (X : Vec F S2048x128 .f32) : RowsB F := truncf .bf16 (View.ld X (rectD i)) bitsLt_bf16_f32

theorem blockD_eq (X : Vec F S2048x128 .f32) : blockD i X = blk X (i 1).val :=
  congrArg (fun x => truncf .bf16 x bitsLt_bf16_f32) (ld_rows X _ (lt4 i) _ (k0_off3_eq i))

/-- The piece the diagonal tile writes into the queries' gradient. -/
abbrev pieceQ : View.Piece (Elt F) S512x128 .f32 :=
  ⟨Rect.unit (s := S512x128) ![0, 0] S512x128.size inb_S512x128_S512x128_0_0,
    k0_pay1 k0_pay84 (headNext onDiag (blockA q d t) (blockD i (arg3.view.read (Elt F) X3)) (blockD i (arg4.view.read (Elt F) X4)) (fst3 s)).1 (headNext onDiag (blockB q d t) (blockD i (arg3.view.read (Elt F) X3)) (blockD i (arg4.view.read (Elt F) X4)) (snd3 s)).1⟩

/-- The piece it writes into the keys' gradient. -/
abbrev pieceK (f : BufTy.Contents (Elt F) arg8.view.ty) : View.Piece (Elt F) S2048x128 .f32 :=
  ⟨rectD i, addf (shapeCast S512x128 (View.ld (arg8.view.read (Elt F) f) (rectD i)) shapeCasts_S512x128_S512x128)
    (tileK onDiag (blockA q d t) (blockB q d t) (blockD i (arg3.view.read (Elt F) X3)) (blockD i (arg4.view.read (Elt F) X4)) (fst3 s) (snd3 s))⟩

/-- The piece it writes into the values' gradient. -/
abbrev pieceV (f : BufTy.Contents (Elt F) arg9.view.ty) : View.Piece (Elt F) S2048x128 .f32 :=
  ⟨rectD i, addf (shapeCast S512x128 (View.ld (arg9.view.read (Elt F) f) (rectD i)) shapeCasts_S512x128_S512x128)
    (tileV onDiag (blockA q d t) (blockB q d t) (blockD i (arg3.view.read (Elt F) X3)) (fst3 s) (snd3 s))⟩

end

section
variable (x0 : Vec F S512x128 .f32) (x1 x2 : Vec F S2048x128 .f32) (x3 x4 : Vec F S512x128 .f32) (xo6 xo7 : Vec F S2048x128 .f32)

/-- The pieces the run finds, case B. -/
theorem runB (hc0 : ¬cond0_0 i) :
    (kernelRun0_B (F := F) c i arg2 harg2 arg3 harg3 arg4 harg4 arg5 harg5 arg6 harg6 arg7 harg7 arg8 harg8 arg9 harg9 hc0 x0 x1 x2 x3 x4 xo6 xo7).1 = [pieceQ i arg3 arg4 (loadAll arg2 (harg2.unread x0)) (loadAll arg5 (harg5.unread x3)) (loadAll arg6 (harg6.unread x4)) (harg3.unread x1) (harg4.unread x2) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).1]
    ∧ (kernelRun0_B (F := F) c i arg2 harg2 arg3 harg3 arg4 harg4 arg5 harg5 arg6 harg6 arg7 harg7 arg8 harg8 arg9 harg9 hc0 x0 x1 x2 x3 x4 xo6 xo7).2.1 = pieceK i arg3 arg4 arg8 (loadAll arg2 (harg2.unread x0)) (loadAll arg5 (harg5.unread x3)) (loadAll arg6 (harg6.unread x4)) (harg3.unread x1) (harg4.unread x2) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).1 (arg8.view.writes (Elt F) (harg8.unread xo6) ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).2.1 ++ (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1)) :: ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).2.1 ++ (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1)
    ∧ (kernelRun0_B (F := F) c i arg2 harg2 arg3 harg3 arg4 harg4 arg5 harg5 arg6 harg6 arg7 harg7 arg8 harg8 arg9 harg9 hc0 x0 x1 x2 x3 x4 xo6 xo7).2.2.1 = pieceV i arg3 arg9 (loadAll arg2 (harg2.unread x0)) (loadAll arg5 (harg5.unread x3)) (loadAll arg6 (harg6.unread x4)) (harg3.unread x1) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).1 (arg9.view.writes (Elt F) (harg9.unread xo7) ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).2.2 ++ (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)) :: ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7) (arg8.view.writes (Elt F) (harg8.unread xo6) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.1) (arg9.view.writes (Elt F) (harg9.unread xo7) (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2)).2.2 ++ (afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (harg8.unread xo6) (harg9.unread xo7)).2.2) := by
  unfold kernelRun0_B
  exact ⟨rfl, rfl, rfl⟩

/-- The pieces the run finds, case A. -/
theorem runA (hc0 : cond0_0 i) :
    (kernelRun0_A (F := F) c i arg2 harg2 arg3 harg3 arg4 harg4 arg5 harg5 arg6 harg6 arg7 harg7 arg8 harg8 arg9 harg9 hc0 x0 x1 x2 x3 x4).1 = [pieceQ i arg3 arg4 (loadAll arg2 (harg2.unread x0)) (loadAll arg5 (harg5.unread x3)) (loadAll arg6 (harg6.unread x4)) (harg3.unread x1) (harg4.unread x2) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).1]
    ∧ (kernelRun0_A (F := F) c i arg2 harg2 arg3 harg3 arg4 harg4 arg5 harg5 arg6 harg6 arg7 harg7 arg8 harg8 arg9 harg9 hc0 x0 x1 x2 x3 x4).2.1 = pieceK i arg3 arg4 arg8 (loadAll arg2 (harg2.unread x0)) (loadAll arg5 (harg5.unread x3)) (loadAll arg6 (harg6.unread x4)) (harg3.unread x1) (harg4.unread x2) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).1 (arg8.view.writes (Elt F) arg8.view.junk ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).2.1 ++ ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩]))) :: ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).2.1 ++ ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩]))
    ∧ (kernelRun0_A (F := F) c i arg2 harg2 arg3 harg3 arg4 harg4 arg5 harg5 arg6 harg6 arg7 harg7 arg8 harg8 arg9 harg9 hc0 x0 x1 x2 x3 x4).2.2.1 = pieceV i arg3 arg9 (loadAll arg2 (harg2.unread x0)) (loadAll arg5 (harg5.unread x3)) (loadAll arg6 (harg6.unread x4)) (harg3.unread x1) (afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).1 (arg9.view.writes (Elt F) arg9.view.junk ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).2.2 ++ ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))) :: ((afterRest c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩]) (arg8.view.writes (Elt F) arg8.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.1 ++ [⟨whole8, k0_pay82⟩])) (arg9.view.writes (Elt F) arg9.view.junk ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩]))).2.2 ++ ((afterLoop c i arg2 harg2 arg3 harg3 arg4 harg4 arg5 harg5 arg6 harg6 arg7 harg7 arg8 harg8 arg9 harg9 (loadAll arg2 (harg2.unread x0)) (loadAll arg5 (harg5.unread x3)) (loadAll arg6 (harg6.unread x4)) (harg3.unread x1) (harg4.unread x2) (arg8.view.writes (Elt F) arg8.view.junk [⟨whole8, k0_pay82⟩]) (arg9.view.writes (Elt F) arg9.view.junk [⟨whole8, k0_pay83⟩])).2.2 ++ [⟨whole8, k0_pay83⟩])) := by
  unfold kernelRun0_A
  exact ⟨rfl, rfl, rfl⟩

theorem loadAll_eq (m : Memref sig .tc .vmem S512x128 .f32) (h : m.IsWhole) (x : Vec F S512x128 .f32) : loadAll m (h.unread x) = x := by
  unfold loadAll
  rw [View.readAt_eq_ld, h.read_unread]
  exact View.ld_unit_zero (S := S512x128) hz _ x

/-- A buffer after a store of the whole. -/
theorem read_whole {sig' : RefSig} {κ : Kind} {sp : Space} (v : View sig' κ sp S2048x128 .f32) (x : Vec F S2048x128 .f32) :
    v.read (Elt F) (v.writes (Elt F) v.junk [⟨whole8, x⟩]) = x := by
  refine (View.read_writes_eq_canon _ _ _ (fun y => ⟨_, List.mem_singleton.mpr rfl, View.mem_set_unit_zero hz inb_S2048x128_S2048x128_0_0 y⟩)).trans ?_
  exact View.canon_unit_zero hz _ x

theorem out_B_5 (hc0 : ¬cond0_0 i) : out0_B_5 (F := F) c i arg2 harg2 arg3 harg3 arg4 harg4 arg5 harg5 arg6 harg6 arg7 harg7 arg8 harg8 arg9 harg9 hc0 x0 x1 x2 x3 x4 xo6 xo7 = queriesOut (blockA x0 x3 x4) (blockB x0 x3 x4) x1 x2 (i 1).val := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  rw [(runB c i arg2 harg2 arg3 harg3 arg4 harg4 arg5 harg5 arg6 harg6 arg7 harg7 arg8 harg8 arg9 harg9 x0 x1 x2 x3 x4 xo6 xo7 hc0).1]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (harg8.unread xo6) (harg9.unread xo7) x1 x2 xo6 xo7 (harg3.read_unread x1) (harg4.read_unread x2) (harg8.read_unread xo6) (harg9.read_unread xo7) (k0_t1_loop i).trips le_rfl
  rw [trips1 i] at e1 e8 e9
  unfold pieceQ
  rw [View.canon_unit_zero hz, harg3.read_unread, harg4.read_unread, blockD_eq, blockD_eq]
  unfold afterLoop
  rw [trips1 i, e1]
  rfl

theorem out_B_6 (hc0 : ¬cond0_0 i) : out0_B_6 (F := F) c i arg2 harg2 arg3 harg3 arg4 harg4 arg5 harg5 arg6 harg6 arg7 harg7 arg8 harg8 arg9 harg9 hc0 x0 x1 x2 x3 x4 xo6 xo7 = keysOut (blockA x0 x3 x4) (blockB x0 x3 x4) x1 x2 xo6 (i 1).val := by
  unfold out0_B_6
  rw [(runB c i arg2 harg2 arg3 harg3 arg4 harg4 arg5 harg5 arg6 harg6 arg7 harg7 arg8 harg8 arg9 harg9 x0 x1 x2 x3 x4 xo6 xo7 hc0).2.1]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (harg8.unread xo6) (harg9.unread xo7) x1 x2 xo6 xo7 (harg3.read_unread x1) (harg4.read_unread x2) (harg8.read_unread xo6) (harg9.read_unread xo7) (k0_t1_loop i).trips le_rfl
  rw [trips1 i] at e1 e8 e9
  rw [List.nil_append]
  unfold pieceK
  rw [harg3.read_unread, harg4.read_unread, blockD_eq, blockD_eq]
  unfold afterLoop
  rw [trips1 i, e1]

  refine (read_add arg8.view (harg8.unread xo6) _ (i 1).val (lt4 i) (k0_off3_inb i) (k0_off3_eq i) _ rfl _).trans ?_
  rw [e8]
  rfl

theorem out_B_7 (hc0 : ¬cond0_0 i) : out0_B_7 (F := F) c i arg2 harg2 arg3 harg3 arg4 harg4 arg5 harg5 arg6 harg6 arg7 harg7 arg8 harg8 arg9 harg9 hc0 x0 x1 x2 x3 x4 xo6 xo7 = valsOut (blockA x0 x3 x4) (blockB x0 x3 x4) x1 x2 xo7 (i 1).val := by
  unfold out0_B_7
  rw [(runB c i arg2 harg2 arg3 harg3 arg4 harg4 arg5 harg5 arg6 harg6 arg7 harg7 arg8 harg8 arg9 harg9 x0 x1 x2 x3 x4 xo6 xo7 hc0).2.2]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (harg8.unread xo6) (harg9.unread xo7) x1 x2 xo6 xo7 (harg3.read_unread x1) (harg4.read_unread x2) (harg8.read_unread xo6) (harg9.read_unread xo7) (k0_t1_loop i).trips le_rfl
  rw [trips1 i] at e1 e8 e9
  rw [List.nil_append]
  unfold pieceV
  rw [harg3.read_unread, blockD_eq]
  unfold afterLoop
  rw [trips1 i, e1]

  refine (read_add arg9.view (harg9.unread xo7) _ (i 1).val (lt4 i) (k0_off3_inb i) (k0_off3_eq i) _ rfl _).trans ?_
  rw [e9]
  rfl

theorem out_A_5 (hc0 : cond0_0 i) : out0_A_5 (F := F) c i arg2 harg2 arg3 harg3 arg4 harg4 arg5 harg5 arg6 harg6 arg7 harg7 arg8 harg8 arg9 harg9 hc0 x0 x1 x2 x3 x4 = queriesOut (blockA x0 x3 x4) (blockB x0 x3 x4) x1 x2 (i 1).val := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  rw [(runA c i arg2 harg2 arg3 harg3 arg4 harg4 arg5 harg5 arg6 harg6 arg7 harg7 arg8 harg8 arg9 harg9 x0 x1 x2 x3 x4 hc0).1]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (arg8.view.writes (Elt F) arg8.view.junk [⟨whole8, k0_pay82⟩]) (arg9.view.writes (Elt F) arg9.view.junk [⟨whole8, k0_pay83⟩]) x1 x2 k0_pay82 k0_pay83 (harg3.read_unread x1) (harg4.read_unread x2) (read_whole arg8.view _) (read_whole arg9.view _) (k0_t1_loop i).trips le_rfl
  rw [trips1 i] at e1 e8 e9
  unfold pieceQ
  rw [View.canon_unit_zero hz, harg3.read_unread, harg4.read_unread, blockD_eq, blockD_eq]
  unfold afterLoop
  rw [trips1 i, e1]
  rfl

theorem out_A_6 (hc0 : cond0_0 i) : out0_A_6 (F := F) c i arg2 harg2 arg3 harg3 arg4 harg4 arg5 harg5 arg6 harg6 arg7 harg7 arg8 harg8 arg9 harg9 hc0 x0 x1 x2 x3 x4 = keysOut (blockA x0 x3 x4) (blockB x0 x3 x4) x1 x2 k0_pay82 (i 1).val := by
  unfold out0_A_6
  rw [View.read_writes_of_cover VO0_6 VO0_6.junk arg8.view arg8.view.junk _ (cover0_A_6 c i arg2 harg2 arg3 harg3 arg4 harg4 arg5 harg5 arg6 harg6 arg7 harg7 arg8 harg8 arg9 harg9 hc0 x0 x1 x2 x3 x4)]
  rw [(runA c i arg2 harg2 arg3 harg3 arg4 harg4 arg5 harg5 arg6 harg6 arg7 harg7 arg8 harg8 arg9 harg9 x0 x1 x2 x3 x4 hc0).2.1]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (arg8.view.writes (Elt F) arg8.view.junk [⟨whole8, k0_pay82⟩]) (arg9.view.writes (Elt F) arg9.view.junk [⟨whole8, k0_pay83⟩]) x1 x2 k0_pay82 k0_pay83 (harg3.read_unread x1) (harg4.read_unread x2) (read_whole arg8.view _) (read_whole arg9.view _) (k0_t1_loop i).trips le_rfl
  rw [trips1 i] at e1 e8 e9
  rw [List.nil_append]
  unfold pieceK
  rw [harg3.read_unread, harg4.read_unread, blockD_eq, blockD_eq]
  unfold afterLoop
  rw [trips1 i, e1]
  rw [← View.writes_append] at e8
  refine (read_add arg8.view arg8.view.junk _ (i 1).val (lt4 i) (k0_off3_inb i) (k0_off3_eq i) _ rfl _).trans ?_
  rw [e8]
  rfl

theorem out_A_7 (hc0 : cond0_0 i) : out0_A_7 (F := F) c i arg2 harg2 arg3 harg3 arg4 harg4 arg5 harg5 arg6 harg6 arg7 harg7 arg8 harg8 arg9 harg9 hc0 x0 x1 x2 x3 x4 = valsOut (blockA x0 x3 x4) (blockB x0 x3 x4) x1 x2 k0_pay83 (i 1).val := by
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 hc0 x0 x1 x2 x3 x4)]
  rw [(runA c i arg2 harg2 arg3 harg3 arg4 harg4 arg5 harg5 arg6 harg6 arg7 harg7 arg8 harg8 arg9 harg9 x0 x1 x2 x3 x4 hc0).2.2]
  rw [loadAll_eq, loadAll_eq, loadAll_eq, afterRest_eq]
  obtain ⟨e1, e8, e9⟩ := state1_eq c i arg2 harg2 arg3 harg3 arg4 harg4 arg5 harg5 arg6 harg6 arg7 harg7 arg8 harg8 arg9 harg9 x0 x3 x4 (harg3.unread x1) (harg4.unread x2) (arg8.view.writes (Elt F) arg8.view.junk [⟨whole8, k0_pay82⟩]) (arg9.view.writes (Elt F) arg9.view.junk [⟨whole8, k0_pay83⟩]) x1 x2 k0_pay82 k0_pay83 (harg3.read_unread x1) (harg4.read_unread x2) (read_whole arg8.view _) (read_whole arg9.view _) (k0_t1_loop i).trips le_rfl
  rw [trips1 i] at e1 e8 e9
  rw [List.nil_append]
  unfold pieceV
  rw [harg3.read_unread, blockD_eq]
  unfold afterLoop
  rw [trips1 i, e1]
  rw [← View.writes_append] at e9
  refine (read_add arg9.view arg9.view.junk _ (i 1).val (lt4 i) (k0_off3_inb i) (k0_off3_eq i) _ rfl _).trans ?_
  rw [e9]
  rfl

end
end

end Cert.Sb

end
-- ==== Proof.Heads.lean ====
/-
  The tiles of one head, and so what a query block leaves: the mathematics' sums over the keys.
-/
module

public import proofs.«01_k».proof.Proof.Ops

@[expose] public section

set_option maxRecDepth 16384

noncomputable section

namespace Cert.Sb

open Finset
open Cert.KernelIdeal Cert.KernelIdeal.Gen Idealize.ShloMosaic Idealize.ShloMosaic.TcCoe Idealize.SL.Sem Cert.Sb.Tile

theorem sq_congr {f g : ℕ → ℕ → ℝ} {n j : ℕ} (h : ∀ t s, 512 * j ≤ s → s < 512 * (j + 1) → f t s = g t s) : sq f n j = sq g n j :=
  funext fun y => congrArg _ (h _ _ (by omega) (by have : (y 1).val < 512 := (y 1).isLt; omega))

/-- The whole array of 2048 rows. -/
def arr (f : ℕ → ℕ → ℝ) : Vec Ideal S2048x128 .f32 := fun y => ((f (y 0).val (y 1).val : ℝ) : EReal)

theorem blk_arr (f : ℕ → ℕ → ℝ) (j : ℕ) (hj : j < 4) : blk (arr f) j = rwsB f j := by
  funext y
  have hy : (y 0).val < 512 := (y 0).isLt
  show ((f ((512 * j + (y 0).val) % 2048) (y 1).val : ℝ) : EReal) = _
  rw [Nat.mod_eq_of_lt (by omega)]
  rfl

section
variable (a d kk vv : ℕ → ℕ → ℝ)

/-- The logits of one head, over the lanes. -/
def lgt (t s : ℕ) : ℝ := ∑ l ∈ range 128, a t l * kk s l

/-- What the query block n brings. -/
def bOf (n : ℕ) : Block Ideal := ⟨rwsB a n, rwsB d n, cl (fun t => ∑ u ∈ range 2048, gP (lgt a kk) t u) n⟩

/-- What is carried before key block j. -/
def car (n j : ℕ) : Carry Ideal :=
  (rws (fun t l => ∑ s ∈ range (512 * j), gZ 2048 (lgt a kk) (lgt d vv) t s * kk s l) n,
    cl (fun t => ∑ s ∈ range (512 * j), gP (lgt a kk) t s) n,
    cl (fun t => ∑ s ∈ range (512 * j), gG 2048 (lgt a kk) (lgt d vv) t s) n)

theorem car_zero (n : ℕ) : start = car a d kk vv n 0 := by
  have h1 : (k0_pay98 : Rows Ideal) = rws (fun t l => ∑ s ∈ range (512 * 0), gZ 2048 (lgt a kk) (lgt d vv) t s * kk s l) n := by
    funext y; unfold k0_pay98; pointwise; simp [rws]
  have h2 : ∀ f : ℕ → ℕ → ℝ, (k0_pay97 : Col Ideal) = cl (fun t => ∑ s ∈ range (512 * 0), f t s) n := by
    intro f; funext y; unfold k0_pay97; pointwise; simp [cl]
  unfold car
  rw [← h1, ← h2, ← h2]

variable (keep : Sq Ideal → Sq Ideal) (n j : ℕ) (hj : j < 4) (hk : ∀ x, keep (sq x n j) = sq (low x) n j)
include hj hk

theorem posNext_eq : posNext keep (sq (lgt a kk) n j) (cl (fun t => ∑ s ∈ range (512 * j), gP (lgt a kk) t s) n)
    = cl (fun t => ∑ s ∈ range (512 * (j + 1)), gP (lgt a kk) t s) n := by
  unfold posNext
  rw [softplus_eq, hk, totalAfter_eq, addCl]
  exact congrArg (fun f => cl f n) (funext fun t => (sum_block _ j 512).symm)

theorem headW_eq : headW keep (bOf a d kk n) (rwsB kk j) (car a d kk vv n j) = sq (gW 2048 (lgt a kk)) n j := by
  have e : dotNT (bOf a d kk n).q (rwsB kk j) = sq (lgt a kk) n j := dotNT_eq _ _ _ _
  unfold headW weight
  rw [e]
  unfold car
  dsimp only
  rw [posNext_eq a kk keep n j hj hk, softplus_eq, hk, scanAfter_eq, subSq]
  unfold bOf
  dsimp only
  rw [subCl, spread_eq, addSq, subSq, expSq, hk]
  refine sq_congr fun t s h1 h2 => ?_
  unfold gW low
  by_cases h : s < t
  · rw [if_pos h, if_pos h]
    refine congrArg Real.exp (congrArg (fun r => lgt a kk t s - sp (lgt a kk t s) - r) ?_)
    rw [← Finset.sum_Ico_consecutive (fun u => gP (lgt a kk) t u) (m := s + 1) (n := 512 * (j + 1)) (k := 2048) (by omega) (by omega)]
    rw [← Finset.sum_range_add_sum_Ico (fun u => gP (lgt a kk) t u) (m := 512 * (j + 1)) (n := 2048) (by omega)]
    unfold gP low
    ring
  · rw [if_neg h, if_neg h]

theorem headG_eq : headG keep (bOf a d kk n) (rwsB kk j) (rwsB vv j) (car a d kk vv n j) = sq (gG 2048 (lgt a kk) (lgt d vv)) n j := by
  unfold headG gOf
  rw [headW_eq a d kk vv keep n j hj hk, show dotNT (bOf a d kk n).d (rwsB vv j) = sq (lgt d vv) n j from dotNT_eq _ _ _ _, mulSq]
  rfl

theorem headZ_eq : headZ keep (bOf a d kk n) (rwsB kk j) (rwsB vv j) (car a d kk vv n j) = sq (gZ 2048 (lgt a kk) (lgt d vv)) n j := by
  have e : dotNT (bOf a d kk n).q (rwsB kk j) = sq (lgt a kk) n j := dotNT_eq _ _ _ _
  unfold headZ dLogits
  rw [headG_eq a d kk vv keep n j hj hk, e, softplus_eq, scanBefore_eq, subSq, expSq]
  unfold car
  dsimp only
  rw [spread_eq, addSq, addSq, mulSq, subSq, hk]
  refine sq_congr fun t s h1 h2 => ?_
  unfold gZ low
  by_cases h : s < t
  · rw [if_pos h, if_pos h]
    beta_reduce
    rw [← Finset.sum_range_add_sum_Ico (fun u => gG 2048 (lgt a kk) (lgt d vv) t u) (m := 512 * j) (n := s) h1, add_comm (∑ u ∈ Ico _ _, _)]
  · rw [if_neg h, if_neg h]

theorem headNext_eq : headNext keep (bOf a d kk n) (rwsB kk j) (rwsB vv j) (car a d kk vv n j) = car a d kk vv n (j + 1) := by
  have e : dotNT (bOf a d kk n).q (rwsB kk j) = sq (lgt a kk) n j := dotNT_eq _ _ _ _
  unfold headNext gNext
  rw [headZ_eq a d kk vv keep n j hj hk, headG_eq a d kk vv keep n j hj hk, e, dotNN_eq, totalBefore_eq]
  unfold car
  dsimp only
  rw [posNext_eq a kk keep n j hj hk, addRws, addCl]
  congr 2
  · exact funext fun t => funext fun l => (sum_block (fun s => gZ 2048 (lgt a kk) (lgt d vv) t s * kk s l) j 512).symm
  · exact congrArg (fun f => cl f n) (funext fun t => (sum_block _ j 512).symm)

end

theorem carried_eq (a d kk vv : ℕ → ℕ → ℝ) (n : ℕ) (hn : n < 4) : ∀ j, j ≤ n → carried (bOf a d kk n) (arr kk) (arr vv) j = car a d kk vv n j
  | 0, _ => car_zero a d kk vv n
  | j + 1, h => by
    show headNext id _ (blk (arr kk) j) (blk (arr vv) j) _ = _
    rw [carried_eq a d kk vv n hn j (by omega), blk_arr _ _ (by omega), blk_arr _ _ (by omega)]
    exact headNext_eq a d kk vv id n j (by omega) fun x => id_eq_low x n j (by omega)

end Cert.Sb

end
-- ==== Proof.Lanes.lean ====
/-
  The two heads that share the 128 lanes: what a query block brings for each, and what the body leaves in the three
  outputs' buffers.
-/
module

public import proofs.«01_k».proof.Proof.Heads

@[expose] public section

set_option maxRecDepth 16384

noncomputable section

namespace Cert.Sb

open Finset
open Cert.KernelIdeal Cert.KernelIdeal.Gen Idealize.ShloMosaic Idealize.ShloMosaic.TcCoe Idealize.SL.Sem Cert.Sb.Tile

/-- The lanes of the first head (or, with `h = 1`, of the second). -/
def lane (h : ℕ) (f : ℕ → ℕ → ℝ) (t l : ℕ) : ℝ := if 64 * h ≤ l ∧ l < 64 * h + 64 then f t l else 0

theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem named_low : (Named.named κ "low" 0xFF61B1E6#32 : Ideal .f32) = ⊥ := by
  rfl

theorem select_lane0 {α : Type} (y : S512x128.Idx) (u v : α) : Scalar.select (k0_pay84 y) u v = if (y 1).val < 64 then u else v := by
  rw [lanes0]; by_cases h : (y 1).val < 64
  · rw [if_pos h, if_pos h]; rfl
  · rw [if_neg h, if_neg h]; rfl
theorem select_lane1 {α : Type} (y : S512x128.Idx) (u v : α) : Scalar.select (k0_pay85 y) u v = if 64 ≤ (y 1).val then u else v := by
  rw [lanes1]; by_cases h : 64 ≤ (y 1).val
  · rw [if_pos h, if_pos h]; rfl
  · rw [if_neg h, if_neg h]; rfl

theorem q0_eq (f : ℕ → ℕ → ℝ) (n : ℕ) : k0_pay87 (F := Ideal) (rws f n) = rwsB (lane 0 fun t l => f t l * (1 / 8)) n := by
  funext y
  unfold k0_pay87 k0_pay86
  pointwise
  rw [select_lane0, ofBits_eighth]
  unfold rws rwsB lane
  by_cases h : (y 1).val < 64
  · rw [if_pos h, if_pos (by omega)]; exact (EReal.coe_mul _ _).symm
  · rw [if_neg h, if_neg (by omega)]; rfl

theorem q1_eq (f : ℕ → ℕ → ℝ) (n : ℕ) : k0_pay88 (F := Ideal) (rws f n) = rwsB (lane 1 fun t l => f t l * (1 / 8)) n := by
  funext y
  unfold k0_pay88 k0_pay86
  pointwise
  have h1 : (y 1).val < 128 := (y 1).isLt
  rw [select_lane1, ofBits_eighth]
  unfold rws rwsB lane
  by_cases h : 64 ≤ (y 1).val
  · rw [if_pos h, if_pos (by omega)]; exact (EReal.coe_mul _ _).symm
  · rw [if_neg h, if_neg (by omega)]; rfl

theorem d0_eq (f : ℕ → ℕ → ℝ) (n : ℕ) : k0_pay89 (F := Ideal) (rws f n) = rwsB (lane 0 f) n := by
  funext y
  unfold k0_pay89
  pointwise
  rw [select_lane0]
  unfold rws rwsB lane
  by_cases h : (y 1).val < 64
  · rw [if_pos h, if_pos (by omega)]
  · rw [if_neg h, if_neg (by omega)]; rfl
theorem d1_eq (f : ℕ → ℕ → ℝ) (n : ℕ) : k0_pay90 (F := Ideal) (rws f n) = rwsB (lane 1 f) n := by
  funext y
  unfold k0_pay90
  pointwise
  have h1 : (y 1).val < 128 := (y 1).isLt
  rw [select_lane1]
  unfold rws rwsB lane
  by_cases h : 64 ≤ (y 1).val
  · rw [if_pos h, if_pos (by omega)]
  · rw [if_neg h, if_neg (by omega)]; rfl

theorem fold_max (f : Fin 128 → EReal) (p : Fin 128 → Prop) [DecidablePred p] (c : EReal) (h : ∀ k, f k = if p k then c else ⊥) (k : Fin 128) (hk : p k) :
    (Finset.univ : Finset (Fin 128)).fold max ⊥ f = c := by
  refine le_antisymm (Finset.sup_le (s := univ) fun k _ => ?_) ?_
  · rw [h]; by_cases hp : p k
    · rw [if_pos hp]
    · rw [if_neg hp]; exact bot_le
  · have e := h k
    rw [if_pos hk] at e
    rw [← e]
    exact Finset.le_sup (s := univ) (f := f) (Finset.mem_univ k)

theorem rest0_eq (f : ℕ → ℕ → ℝ) (R : ℕ → ℝ) (n : ℕ) (hf : ∀ t l, l < 64 → f t l = - R t) : k0_pay92 (F := Ideal) (k0_pay91 (rws f n)) = cl R n := by
  funext y
  unfold k0_pay92 k0_pay91
  pointwise
  rw [ofBits_bot, fold_max _ (fun k => k.val < 64) ((-R (512 * n + (y 0).val) : ℝ) : EReal) (fun k => ?_) ⟨0, by decide⟩ (by decide)]
  · show (0 : EReal) - _ = ((R (512 * n + (y 0).val) : ℝ) : EReal)
    rw [← EReal.coe_zero, ← EReal.coe_sub]; simp
  · rw [select_lane0, named_low]
    by_cases h : k.val < 64
    · rw [if_pos h]; exact (if_pos h).trans (congrArg _ (hf _ _ h))
    · rw [if_neg h]; exact if_neg h

theorem rest1_eq (f : ℕ → ℕ → ℝ) (R : ℕ → ℝ) (n : ℕ) (hf : ∀ t l, 64 ≤ l → l < 128 → f t l = - R t) : k0_pay93 (F := Ideal) k0_pay85 (rws f n) = cl R n := by
  funext y
  unfold k0_pay93
  pointwise
  rw [ofBits_bot, fold_max _ (fun k => 64 ≤ k.val) ((-R (512 * n + (y 0).val) : ℝ) : EReal) (fun k => ?_) ⟨64, by decide⟩ (by decide)]
  · show (0 : EReal) - _ = ((R (512 * n + (y 0).val) : ℝ) : EReal)
    rw [← EReal.coe_zero, ← EReal.coe_sub]; simp
  · rw [select_lane1, named_low]
    by_cases h : 64 ≤ k.val
    · rw [if_pos h]; exact (if_pos h).trans (congrArg _ (hf _ _ h k.isLt))
    · rw [if_neg h]; exact if_neg h

theorem merge_eq (f g : ℕ → ℕ → ℝ) (n : ℕ) : k0_pay1 (F := Ideal) k0_pay84 (rws f n) (rws g n) = rws (fun t l => (if l < 64 then f t l else g t l) * (1 / 8)) n := by
  funext y
  unfold k0_pay1
  pointwise
  rw [select_lane0, ofBits_eighth]
  unfold rws
  by_cases h : (y 1).val < 64
  · rw [if_pos h]; beta_reduce; rw [if_pos h]; exact (EReal.coe_mul _ _).symm
  · rw [if_neg h]; beta_reduce; rw [if_neg h]; exact (EReal.coe_mul _ _).symm

/-- Block j of an array gains a block's rows. -/
theorem addRows_arr (x g : ℕ → ℕ → ℝ) (j : ℕ) :
    addRows (arr x) j (rws g j) = arr fun s l => if 512 * j ≤ s ∧ s < 512 * j + 512 then x s l + g s l else x s l := by
  funext y
  unfold addRows arr
  beta_reduce
  by_cases h : 512 * j ≤ (y 0).val ∧ (y 0).val < 512 * j + 512
  · rw [dif_pos h, if_pos h]
    refine Eq.trans ?_ (EReal.coe_add _ _).symm
    refine congrArg (fun r => ((x (y 0).val (y 1).val : ℝ) : EReal) + r) ?_
    show ((g (512 * j + ((y 0).val - 512 * j)) (y 1).val : ℝ) : EReal) = _
    rw [Nat.add_sub_cancel' h.1]
  · rw [dif_neg h, if_neg h]

section
variable (a d a' d' kk vv : ℕ → ℕ → ℝ)

/-- What the query block n adds to the keys' gradient. -/
def addK (n s l : ℕ) : ℝ :=
  ∑ r ∈ range 512, gZ 2048 (lgt a kk) (lgt d vv) (512 * n + r) s * a (512 * n + r) l
    + ∑ r ∈ range 512, gZ 2048 (lgt a' kk) (lgt d' vv) (512 * n + r) s * a' (512 * n + r) l

/-- What the query block n adds to the values' gradient. -/
def addV (n s l : ℕ) : ℝ :=
  ∑ r ∈ range 512, gW 2048 (lgt a kk) (512 * n + r) s * d (512 * n + r) l
    + ∑ r ∈ range 512, gW 2048 (lgt a' kk) (512 * n + r) s * d' (512 * n + r) l

theorem addK_zero (n s l : ℕ) (h : 512 * n + 512 ≤ s) : addK a d a' d' kk vv n s l = 0 := by
  unfold addK gZ
  rw [Finset.sum_eq_zero, Finset.sum_eq_zero, add_zero] <;>
  · intro r hr
    have := Finset.mem_range.mp hr
    rw [low_of_le _ (by omega), zero_mul]

theorem addV_zero (n s l : ℕ) (h : 512 * n + 512 ≤ s) : addV a d a' d' kk n s l = 0 := by
  unfold addV gW
  rw [Finset.sum_eq_zero, Finset.sum_eq_zero, add_zero] <;>
  · intro r hr
    have := Finset.mem_range.mp hr
    rw [low_of_le _ (by omega), zero_mul]

theorem tileK_eq (keep : Sq Ideal → Sq Ideal) (n j : ℕ) (hj : j < 4) (hk : ∀ x, keep (sq x n j) = sq (low x) n j) :
    tileK keep (bOf a d kk n) (bOf a' d' kk n) (rwsB kk j) (rwsB vv j) (car a d kk vv n j) (car a' d' kk vv n j) = rws (addK a d a' d' kk vv n) j := by
  unfold tileK
  rw [headZ_eq a d kk vv keep n j hj hk, headZ_eq a' d' kk vv keep n j hj hk]
  unfold bOf
  dsimp only
  rw [dotTN_eq, dotTN_eq, addRws]
  rfl

theorem tileV_eq (keep : Sq Ideal → Sq Ideal) (n j : ℕ) (hj : j < 4) (hk : ∀ x, keep (sq x n j) = sq (low x) n j) :
    tileV keep (bOf a d kk n) (bOf a' d' kk n) (rwsB kk j) (car a d kk vv n j) (car a' d' kk vv n j) = rws (addV a d a' d' kk n) j := by
  unfold tileV
  rw [headW_eq a d kk vv keep n j hj hk, headW_eq a' d' kk vv keep n j hj hk]
  unfold bOf
  dsimp only
  rw [dotTN_eq, dotTN_eq, addRws]
  rfl

variable (n : ℕ) (hn : n < 4) (x : ℕ → ℕ → ℝ)
include hn

theorem keysAt_eq : ∀ j, j ≤ n → keysAt (bOf a d kk n) (bOf a' d' kk n) (arr kk) (arr vv) (arr x) j
      = arr fun s l => if s < 512 * j then x s l + addK a d a' d' kk vv n s l else x s l
  | 0, _ => rfl
  | j + 1, h => by
    show addRows _ j (tileK id _ _ (blk (arr kk) j) (blk (arr vv) j) _ _) = _
    rw [keysAt_eq j (by omega), blk_arr _ _ (by omega), blk_arr _ _ (by omega), carried_eq a d kk vv n hn j (by omega), carried_eq a' d' kk vv n hn j (by omega),
      tileK_eq a d a' d' kk vv id n j (by omega) (fun x => id_eq_low x n j (by omega)), addRows_arr]
    refine congrArg arr (funext fun s => funext fun l => ?_)
    by_cases h1 : s < 512 * j
    · rw [if_neg (by omega), if_pos h1, if_pos (by omega)]
    · by_cases h2 : s < 512 * (j + 1)
      · rw [if_pos (by omega), if_neg h1, if_pos h2]
      · rw [if_neg (by omega), if_neg h1, if_neg h2]

theorem valsAt_eq : ∀ j, j ≤ n → valsAt (bOf a d kk n) (bOf a' d' kk n) (arr kk) (arr vv) (arr x) j
      = arr fun s l => if s < 512 * j then x s l + addV a d a' d' kk n s l else x s l
  | 0, _ => rfl
  | j + 1, h => by
    show addRows _ j (tileV id _ _ (blk (arr kk) j) _ _) = _
    rw [valsAt_eq j (by omega), blk_arr _ _ (by omega), carried_eq a d kk vv n hn j (by omega), carried_eq a' d' kk vv n hn j (by omega),
      tileV_eq a d a' d' kk vv id n j (by omega) (fun x => id_eq_low x n j (by omega)), addRows_arr]
    refine congrArg arr (funext fun s => funext fun l => ?_)
    by_cases h1 : s < 512 * j
    · rw [if_neg (by omega), if_pos h1, if_pos (by omega)]
    · by_cases h2 : s < 512 * (j + 1)
      · rw [if_pos (by omega), if_neg h1, if_pos h2]
      · rw [if_neg (by omega), if_neg h1, if_neg h2]

theorem keysOut_eq : keysOut (bOf a d kk n) (bOf a' d' kk n) (arr kk) (arr vv) (arr x) n = arr fun s l => x s l + addK a d a' d' kk vv n s l := by
  unfold keysOut
  rw [keysAt_eq a d a' d' kk vv n hn x n le_rfl, blk_arr _ _ hn, blk_arr _ _ hn, carried_eq a d kk vv n hn n le_rfl, carried_eq a' d' kk vv n hn n le_rfl,
    tileK_eq a d a' d' kk vv onDiag n n hn (fun x => onDiag_eq x n), addRows_arr]
  refine congrArg arr (funext fun s => funext fun l => ?_)
  by_cases h1 : s < 512 * n
  · rw [if_neg (by omega), if_pos h1]
  · by_cases h2 : s < 512 * n + 512
    · rw [if_pos (by omega), if_neg h1]
    · rw [if_neg (by omega), if_neg h1, addK_zero _ _ _ _ _ _ _ _ _ (by omega), add_zero]

theorem valsOut_eq : valsOut (bOf a d kk n) (bOf a' d' kk n) (arr kk) (arr vv) (arr x) n = arr fun s l => x s l + addV a d a' d' kk n s l := by
  unfold valsOut
  rw [valsAt_eq a d a' d' kk vv n hn x n le_rfl, blk_arr _ _ hn, carried_eq a d kk vv n hn n le_rfl, carried_eq a' d' kk vv n hn n le_rfl,
    tileV_eq a d a' d' kk vv onDiag n n hn (fun x => onDiag_eq x n), addRows_arr]
  refine congrArg arr (funext fun s => funext fun l => ?_)
  by_cases h1 : s < 512 * n
  · rw [if_neg (by omega), if_pos h1]
  · by_cases h2 : s < 512 * n + 512
    · rw [if_pos (by omega), if_neg h1]
    · rw [if_neg (by omega), if_neg h1, addV_zero _ _ _ _ _ _ _ _ (by omega), add_zero]

theorem queriesOut_eq : queriesOut (bOf a d kk n) (bOf a' d' kk n) (arr kk) (arr vv) n = rws (fun t l =>
    (if l < 64 then ∑ s ∈ range (512 * (n + 1)), gZ 2048 (lgt a kk) (lgt d vv) t s * kk s l
      else ∑ s ∈ range (512 * (n + 1)), gZ 2048 (lgt a' kk) (lgt d' vv) t s * kk s l) * (1 / 8)) n := by
  unfold queriesOut
  rw [blk_arr _ _ hn, blk_arr _ _ hn, carried_eq a d kk vv n hn n le_rfl, carried_eq a' d' kk vv n hn n le_rfl,
    headNext_eq a d kk vv onDiag n n hn (fun x => onDiag_eq x n), headNext_eq a' d' kk vv onDiag n n hn (fun x => onDiag_eq x n)]
  unfold car
  dsimp only
  rw [merge_eq]

end

end Cert.Sb

end
-- ==== Proof.Points.lean ====
/-
  What the three outputs' buffers hold after each grid point, the five input blocks being given as blocks of real arrays.
  The grid has four pairs of heads, and four query blocks for each pair.
-/
module

public import proofs.«01_k».proof.Proof.Out
public import proofs.«01_k».proof.Proof.Lanes
public import proofs.«01_k».proof.Proof.Gen.KernelIdeal.Value
public import Idealize.ShloMosaic.Lib.Pointwise

@[expose] public section

set_option maxRecDepth 16384

noncomputable section

namespace Cert.Sb

open Finset
open Cert.KernelIdeal Cert.KernelIdeal.Gen Idealize.ShloMosaic Idealize.ShloMosaic.TcCoe Idealize.SL.Sem Cert.Sb.Tile

variable (p dd : ℕ → ℕ → ℝ)

/-- The scaled queries of head h of pair g, on the pair's lanes. -/
def qa (g h : ℕ) : ℕ → ℕ → ℝ := lane h fun t l => p t (3072 + 128 * g + l) * (1 / 8)
/-- The keys of pair g. -/
def ka (g : ℕ) (s l : ℕ) : ℝ := p s (3584 + 128 * g + l)
/-- The values of pair g. -/
def va (g : ℕ) (s l : ℕ) : ℝ := p s (4096 + 128 * g + l)
/-- The cotangent of head h of pair g. -/
def da (g h : ℕ) : ℕ → ℕ → ℝ := lane h fun t l => dd t (128 * g + l)
/-- The total log decay of head h of pair g, with its sign turned. -/
def ra (g h t : ℕ) : ℝ := ∑ u ∈ range 2048, gP (lgt (qa p g h) (ka p g)) t u
/-- The array of totals as it is handed over, on pair g's lanes. -/
def ta (g : ℕ) (t l : ℕ) : ℝ := -(if l < 64 then ra p g 0 t else ra p g 1 t)

/-- Block A of the pair at query block n. -/
abbrev bA (g n : ℕ) : Block Ideal := bOf (qa p g 0) (da dd g 0) (ka p g) n
/-- Block B of the pair at query block n. -/
abbrev bB (g n : ℕ) : Block Ideal := bOf (qa p g 1) (da dd g 1) (ka p g) n

theorem blockA_eq (g n : ℕ) :
    blockA (rws (fun t l => p t (3072 + 128 * g + l)) n) (rws (fun t l => dd t (128 * g + l)) n) (rws (ta p g) n) = bA p dd g n := by
  unfold blockA bA bOf qa da
  rw [q0_eq, d0_eq, rest0_eq (ta p g) (ra p g 0) n (fun t l hl => by unfold ta; rw [if_pos hl])]
  rfl

theorem blockB_eq (g n : ℕ) :
    blockB (rws (fun t l => p t (3072 + 128 * g + l)) n) (rws (fun t l => dd t (128 * g + l)) n) (rws (ta p g) n) = bB p dd g n := by
  unfold blockB bB bOf qa da
  rw [q1_eq, d1_eq, rest1_eq (ta p g) (ra p g 1) n (fun t l hl _ => by unfold ta; rw [if_neg (by omega)])]
  rfl

/-- What query block n adds to the gradient of the keys. -/
abbrev stepK (g n : ℕ) (s l : ℕ) : ℝ := addK (qa p g 0) (da dd g 0) (qa p g 1) (da dd g 1) (ka p g) (va p g) n s l
/-- What query block n adds to the gradient of the values. -/
abbrev stepV (g n : ℕ) (s l : ℕ) : ℝ := addV (qa p g 0) (da dd g 0) (qa p g 1) (da dd g 1) (ka p g) n s l
/-- The gradient of the queries, on pair g's lanes; the sum runs over the keys up to the end of the query's block. -/
def rowQ (g n : ℕ) (t l : ℕ) : ℝ :=
  (if l < 64 then ∑ s ∈ range (512 * (n + 1)), gZ 2048 (lgt (qa p g 0) (ka p g)) (lgt (da dd g 0) (va p g)) t s * ka p g s l
    else ∑ s ∈ range (512 * (n + 1)), gZ 2048 (lgt (qa p g 1) (ka p g)) (lgt (da dd g 1) (va p g)) t s * ka p g s l) * (1 / 8)

/-- The three outputs' buffers after query block n of pair g. -/
def after (g n : ℕ) : Vec Ideal S512x128 .f32 × Vec Ideal S2048x128 .f32 × Vec Ideal S2048x128 .f32 :=
  (rws (rowQ p dd g n) n, arr fun s l => ∑ k ∈ range (n + 1), stepK p dd g k s l, arr fun s l => ∑ k ∈ range (n + 1), stepV p dd g k s l)

theorem zeroK : k0_pay82 (F := Ideal) = arr fun _ _ => 0 := by
  funext y
  show Ideal.ofBits .f32 0x00000000#32 = _
  rw [Ideal.ofBits_zero_f32]; rfl
theorem zeroV : k0_pay83 (F := Ideal) = arr fun _ _ => 0 := by
  funext y
  show Ideal.ofBits .f32 0x00000000#32 = _
  rw [Ideal.ofBits_zero_f32]; rfl

variable (m : (l : Loc nD τ sig) → BufTy.Contents (Elt Ideal) l.ty)

/-- The five input blocks at each point are the blocks of the real arrays. -/
structure Inputs (c : Dev nD) : Prop where
  q : ∀ t : Fin cfg0.N, iblk m c 0 t = (rws (fun r l => p r (3072 + 128 * (t.val / 4) + l)) (t.val % 4) : Vec Ideal S512x128 .f32)
  k : ∀ t : Fin cfg0.N, iblk m c 1 t = (arr (ka p (t.val / 4)) : Vec Ideal S2048x128 .f32)
  v : ∀ t : Fin cfg0.N, iblk m c 2 t = (arr (va p (t.val / 4)) : Vec Ideal S2048x128 .f32)
  d : ∀ t : Fin cfg0.N, iblk m c 3 t = (rws (fun r l => dd r (128 * (t.val / 4) + l)) (t.val % 4) : Vec Ideal S512x128 .f32)
  r : ∀ t : Fin cfg0.N, iblk m c 4 t = (rws (ta p (t.val / 4)) (t.val % 4) : Vec Ideal S512x128 .f32)

theorem coords1 : ∀ t : Fin cfg0.N, (grid0.coords t 1).val = t.val % 4 :=
  (by decide +kernel : ∀ t : Fin grid0.N, (grid0.coords t 1).val = t.val % 4)

theorem outs_eq (c : Dev nD) (H : Inputs p dd m c) : ∀ (n : ℕ) (hn : n < cfg0.N), outsAt0 m c n hn = after p dd (n / 4) (n % 4) := by
  intro n
  induction n with
  | zero =>
    intro hn
    have e := outsAt0_A m c ⟨0, hn⟩ (Nat.zero_mod 4)
    refine e.trans ?_
    rw [out_A_5, out_A_6, out_A_7, H.q, H.k, H.v, H.d, H.r, blockA_eq, blockB_eq, coords1]
    unfold after
    rw [zeroK, zeroV, queriesOut_eq _ _ _ _ _ _ _ (by dsimp only; omega), keysOut_eq _ _ _ _ _ _ _ (by dsimp only; omega), valsOut_eq _ _ _ _ _ _ _ (by dsimp only; omega)]
    simp only [Nat.zero_mod, Nat.zero_div, Finset.sum_range_one, zero_add]
    rfl
  | succ n ih =>
    intro hn
    by_cases h0 : (n + 1) % 4 = 0
    · have e := outsAt0_A m c ⟨n + 1, hn⟩ h0
      refine e.trans ?_
      rw [out_A_5, out_A_6, out_A_7, H.q, H.k, H.v, H.d, H.r, blockA_eq, blockB_eq, coords1]
      unfold after
      rw [zeroK, zeroV, queriesOut_eq _ _ _ _ _ _ _ (by dsimp only; omega), keysOut_eq _ _ _ _ _ _ _ (by dsimp only; omega), valsOut_eq _ _ _ _ _ _ _ (by dsimp only; omega)]
      simp only [h0, Finset.sum_range_one, zero_add]
      rfl
    · have e := outsAt0_B m c ⟨n + 1, hn⟩ h0
      refine e.trans ?_
      rw [out_B_5, out_B_6, out_B_7, H.q, H.k, H.v, H.d, H.r, blockA_eq, blockB_eq, coords1]
      have eq0 : outsAt0 m c (n + 1 - 1) (Nat.lt_of_le_of_lt (Nat.sub_le _ _) hn) = after p dd (n / 4) (n % 4) := ih (Nat.lt_of_succ_lt hn)
      dsimp only
      rw [eq0]
      have h1 : n / 4 = (n + 1) / 4 := by omega
      have h2 : (n + 1) % 4 = n % 4 + 1 := by omega
      rw [h1]
      unfold after
      dsimp only
      rw [queriesOut_eq _ _ _ _ _ _ _ (by omega), keysOut_eq _ _ _ _ _ _ _ (by omega), valsOut_eq _ _ _ _ _ _ _ (by omega)]
      rw [h2]
      simp only [Finset.sum_range_succ _ (n % 4 + 1)]
      rfl

end Cert.Sb
-- ==== Proof.Grid.lean ====
/-
  The blocks the grid stages, and the three result arrays once every block is written back.
-/
module

public import proofs.«01_k».proof.Proof.Points
public import Idealize.ShloMosaic.Lib.Pipeline.ValueKit.Point

@[expose] public section

set_option maxRecDepth 16384

noncomputable section

namespace Cert.Sb

open Finset
open Cert.KernelIdeal Cert.KernelIdeal.Gen Idealize.ShloMosaic Idealize.ShloMosaic.TcCoe Idealize.SL.Sem Cert.Sb.Tile

variable (p dd : ℕ → ℕ → ℝ)
variable (m : (l : Loc nD τ sig) → BufTy.Contents (Elt Ideal) l.ty) (c : Dev nD)

/-- Every window's block index at each point. -/
theorem idx : ∀ t : Fin cfg0.N, win0_0.index t = ![t.val % 4, 24 + t.val / 4] ∧ win0_1.index t = ![0, 28 + t.val / 4]
    ∧ win0_2.index t = ![0, 32 + t.val / 4] ∧ win0_3.index t = ![t.val % 4, t.val / 4] ∧ win0_4.index t = ![t.val % 4, t.val / 4]
    ∧ win0_5.index t = ![t.val % 4, t.val / 4] ∧ win0_6.index t = ![0, t.val / 4] ∧ win0_7.index t = ![0, t.val / 4] :=
  (by decide +kernel : ∀ t : Fin grid0.N, _)

/-- A real array with 6912 columns. -/
def wide (f : ℕ → ℕ → ℝ) : Vec Ideal S2048x6912 .f32 := fun y => ((f (y 0).val (y 1).val : ℝ) : EReal)
/-- A real array with 512 columns. -/
def flat (f : ℕ → ℕ → ℝ) : Vec Ideal S2048x512 .f32 := fun y => ((f (y 0).val (y 1).val : ℝ) : EReal)

/-- The array of totals. -/
def tot (t j : ℕ) : ℝ := ta p (j / 128) t (j % 128)

variable (hp : V m c main_arg0 = wide p) (hd : V m c main_arg1 = flat dd) (ht : V m c main_v23 = flat (tot p))

include hp in
theorem in0 (t : Fin cfg0.N) : iblk m c 0 t = (rws (fun r l => p r (3072 + 128 * (t.val / 4) + l)) (t.val % 4) : Vec Ideal S512x128 .f32) := by
  funext y
  show V m c main_arg0 (((cfg0.win 0).blk t).view.emb y) = _
  rw [hp]
  unfold wide rws
  have h0 : ((((cfg0.win 0).blk t).view.emb y) 0).val = 512 * (t.val % 4) + (y 0).val := by
    blk_simp [idx t]
    try omega
  have h1 : ((((cfg0.win 0).blk t).view.emb y) 1).val = 3072 + 128 * (t.val / 4) + (y 1).val := by
    blk_simp [idx t]
    try omega
  rw [h0, h1]

include hp in
theorem in1 (t : Fin cfg0.N) : iblk m c 1 t = (arr (ka p (t.val / 4)) : Vec Ideal S2048x128 .f32) := by
  funext y
  show V m c main_arg0 (((cfg0.win 1).blk t).view.emb y) = _
  rw [hp]
  unfold wide arr ka
  have h0 : ((((cfg0.win 1).blk t).view.emb y) 0).val = (y 0).val := by
    blk_simp [idx t]
    try omega
  have h1 : ((((cfg0.win 1).blk t).view.emb y) 1).val = 3584 + 128 * (t.val / 4) + (y 1).val := by
    blk_simp [idx t]
    try omega
  rw [h0, h1]

include hp in
theorem in2 (t : Fin cfg0.N) : iblk m c 2 t = (arr (va p (t.val / 4)) : Vec Ideal S2048x128 .f32) := by
  funext y
  show V m c main_arg0 (((cfg0.win 2).blk t).view.emb y) = _
  rw [hp]
  unfold wide arr va
  have h0 : ((((cfg0.win 2).blk t).view.emb y) 0).val = (y 0).val := by
    blk_simp [idx t]
    try omega
  have h1 : ((((cfg0.win 2).blk t).view.emb y) 1).val = 4096 + 128 * (t.val / 4) + (y 1).val := by
    blk_simp [idx t]
    try omega
  rw [h0, h1]

include hd in
theorem in3 (t : Fin cfg0.N) : iblk m c 3 t = (rws (fun r l => dd r (128 * (t.val / 4) + l)) (t.val % 4) : Vec Ideal S512x128 .f32) := by
  funext y
  show V m c main_arg1 (((cfg0.win 3).blk t).view.emb y) = _
  rw [hd]
  unfold flat rws
  have h0 : ((((cfg0.win 3).blk t).view.emb y) 0).val = 512 * (t.val % 4) + (y 0).val := by
    blk_simp [idx t]
    try omega
  have h1 : ((((cfg0.win 3).blk t).view.emb y) 1).val = 128 * (t.val / 4) + (y 1).val := by
    blk_simp [idx t]
    try omega
  rw [h0, h1]

include ht in
theorem in4 (t : Fin cfg0.N) : iblk m c 4 t = (rws (ta p (t.val / 4)) (t.val % 4) : Vec Ideal S512x128 .f32) := by
  funext y
  show V m c main_v23 (((cfg0.win 4).blk t).view.emb y) = _
  rw [ht]
  unfold flat rws
  have h0 : ((((cfg0.win 4).blk t).view.emb y) 0).val = 512 * (t.val % 4) + (y 0).val := by
    blk_simp [idx t]
    try omega
  have h1 : ((((cfg0.win 4).blk t).view.emb y) 1).val = 128 * (t.val / 4) + (y 1).val := by
    blk_simp [idx t]
    try omega
  rw [h0, h1]
  unfold tot
  have hy : (y 1).val < 128 := (y 1).isLt
  have e1 : (128 * (t.val / 4) + (y 1).val) / 128 = t.val / 4 := by omega
  have e2 : (128 * (t.val / 4) + (y 1).val) % 128 = (y 1).val := by omega
  rw [e1, e2]

include hp hd ht in
theorem inputs : Inputs p dd m c := ⟨in0 p m c hp, in1 p m c hp, in2 p m c hp, in3 dd m c hd, in4 p m c ht⟩

/-- The gradient of the queries. -/
def dQ (t j : ℕ) : ℝ := rowQ p dd (j / 128) (t / 512) t (j % 128)
/-- The gradient of the keys. -/
def dK (s j : ℕ) : ℝ := ∑ k ∈ range 4, stepK p dd (j / 128) k s (j % 128)
/-- The gradient of the values. -/
def dV (s j : ℕ) : ℝ := ∑ k ∈ range 4, stepV p dd (j / 128) k s (j % 128)

include hp hd ht in
theorem fin5 : (dats m 0 c).arrAt 5 cfg0.N = flat (dQ p dd) := by
  refine (dats m 0 c).arrAt_eq_of_cover 5 (flat (dQ p dd)) (fun t _ => ?_) (fun i => ?_)
  · rw [Value.flushed5, outs_eq p dd m c (inputs p dd m c hp hd ht)]
    funext y
    show rws (rowQ p dd (t.val / 4) (t.val % 4)) (t.val % 4) y = flat (dQ p dd) (((cfg0.win 5).blk t).view.emb y)
    unfold flat dQ rws
    have h0 : ((((cfg0.win 5).blk t).view.emb y) 0).val = 512 * (t.val % 4) + (y 0).val := by
      blk_simp [idx t]
      try omega
    have h1 : ((((cfg0.win 5).blk t).view.emb y) 1).val = 128 * (t.val / 4) + (y 1).val := by
      blk_simp [idx t]
      try omega
    have hy : (y 1).val < 128 := (y 1).isLt
    have hy0 : (y 0).val < 512 := (y 0).isLt
    rw [h0, h1]
    have e1 : (128 * (t.val / 4) + (y 1).val) / 128 = t.val / 4 := by omega
    have e2 : (128 * (t.val / 4) + (y 1).val) % 128 = (y 1).val := by omega
    have e3 : (512 * (t.val % 4) + (y 0).val) / 512 = t.val % 4 := by omega
    rw [e1, e2, e3]
  · have hi0 : (i 0).val < 2048 := (i 0).isLt
    have hi1 : (i 1).val < 512 := (i 1).isLt
    have hN : cfg0.N = 16 := N_0
    refine ⟨⟨4 * ((i 1).val / 128) + (i 0).val / 512, by omega⟩, flush0_5 _, ?_⟩
    set t : Fin cfg0.N := ⟨4 * ((i 1).val / 128) + (i 0).val / 512, by omega⟩ with ht
    have e := (idx t).2.2.2.2.2.1
    have tv : t.val = 4 * ((i 1).val / 128) + (i 0).val / 512 := rfl
    refine ((cfg0.win 5).emb_mem_blk_iff t i).mpr fun a => ?_
    show win0_5.index t a * S512x128.size a ≤ (i a).val ∧ (i a).val < win0_5.index t a * S512x128.size a + S512x128.size a
    rw [e]
    match a with
    | ⟨0, _⟩ =>
      show t.val % 4 * 512 ≤ (i 0).val ∧ (i 0).val < t.val % 4 * 512 + 512
      omega
    | ⟨1, _⟩ =>
      show t.val / 4 * 128 ≤ (i 1).val ∧ (i 1).val < t.val / 4 * 128 + 128
      omega

include hp hd ht in
theorem fin6 : (dats m 0 c).arrAt 6 cfg0.N = flat (dK p dd) := by
  refine (dats m 0 c).arrAt_eq_of_cover 6 (flat (dK p dd)) (fun t hf => ?_) (fun i => ?_)
  · have h3 := (flush0_6 t).mp hf
    rw [Value.flushed6, outs_eq p dd m c (inputs p dd m c hp hd ht), h3]
    funext y
    show arr (fun s l => ∑ k ∈ range (3 + 1), stepK p dd (t.val / 4) k s l) y = flat (dK p dd) (((cfg0.win 6).blk t).view.emb y)
    unfold flat dK arr
    have h0 : ((((cfg0.win 6).blk t).view.emb y) 0).val = (y 0).val := by
      blk_simp [idx t]
      try omega
    have h1 : ((((cfg0.win 6).blk t).view.emb y) 1).val = 128 * (t.val / 4) + (y 1).val := by
      blk_simp [idx t]
      try omega
    have hy : (y 1).val < 128 := (y 1).isLt
    rw [h0, h1]
    have e1 : (128 * (t.val / 4) + (y 1).val) / 128 = t.val / 4 := by omega
    have e2 : (128 * (t.val / 4) + (y 1).val) % 128 = (y 1).val := by omega
    rw [e1, e2]
  · have hi0 : (i 0).val < 2048 := (i 0).isLt
    have hi1 : (i 1).val < 512 := (i 1).isLt
    have hN : cfg0.N = 16 := N_0
    set t : Fin cfg0.N := ⟨4 * ((i 1).val / 128) + 3, by omega⟩ with ht
    have tv : t.val = 4 * ((i 1).val / 128) + 3 := rfl
    refine ⟨t, (flush0_6 t).mpr (by omega), ?_⟩
    have e := (idx t).2.2.2.2.2.2.1
    refine ((cfg0.win 6).emb_mem_blk_iff t i).mpr fun a => ?_
    show win0_6.index t a * S2048x128.size a ≤ (i a).val ∧ (i a).val < win0_6.index t a * S2048x128.size a + S2048x128.size a
    rw [e]
    match a with
    | ⟨0, _⟩ =>
      show 0 * 2048 ≤ (i 0).val ∧ (i 0).val < 0 * 2048 + 2048
      omega
    | ⟨1, _⟩ =>
      show t.val / 4 * 128 ≤ (i 1).val ∧ (i 1).val < t.val / 4 * 128 + 128
      omega

include hp hd ht in
theorem fin7 : (dats m 0 c).arrAt 7 cfg0.N = flat (dV p dd) := by
  refine (dats m 0 c).arrAt_eq_of_cover 7 (flat (dV p dd)) (fun t hf => ?_) (fun i => ?_)
  · have h3 := (flush0_7 t).mp hf
    rw [Value.flushed7, outs_eq p dd m c (inputs p dd m c hp hd ht), h3]
    funext y
    show arr (fun s l => ∑ k ∈ range (3 + 1), stepV p dd (t.val / 4) k s l) y = flat (dV p dd) (((cfg0.win 7).blk t).view.emb y)
    unfold flat dV arr
    have h0 : ((((cfg0.win 7).blk t).view.emb y) 0).val = (y 0).val := by
      blk_simp [idx t]
      try omega
    have h1 : ((((cfg0.win 7).blk t).view.emb y) 1).val = 128 * (t.val / 4) + (y 1).val := by
      blk_simp [idx t]
      try omega
    have hy : (y 1).val < 128 := (y 1).isLt
    rw [h0, h1]
    have e1 : (128 * (t.val / 4) + (y 1).val) / 128 = t.val / 4 := by omega
    have e2 : (128 * (t.val / 4) + (y 1).val) % 128 = (y 1).val := by omega
    rw [e1, e2]
  · have hi0 : (i 0).val < 2048 := (i 0).isLt
    have hi1 : (i 1).val < 512 := (i 1).isLt
    have hN : cfg0.N = 16 := N_0
    set t : Fin cfg0.N := ⟨4 * ((i 1).val / 128) + 3, by omega⟩ with ht
    have tv : t.val = 4 * ((i 1).val / 128) + 3 := rfl
    refine ⟨t, (flush0_7 t).mpr (by omega), ?_⟩
    have e := (idx t).2.2.2.2.2.2.2
    refine ((cfg0.win 7).emb_mem_blk_iff t i).mpr fun a => ?_
    show win0_7.index t a * S2048x128.size a ≤ (i a).val ∧ (i a).val < win0_7.index t a * S2048x128.size a + S2048x128.size a
    rw [e]
    match a with
    | ⟨0, _⟩ =>
      show 0 * 2048 ≤ (i 0).val ∧ (i 0).val < 0 * 2048 + 2048
      omega
    | ⟨1, _⟩ =>
      show t.val / 4 * 128 ≤ (i 1).val ∧ (i 1).val < t.val / 4 * 128 + 128
      omega

end Cert.Sb
-- ==== Proof.Finite.lean ====
/-
  What the precondition says: both arguments are arrays of real numbers.
-/
module

public import proofs.«01_k».proof.Defs
public import proofs.«01_k».proof.Proof.Scal
public import proofs.«01_k».proof.Proof.Grid
public import Idealize.ShloMosaic.Lib.ReduceAll

@[expose] public section

set_option maxRecDepth 16384

noncomputable section

namespace Cert.Sb

open Finset
open Cert.Pre_finite Idealize.ShloMosaic

/-- The side conditions of the precondition's operations. -/
theorem factsFinite : Cert.Pre_finite.Facts where
  bcast_S_S2048x6912 := by decide
  reducesTo_S2048x6912_S_d0_1 := by decide +kernel
  h_S_ := by decide
  bcast_S_S2048x512 := by decide
  reducesTo_S2048x512_S_d0_1 := by decide +kernel

/-- An extended real of absolute value below the infinity word is a number. -/
theorem real_of_lt (x : EReal) (h : FloatOps.cmpf (F := Ideal) (φ := .f32) .olt (FloatOps.hostAbsf x) (FloatOps.ofBits .f32 0x7F800000#32) = 1#1) :
    ((x.toReal : ℝ) : EReal) = x := by
  have e : FloatOps.ofBits (F := Ideal) .f32 0x7F800000#32 = (⊤ : EReal) := by
    show Ideal.ofBits .f32 _ = _
    simp [Ideal.ofBits, Ideal.ieee]
  rw [e, Ideal.cmpf_def, Ideal.hostAbsf_def, Ideal.absf_def] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  refine EReal.coe_toReal ?_ ?_
  · intro hx; rw [hx] at hlt; simp at hlt
  · intro hx; rw [hx] at hlt; simp at hlt

/-- The precondition makes both arguments real arrays. -/
theorem real_args [Cert.Pre_finite.Facts] (a : FVec Ideal S2048x6912 .f32) (b : FVec Ideal S2048x512 .f32)
    (h : Cert.Pre_finite.fn (F := Ideal) a b = fun _ => 1#1) :
    ∃ p dd : ℕ → ℕ → ℝ, a = wide p ∧ b = flat dd := by
  have sub : Subsingleton S_.Idx := ⟨fun x y => funext fun k : Fin 0 => k.elim0⟩
  have h0 := congrFun h (fun k : Fin 0 => k.elim0)
  have hh := IntOp.andi_eq_one.mp h0
  refine ⟨fun r c => if hr : r < 2048 ∧ c < 6912 then (a (ix2 ⟨r, hr.1⟩ ⟨c, hr.2⟩)).toReal else 0,
    fun r c => if hr : r < 2048 ∧ c < 512 then (b (ix2 ⟨r, hr.1⟩ ⟨c, hr.2⟩)).toReal else 0, funext fun i => ?_, funext fun i => ?_⟩
  · have hi := Host.reduce_andi_all _ _ _ _ _ hh.1 i
    have e := real_of_lt (a i) hi
    unfold wide
    dsimp only
    rw [dif_pos (show (i 0).val < 2048 ∧ (i 1).val < 6912 from ⟨(i 0).isLt, (i 1).isLt⟩)]
    refine e.symm.trans ?_
    exact congrArg (fun j => (((a j).toReal : ℝ) : EReal)) (eq_ix2 i)
  · have hi := Host.reduce_andi_all _ _ _ _ _ hh.2 i
    have e := real_of_lt (b i) hi
    unfold flat
    dsimp only
    rw [dif_pos (show (i 0).val < 2048 ∧ (i 1).val < 512 from ⟨(i 0).isLt, (i 1).isLt⟩)]
    refine e.symm.trans ?_
    exact congrArg (fun j => (((b j).toReal : ℝ) : EReal)) (eq_ix2 i)

end Cert.Sb
-- ==== Proof.Cumsum.lean ====
/-
  Running sums along the last axis of a real array of 8 × 2048 × 2048 numbers, from either end.
-/
module

public import proofs.«01_k».proof.Proof.Math
public import proofs.«01_k».proof.Proof.Gen.ReferenceIdeal.Read

@[expose] public section

set_option maxRecDepth 16384

noncomputable section

namespace Cert.Sb

open Finset
open Cert.ReferenceIdeal Idealize.ShloMosaic

/-- A real array of 8 × 2048 × 2048 numbers. -/
def cube (f : ℕ → ℕ → ℕ → ℝ) : Vec Ideal S8x2048x2048 .f32 := fun y => ((f (y 0).val (y 1).val (y 2).val : ℝ) : EReal)

theorem foldl_plus {n : ℕ} (g : Fin n → EReal) (l : List (Fin n)) (v : EReal) : l.foldl (fun r k => r + g k) v = v + (l.map g).sum := by
  induction l generalizing v with
  | nil => simp
  | cons a l ih => rw [List.foldl_cons, ih, List.map_cons, List.sum_cons, add_assoc]

theorem symm_three (n : Fin (⟨3, ![1, 1, 2048]⟩ : Shape).numel) :
    ((⟨3, ![1, 1, 2048]⟩ : Shape).rowMajor.symm n (0 : Fin 3)).val = 0 ∧ ((⟨3, ![1, 1, 2048]⟩ : Shape).rowMajor.symm n (1 : Fin 3)).val = 0
      ∧ ((⟨3, ![1, 1, 2048]⟩ : Shape).rowMajor.symm n (2 : Fin 3)).val = n.val := by
  have e : ((⟨3, ![1, 1, 2048]⟩ : Shape).rowMajor ((⟨3, ![1, 1, 2048]⟩ : Shape).rowMajor.symm n)).val = n.val := by rw [Equiv.apply_symm_apply]
  rw [Shape.rowMajor_val_three] at e
  have h0 : ((⟨3, ![1, 1, 2048]⟩ : Shape).rowMajor.symm n (0 : Fin 3)).val < 1 := ((⟨3, ![1, 1, 2048]⟩ : Shape).rowMajor.symm n 0).isLt
  have h1 : ((⟨3, ![1, 1, 2048]⟩ : Shape).rowMajor.symm n (1 : Fin 3)).val < 1 := ((⟨3, ![1, 1, 2048]⟩ : Shape).rowMajor.symm n 1).isLt
  change (((⟨3, ![1, 1, 2048]⟩ : Shape).rowMajor.symm n (0 : Fin 3)).val * 1 + ((⟨3, ![1, 1, 2048]⟩ : Shape).rowMajor.symm n (1 : Fin 3)).val) * 2048
    + ((⟨3, ![1, 1, 2048]⟩ : Shape).rowMajor.symm n (2 : Fin 3)).val = n.val at e
  omega

theorem numel_three : (⟨3, ![1, 1, 2048]⟩ : Shape).numel = 2048 := by decide +kernel

/-- The window sum with `lo` positions of padding in front: the entries at `y + n - lo`, where there are such. -/
theorem windowSum (f : ℕ → ℕ → ℕ → ℝ) (lo hi : ℕ) (init : Vec Ideal S_ .f32) (hinit : ∀ i, init i = 0)
    (h : S8x2048x2048.ReduceWindows ![1, 1, 2048] ![1, 1, 1] ![0, 0, lo] ![0, 0, hi] S8x2048x2048) (hu : 0 < S_.numel) (y : S8x2048x2048.Idx) :
    Host.reduceWindowAdd (F := Ideal) (φ := .f32) ![1, 1, 2048] ![1, 1, 1] ![0, 0, lo] ![0, 0, hi] (cube f) init h hu y
      = ((∑ n ∈ range 2048, (if lo ≤ (y 2).val + n ∧ (y 2).val + n - lo < 2048 then f (y 0).val (y 1).val ((y 2).val + n - lo) else 0) : ℝ) : EReal) := by
  unfold Host.reduceWindowAdd
  rw [Ideal.hostReduceWindowAdd_def]
  unfold Ideal.hostReduceWindowAdd Host.reduceWindow
  dsimp only
  rw [hinit, foldl_plus, zero_add, ← Fin.sum_univ_def]
  have step : ∀ n : Fin (⟨3, ![1, 1, 2048]⟩ : Shape).numel, ∀ (dec : Decidable _) ,
      @dite EReal (∀ a : Fin 3, (![0, 0, lo] : Fin 3 → ℕ) a ≤ (y a).val * (![1, 1, 1] : Fin 3 → ℕ) a + ((⟨3, ![1, 1, 2048]⟩ : Shape).rowMajor.symm n a).val
        ∧ (y a).val * (![1, 1, 1] : Fin 3 → ℕ) a + ((⟨3, ![1, 1, 2048]⟩ : Shape).rowMajor.symm n a).val - (![0, 0, lo] : Fin 3 → ℕ) a < S8x2048x2048.size a) dec
        (fun hin => cube f (fun a => ⟨(y a).val * (![1, 1, 1] : Fin 3 → ℕ) a + ((⟨3, ![1, 1, 2048]⟩ : Shape).rowMajor.symm n a).val - (![0, 0, lo] : Fin 3 → ℕ) a, (hin a).2⟩)) (fun _ => (0 : EReal))
      = (((if lo ≤ (y 2).val + n.val ∧ (y 2).val + n.val - lo < 2048 then f (y 0).val (y 1).val ((y 2).val + n.val - lo) else 0 : ℝ)) : EReal) := by
    intro n dec
    have e0 : ((⟨3, ![1, 1, 2048]⟩ : Shape).rowMajor.symm n (0 : Fin 3)).val = 0 := (symm_three n).1
    have e1 : ((⟨3, ![1, 1, 2048]⟩ : Shape).rowMajor.symm n (1 : Fin 3)).val = 0 := (symm_three n).2.1
    have e2 : ((⟨3, ![1, 1, 2048]⟩ : Shape).rowMajor.symm n (2 : Fin 3)).val = n.val := (symm_three n).2.2
    have b0 : (y 0).val < 8 := (y 0).isLt
    have b1 : (y 1).val < 2048 := (y 1).isLt
    split
    · next hin =>
      have h2 := hin 2
      change lo ≤ (y 2).val * 1 + ((⟨3, ![1, 1, 2048]⟩ : Shape).rowMajor.symm n (2 : Fin 3)).val ∧ (y 2).val * 1 + ((⟨3, ![1, 1, 2048]⟩ : Shape).rowMajor.symm n (2 : Fin 3)).val - lo < 2048 at h2
      rw [e2, Nat.mul_one] at h2
      rw [if_pos h2]
      unfold cube
      show ((f ((y 0).val * 1 + ((⟨3, ![1, 1, 2048]⟩ : Shape).rowMajor.symm n (0 : Fin 3)).val - 0) ((y 1).val * 1 + ((⟨3, ![1, 1, 2048]⟩ : Shape).rowMajor.symm n (1 : Fin 3)).val - 0)
        ((y 2).val * 1 + ((⟨3, ![1, 1, 2048]⟩ : Shape).rowMajor.symm n (2 : Fin 3)).val - lo) : ℝ) : EReal) = _
      rw [e0, e1, e2]
      simp only [Nat.mul_one, Nat.add_zero, Nat.sub_zero]
    · next hin =>
      rw [if_neg fun hc => hin fun a => by
        match a with
        | ⟨0, _⟩ =>
          show 0 ≤ (y 0).val * 1 + ((⟨3, ![1, 1, 2048]⟩ : Shape).rowMajor.symm n (0 : Fin 3)).val ∧ (y 0).val * 1 + ((⟨3, ![1, 1, 2048]⟩ : Shape).rowMajor.symm n (0 : Fin 3)).val - 0 < 8
          rw [e0]; omega
        | ⟨1, _⟩ =>
          show 0 ≤ (y 1).val * 1 + ((⟨3, ![1, 1, 2048]⟩ : Shape).rowMajor.symm n (1 : Fin 3)).val ∧ (y 1).val * 1 + ((⟨3, ![1, 1, 2048]⟩ : Shape).rowMajor.symm n (1 : Fin 3)).val - 0 < 2048
          rw [e1]; omega
        | ⟨2, _⟩ =>
          show lo ≤ (y 2).val * 1 + ((⟨3, ![1, 1, 2048]⟩ : Shape).rowMajor.symm n (2 : Fin 3)).val ∧ (y 2).val * 1 + ((⟨3, ![1, 1, 2048]⟩ : Shape).rowMajor.symm n (2 : Fin 3)).val - lo < 2048
          rw [e2]; omega]
      rw [EReal.coe_zero]
  refine (Finset.sum_congr rfl fun n _ => step n _).trans ?_
  rw [← sum_fin]
  refine Fintype.sum_equiv (finCongr numel_three) _ _ fun n => ?_
  rfl

theorem sum_from (g : ℕ → ℝ) (a : ℕ) : ∑ n ∈ range 2048, (if 0 ≤ a + n ∧ a + n - 0 < 2048 then g (a + n - 0) else 0) = ∑ u ∈ Ico a 2048, g u := by
  rw [Finset.sum_Ico_eq_sum_range, ← Finset.sum_filter]
  refine Finset.sum_congr ?_ fun _ _ => rfl
  ext n
  simp only [Finset.mem_filter, Finset.mem_range]
  omega

theorem sum_upto (g : ℕ → ℝ) (a : ℕ) (ha : a < 2048) :
    ∑ n ∈ range 2048, (if 2047 ≤ a + n ∧ a + n - 2047 < 2048 then g (a + n - 2047) else 0) = ∑ u ∈ range (a + 1), g u := by
  rw [← Finset.sum_filter]
  refine Finset.sum_nbij' (fun n => a + n - 2047) (fun u => u + 2047 - a) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; rfl

end Cert.Sb
-- ==== Proof.Closed.lean ====
/-
  The three results in the model's own terms: per head, over all tokens, without the pairing of heads and without the blocks.
-/
module

public import proofs.«01_k».proof.Proof.Grid

@[expose] public section

set_option maxRecDepth 16384

noncomputable section

namespace Cert.Sb

open Finset

variable (p dd : ℕ → ℕ → ℝ)

/-- The logits of head H. -/
def Zh (H t s : ℕ) : ℝ := (∑ d ∈ range 64, p t (3072 + 64 * H + d) * p s (3584 + 64 * H + d)) * (1 / 8)
/-- The cotangent of the weights of head H. -/
def Dh (H t s : ℕ) : ℝ := ∑ d ∈ range 64, dd t (64 * H + d) * p s (4096 + 64 * H + d)

theorem lgt_qa (g h H : ℕ) (hh : h < 2) (hH : H = 2 * g + h) : lgt (qa p g h) (ka p g) = Zh p H := by
  funext t s
  unfold lgt qa ka lane Zh
  rw [sum_lanes (fun l => p t (3072 + 128 * g + l) * (1 / 8)) (fun l => p s (3584 + 128 * g + l)) (64 * h) 64 128 (by omega), Finset.sum_mul]
  refine Finset.sum_congr rfl fun d _ => ?_
  have e1 : 3072 + 128 * g + (64 * h + d) = 3072 + 64 * H + d := by omega
  have e2 : 3584 + 128 * g + (64 * h + d) = 3584 + 64 * H + d := by omega
  rw [e1, e2]
  ring

theorem lgt_da (g h H : ℕ) (hh : h < 2) (hH : H = 2 * g + h) : lgt (da dd g h) (va p g) = Dh p dd H := by
  funext t s
  unfold lgt da va lane Dh
  rw [sum_lanes (fun l => dd t (128 * g + l)) (fun l => p s (4096 + 128 * g + l)) (64 * h) 64 128 (by omega)]
  refine Finset.sum_congr rfl fun d _ => ?_
  have e1 : 128 * g + (64 * h + d) = 64 * H + d := by omega
  have e2 : 4096 + 128 * g + (64 * h + d) = 4096 + 64 * H + d := by omega
  rw [e1, e2]

/-- The gradient of the logits. -/
abbrev gz (H t s : ℕ) : ℝ := gZ 2048 (Zh p H) (Dh p dd H) t s

/-- The totals, per head. -/
theorem tot_eq (t j : ℕ) : tot p t j = -∑ u ∈ range 2048, gP (Zh p (j / 64)) t u := by
  unfold tot ta ra
  by_cases h : j % 128 < 64
  · rw [if_pos h, lgt_qa p (j / 128) 0 (j / 64) (by omega) (by omega)]
  · rw [if_neg h, lgt_qa p (j / 128) 1 (j / 64) (by omega) (by omega)]

theorem dQ_eq (t j : ℕ) (ht : t < 2048) : dQ p dd t j = (∑ s ∈ range 2048, gz p dd (j / 64) t s * p s (3584 + j)) * (1 / 8) := by
  have key : ∀ H, ∑ s ∈ range (512 * (t / 512 + 1)), gz p dd H t s * ka p (j / 128) s (j % 128) = ∑ s ∈ range 2048, gz p dd H t s * p s (3584 + j) := by
    intro H
    have e1 : 3584 + 128 * (j / 128) + j % 128 = 3584 + j := by omega
    unfold ka
    rw [e1]
    refine Finset.sum_subset (fun s hs => Finset.mem_range.mpr (by have := Finset.mem_range.mp hs; omega)) fun s _ hs => ?_
    have h : 512 * (t / 512 + 1) ≤ s := by by_contra hc; exact hs (Finset.mem_range.mpr (by omega))
    unfold gz gZ
    rw [low_of_le _ (by omega), zero_mul]
  unfold dQ rowQ
  by_cases h : j % 128 < 64
  · rw [if_pos h, lgt_qa p (j / 128) 0 (j / 64) (by omega) (by omega), lgt_da p dd (j / 128) 0 (j / 64) (by omega) (by omega), key]
  · rw [if_neg h, lgt_qa p (j / 128) 1 (j / 64) (by omega) (by omega), lgt_da p dd (j / 128) 1 (j / 64) (by omega) (by omega), key]

theorem sum_rows (f : ℕ → ℝ) : ∑ k ∈ range 4, ∑ r ∈ range 512, f (512 * k + r) = ∑ t ∈ range 2048, f t := by
  rw [show (2048 : ℕ) = 512 * (3 + 1) from rfl, sum_block f 3 512, show 512 * 3 = 512 * (2 + 1) from rfl, sum_block f 2 512,
    show 512 * 2 = 512 * (1 + 1) from rfl, sum_block f 1 512, show 512 * 1 = 512 * (0 + 1) from rfl, sum_block f 0 512]
  simp [Finset.sum_range_succ _ 3, Finset.sum_range_succ _ 2, Finset.sum_range_succ _ 1]

theorem dK_eq (s j : ℕ) : dK p dd s j = ∑ t ∈ range 2048, gz p dd (j / 64) t s * (p t (3072 + j) * (1 / 8)) := by
  unfold dK stepK addK
  rw [← sum_rows]
  refine Finset.sum_congr rfl fun k _ => ?_
  rw [← Finset.sum_add_distrib]
  refine Finset.sum_congr rfl fun r _ => ?_
  have e1 : 3072 + 128 * (j / 128) + j % 128 = 3072 + j := by omega
  by_cases h : j % 128 < 64
  · have z0 : qa p (j / 128) 0 (512 * k + r) (j % 128) = p (512 * k + r) (3072 + j) * (1 / 8) := by
      unfold qa lane; rw [if_pos (by omega)]; dsimp only; rw [e1]
    have z1 : qa p (j / 128) 1 (512 * k + r) (j % 128) = 0 := by
      unfold qa lane; rw [if_neg (by omega)]
    rw [z0, z1, mul_zero, add_zero, lgt_qa p (j / 128) 0 (j / 64) (by omega) (by omega), lgt_da p dd (j / 128) 0 (j / 64) (by omega) (by omega)]
  · have z0 : qa p (j / 128) 1 (512 * k + r) (j % 128) = p (512 * k + r) (3072 + j) * (1 / 8) := by
      unfold qa lane; rw [if_pos (by omega)]; dsimp only; rw [e1]
    have z1 : qa p (j / 128) 0 (512 * k + r) (j % 128) = 0 := by
      unfold qa lane; rw [if_neg (by omega)]
    rw [z0, z1, mul_zero, zero_add, lgt_qa p (j / 128) 1 (j / 64) (by omega) (by omega), lgt_da p dd (j / 128) 1 (j / 64) (by omega) (by omega)]

theorem dV_eq (s j : ℕ) : dV p dd s j = ∑ t ∈ range 2048, gW 2048 (Zh p (j / 64)) t s * dd t j := by
  unfold dV stepV addV
  rw [← sum_rows]
  refine Finset.sum_congr rfl fun k _ => ?_
  rw [← Finset.sum_add_distrib]
  refine Finset.sum_congr rfl fun r _ => ?_
  have e1 : 128 * (j / 128) + j % 128 = j := by omega
  by_cases h : j % 128 < 64
  · have z0 : da dd (j / 128) 0 (512 * k + r) (j % 128) = dd (512 * k + r) j := by
      unfold da lane; rw [if_pos (by omega)]; dsimp only; rw [e1]
    have z1 : da dd (j / 128) 1 (512 * k + r) (j % 128) = 0 := by
      unfold da lane; rw [if_neg (by omega)]
    rw [z0, z1, mul_zero, add_zero, lgt_qa p (j / 128) 0 (j / 64) (by omega) (by omega)]
  · have z0 : da dd (j / 128) 1 (512 * k + r) (j % 128) = dd (512 * k + r) j := by
      unfold da lane; rw [if_pos (by omega)]; dsimp only; rw [e1]
    have z1 : da dd (j / 128) 0 (512 * k + r) (j % 128) = 0 := by
      unfold da lane; rw [if_neg (by omega)]
    rw [z0, z1, mul_zero, zero_add, lgt_qa p (j / 128) 1 (j / 64) (by omega) (by omega)]

end Cert.Sb
-- ==== Proof.Ref.lean ====
/-
  The stages of the reference on real arguments, each as a real function of its indices.
-/
module

public import proofs.«01_k».proof.Proof.Scal
public import proofs.«01_k».proof.Proof.Cumsum
public import proofs.«01_k».proof.Proof.Closed

@[expose] public section

set_option maxRecDepth 16384

noncomputable section

namespace Cert.Sb

open Finset
open Cert.ReferenceIdeal Cert.ReferenceIdeal.Gen Cert.ReferenceIdeal.Read Idealize.ShloMosaic

/-- A real array of 8 heads. -/
def head (f : ℕ → ℕ → ℕ → ℝ) : Vec Ideal S8x2048x64 .f32 := fun y => ((f (y 0).val (y 1).val (y 2).val : ℝ) : EReal)

variable (p dd : ℕ → ℕ → ℝ)

theorem v4_eq : val_main_v4 (F := Ideal) (wide p) = head fun h t l => p t (3072 + 64 * h + l) := by
  funext i
  have h0 : (i 0).val < 8 := (i 0).isLt
  have h1 : (i 1).val < 2048 := (i 1).isLt
  have h2 : (i 2).val < 64 := (i 2).isLt
  rw [val_main_v4_apply, val_main_v3_apply, val_main_v0_apply]
  show ((p (((((i 1).val * 8 + (i 0).val) * 64 + (i 2).val) / 512)) (3072 + ((((i 1).val * 8 + (i 0).val) * 64 + (i 2).val) % 512)) : ℝ) : EReal) = ((p (i 1).val (3072 + 64 * (i 0).val + (i 2).val) : ℝ) : EReal)
  congr 2 <;> omega

theorem v6_eq : val_main_v6 (F := Ideal) (wide p) = head fun h t l => p t (3584 + 64 * h + l) := by
  funext i
  have h0 : (i 0).val < 8 := (i 0).isLt
  have h1 : (i 1).val < 2048 := (i 1).isLt
  have h2 : (i 2).val < 64 := (i 2).isLt
  rw [val_main_v6_apply, val_main_v5_apply, val_main_v1_apply]
  show ((p (((((i 1).val * 8 + (i 0).val) * 64 + (i 2).val) / 512)) (3584 + ((((i 1).val * 8 + (i 0).val) * 64 + (i 2).val) % 512)) : ℝ) : EReal) = ((p (i 1).val (3584 + 64 * (i 0).val + (i 2).val) : ℝ) : EReal)
  congr 2 <;> omega

theorem v8_eq : val_main_v8 (F := Ideal) (wide p) = head fun h t l => p t (4096 + 64 * h + l) := by
  funext i
  have h0 : (i 0).val < 8 := (i 0).isLt
  have h1 : (i 1).val < 2048 := (i 1).isLt
  have h2 : (i 2).val < 64 := (i 2).isLt
  rw [val_main_v8_apply, val_main_v7_apply, val_main_v2_apply]
  show ((p (((((i 1).val * 8 + (i 0).val) * 64 + (i 2).val) / 512)) (4096 + ((((i 1).val * 8 + (i 0).val) * 64 + (i 2).val) % 512)) : ℝ) : EReal) = ((p (i 1).val (4096 + 64 * (i 0).val + (i 2).val) : ℝ) : EReal)
  congr 2 <;> omega

theorem v32_eq : val_main_v32 (F := Ideal) (flat dd) = head fun h t l => dd t (64 * h + l) := by
  funext i
  have h0 : (i 0).val < 8 := (i 0).isLt
  have h1 : (i 1).val < 2048 := (i 1).isLt
  have h2 : (i 2).val < 64 := (i 2).isLt
  rw [val_main_v32_apply, val_main_v31_apply]
  show ((dd (((((i 1).val * 8 + (i 0).val) * 64 + (i 2).val) / 512)) ((((i 1).val * 8 + (i 0).val) * 64 + (i 2).val) % 512) : ℝ) : EReal) = ((dd (i 1).val (64 * (i 0).val + (i 2).val) : ℝ) : EReal)
  congr 2 <;> omega

theorem v11_eq : val_main_v11 (F := Ideal) (wide p) = cube fun h t s => Zh p h t s := by
  funext i
  rw [val_main_v11_apply, val_main_v9_apply, val_main_v10_apply, val_main_cst_apply, eighth_word, v4_eq, v6_eq]
  have e : (∑ k : Fin 64, (head fun h t l => p t (3072 + 64 * h + l)) (lidx_main_v9 i k) * (head fun h t l => p t (3584 + 64 * h + l)) (ridx_main_v9 i k))
      = (((∑ d ∈ range 64, p (i 1).val (3072 + 64 * (i 0).val + d) * p (i 2).val (3584 + 64 * (i 0).val + d)) : ℝ) : EReal) := by
    rw [← sum_fin]
    refine Finset.sum_congr rfl fun k _ => ?_
    rw [EReal.coe_mul]; rfl
  rw [e, mul_real]
  rfl

theorem mask_apply (i : S8x2048x2048.Idx) : val_main_v21_1 (F := Ideal) i = if (i 2).val < (i 1).val then 1#1 else 0#1 := by
  have h1 : (i 1).val < 2048 := (i 1).isLt
  have h2 : (i 2).val < 2048 := (i 2).isLt
  rw [val_main_v21_1_apply, val_main_v18_apply, val_main_v16_apply, val_main_v17_apply, val_main_v13_apply, val_main_v15_apply, val_main_v12_apply, val_main_v14_apply]
  exact word_slt _ _ (by show (i 2).val < _; omega) (by show (i 1).val < _; omega)

theorem mask_apply' (i : S8x2048x2048.Idx) : val_main_v27_1 (F := Ideal) i = if (i 2).val < (i 1).val then 1#1 else 0#1 := by
  have h1 : (i 1).val < 2048 := (i 1).isLt
  have h2 : (i 2).val < 2048 := (i 2).isLt
  rw [val_main_v27_1_apply, val_main_v18_apply, val_main_v16_apply, val_main_v17_apply, val_main_v13_apply, val_main_v15_apply, val_main_v12_apply, val_main_v14_apply]
  exact word_slt _ _ (by show (i 2).val < _; omega) (by show (i 1).val < _; omega)

theorem c0_v0 (i : S8x2048x2048.Idx) : val_main_call0_v0 (F := Ideal) (wide p) i = ((Zh p (i 0).val (i 1).val (i 2).val : ℝ) : EReal) := by
  rw [val_main_call0_v0_apply, val_main_v19_apply, v11_eq]
  unfold cube
  rw [neg_real, neg_real, neg_neg]

theorem c0_sp (i : S8x2048x2048.Idx) : val_main_call0_v1_0 (F := Ideal) (wide p) i = ((sp (Zh p (i 0).val (i 1).val (i 2).val) : ℝ) : EReal) := by
  rw [val_main_call0_v1_0_apply, val_main_call0_call0_v4_apply, une_self, sel_zero, val_main_call0_call0_v11_apply, val_main_call0_call0_v1_apply,
    val_main_call0_call0_v10_apply, val_main_call0_call0_v9_apply, val_main_call0_call0_v8_apply, val_main_call0_call0_v7_apply,
    val_main_call0_call0_v3_apply, val_main_call0_call0_v0_apply, val_main_call0_call0_v2_apply, val_main_call0_call0_cst_apply,
    c0_v0, sp_chain]

theorem v20_1 (i : S8x2048x2048.Idx) : val_main_v20_1 (F := Ideal) (wide p) i
    = ((Real.exp (Zh p (i 0).val (i 1).val (i 2).val - sp (Zh p (i 0).val (i 1).val (i 2).val)) : ℝ) : EReal) := by
  rw [val_main_v20_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, c0_sp, c0_v0, oeq_inf, oeq_inf, sel_zero, sel_zero, sub_real, exp_real]

theorem v21_eq : val_main_v21_0 (F := Ideal) (wide p) = cube fun h t s => -gP (Zh p h) t s := by
  funext i
  rw [val_main_v21_0_apply, mask_apply, val_main_v20_0_apply, c0_sp, neg_real, val_main_call1_v2_apply, val_main_call1_v0_apply, val_main_cst_0_apply,
    zero_word, sel_if]
  unfold cube gP low
  dsimp only
  split_ifs
  · rfl
  · rw [neg_zero]

theorem v22_apply (i : S8x2048x2048.Idx) : val_main_v22 (F := Ideal) (wide p) i
    = ((∑ u ∈ Ico (i 2).val 2048, -gP (Zh p (i 0).val) (i 1).val u : ℝ) : EReal) := by
  unfold val_main_v22
  rw [v21_eq, windowSum _ _ _ _ (fun j => by rw [val_main_call2_v0_apply, val_main_call2_cst_apply, zero_word]; rfl), sum_from (fun u => -gP (Zh p (i 0).val) (i 1).val u)]

theorem c3_v0 (i : S8x2048x2048.Idx) : val_main_call3_v0 (F := Ideal) (wide p) i = ((-Zh p (i 0).val (i 1).val (i 2).val : ℝ) : EReal) := by
  rw [val_main_call3_v0_apply, v11_eq]
  unfold cube
  rw [neg_real]

theorem c3_sp (i : S8x2048x2048.Idx) : val_main_call3_v1_0 (F := Ideal) (wide p) i = ((sp (-Zh p (i 0).val (i 1).val (i 2).val) : ℝ) : EReal) := by
  rw [val_main_call3_v1_0_apply, val_main_call3_call0_v4_apply, une_self, sel_zero, val_main_call3_call0_v11_apply, val_main_call3_call0_v1_apply,
    val_main_call3_call0_v10_apply, val_main_call3_call0_v9_apply, val_main_call3_call0_v8_apply, val_main_call3_call0_v7_apply,
    val_main_call3_call0_v3_apply, val_main_call3_call0_v0_apply, val_main_call3_call0_v2_apply, val_main_call3_call0_cst_apply,
    c3_v0, sp_chain]

theorem v24_1 (i : S8x2048x2048.Idx) : val_main_v24_1 (F := Ideal) (wide p) i
    = ((Real.exp (-sp (Zh p (i 0).val (i 1).val (i 2).val)) : ℝ) : EReal) := by
  rw [val_main_v24_1_apply, val_main_call3_call0_v21_apply, val_main_call3_call0_v16_apply, val_main_call3_call0_v20_apply,
    val_main_call3_call0_v14_apply, val_main_call3_call0_v18_apply, val_main_call3_call0_v13_apply, val_main_call3_call0_v17_apply,
    val_main_call3_call0_cst_0_apply, val_main_call3_call0_cst_2_apply, c3_sp, c3_v0, oeq_inf, oeq_inf, sel_zero, sel_zero, sub_real, exp_real, sp_neg]
  congr 2; ring

/-- The stick-breaking weight before its mask. -/
def gE (Z : ℕ → ℕ → ℝ) (t s : ℕ) : ℝ := Real.exp (Z t s - sp (Z t s) - ∑ u ∈ Ico (s + 1) 2048, gP Z t u)

theorem v26_apply (i : S8x2048x2048.Idx) : val_main_v26 (F := Ideal) (wide p) i = ((gE (Zh p (i 0).val) (i 1).val (i 2).val : ℝ) : EReal) := by
  have h2 : (i 2).val < 2048 := (i 2).isLt
  rw [val_main_v26_apply, val_main_v25_apply, val_main_v24_0_apply, c3_sp, neg_real, val_main_v23_apply, v22_apply, v21_eq]
  unfold cube
  rw [sub_real, add_real, exp_real, sp_neg, Finset.sum_eq_sum_Ico_succ_bot h2, Finset.sum_neg_distrib]
  unfold gE
  congr 2; ring

theorem v27_eq : val_main_v27_0 (F := Ideal) (wide p) = cube fun h t s => gW 2048 (Zh p h) t s := by
  funext i
  rw [val_main_v27_0_apply, mask_apply', v26_apply, val_main_call4_v2_apply, val_main_call4_v0_apply, val_main_cst_1_apply, zero_word, sel_if, low_if]
  rfl

theorem v35_eq : val_main_v35 (F := Ideal) (wide p) (flat dd) = cube fun h t s => Dh p dd h t s := by
  funext i
  rw [val_main_v35_apply, v32_eq, v8_eq]
  have e : (∑ k : Fin 64, (head fun h t l => dd t (64 * h + l)) (lidx_main_v35 i k) * (head fun h t l => p t (4096 + 64 * h + l)) (ridx_main_v35 i k))
      = (((∑ d ∈ range 64, dd (i 1).val (64 * (i 0).val + d) * p (i 2).val (4096 + 64 * (i 0).val + d)) : ℝ) : EReal) := by
    rw [← sum_fin]
    refine Finset.sum_congr rfl fun k _ => ?_
    rw [EReal.coe_mul]; rfl
  rw [e]
  rfl

theorem v37_eq : val_main_v37 (F := Ideal) (wide p) (flat dd) = cube fun h t s => gG 2048 (Zh p h) (Dh p dd h) t s := by
  funext i
  rw [val_main_v37_apply, val_main_v36_apply, mask_apply', v35_eq, val_main_call5_v0_apply, val_main_call5_cst_apply, zero_word, sel_if, v26_apply]
  unfold cube gG gW low
  dsimp only
  split_ifs
  · rw [mul_real]; rfl
  · rw [mul_real, zero_mul, mul_zero]

theorem v40_apply (i : S8x2048x2048.Idx) : val_main_v40 (F := Ideal) (wide p) (flat dd) i
    = ((∑ u ∈ range ((i 2).val + 1), gG 2048 (Zh p (i 0).val) (Dh p dd (i 0).val) (i 1).val u : ℝ) : EReal) := by
  have h2 : (i 2).val < 2048 := (i 2).isLt
  unfold val_main_v40
  rw [v37_eq, windowSum _ _ _ _ (fun j => by rw [val_main_call7_v0_apply, val_main_call7_cst_apply, zero_word]; rfl),
    sum_upto (fun u => gG 2048 (Zh p (i 0).val) (Dh p dd (i 0).val) (i 1).val u) _ h2]

theorem v42_apply (i : S8x2048x2048.Idx) : val_main_v42 (F := Ideal) (wide p) (flat dd) i
    = ((if (i 2).val < (i 1).val then ∑ u ∈ range (i 2).val, gG 2048 (Zh p (i 0).val) (Dh p dd (i 0).val) (i 1).val u else 0 : ℝ) : EReal) := by
  rw [val_main_v42_apply, mask_apply, val_main_v41_apply, val_main_v39_apply, v40_apply, v37_eq, val_main_call8_v0_apply, val_main_call8_cst_apply, zero_word, sel_if]
  unfold cube
  rw [neg_real, add_real, Finset.sum_range_succ]
  split_ifs
  · congr 1; ring
  · rfl

theorem v45_eq : val_main_v45 (F := Ideal) (wide p) (flat dd) = cube fun h t s => gz p dd h t s := by
  funext i
  rw [val_main_v45_apply, val_main_v38_apply, val_main_call6_v1_apply, val_main_call6_v0_apply, v37_eq, v24_1, val_main_v44_apply, val_main_v43_apply,
    val_main_call9_v1_apply, val_main_call9_v0_apply, v42_apply, v20_1]
  unfold cube
  rw [neg_real, mul_real, neg_real, neg_real, mul_real, neg_real, neg_real, add_real, exp_neg_sp]
  unfold gz gZ
  dsimp only
  by_cases h : (i 2).val < (i 1).val
  · rw [if_pos h, low_of_lt _ h]
    congr 1; ring
  · rw [if_neg h, low_of_le _ (show (i 1).val ≤ (i 2).val by omega)]
    unfold gG gW
    rw [low_of_le _ (show (i 1).val ≤ (i 2).val by omega)]
    congr 1; ring

theorem v47_eq : val_main_v47 (F := Ideal) (wide p) (flat dd) = cube fun h t s => gz p dd h t s * (1 / 8) := by
  funext i
  rw [val_main_v47_apply, val_main_v46_apply, val_main_cst_2_apply, eighth_word, v45_eq]
  unfold cube
  rw [mul_real]

theorem v33_apply (i : S8x64x2048.Idx) : val_main_v33 (F := Ideal) (wide p) (flat dd) i
    = ((∑ t ∈ range 2048, dd t (64 * (i 0).val + (i 1).val) * gW 2048 (Zh p (i 0).val) t (i 2).val : ℝ) : EReal) := by
  rw [val_main_v33_apply, v32_eq, v27_eq, ← sum_fin]
  refine Finset.sum_congr rfl fun k _ => ?_
  rw [EReal.coe_mul]; rfl

theorem v48_apply (i : S8x2048x64.Idx) : val_main_v48 (F := Ideal) (wide p) (flat dd) i
    = ((∑ t ∈ range 2048, gz p dd (i 0).val t (i 1).val * (1 / 8) * p t (3072 + 64 * (i 0).val + (i 2).val) : ℝ) : EReal) := by
  rw [val_main_v48_apply, v47_eq, v4_eq, ← sum_fin]
  refine Finset.sum_congr rfl fun k _ => ?_
  rw [EReal.coe_mul]; rfl

theorem v49_apply (i : S8x2048x64.Idx) : val_main_v49 (F := Ideal) (wide p) (flat dd) i
    = ((∑ s ∈ range 2048, gz p dd (i 0).val (i 1).val s * (1 / 8) * p s (3584 + 64 * (i 0).val + (i 2).val) : ℝ) : EReal) := by
  rw [val_main_v49_apply, v47_eq, v6_eq, ← sum_fin]
  refine Finset.sum_congr rfl fun k _ => ?_
  rw [EReal.coe_mul]; rfl

/-- The gradient of the values, in the reference. -/
theorem v51_eq : val_main_v51 (F := Ideal) (wide p) (flat dd) = flat (dV p dd) := by
  funext i
  have h0 : (i 0).val < 2048 := (i 0).isLt
  have h1 : (i 1).val < 512 := (i 1).isLt
  rw [val_main_v51_apply, val_main_v50_apply, val_main_v34_apply, v33_apply]
  unfold flat
  rw [dV_eq]
  have e : ((i 0).val * 512 + (i 1).val) / 64 % 8 = (i 1).val / 64 := by omega
  have e' : ((i 0).val * 512 + (i 1).val) % 64 = (i 1).val % 64 := by omega
  have e'' : ((i 0).val * 512 + (i 1).val) / 512 = (i 0).val := by omega
  show ((∑ t ∈ range 2048, dd t (64 * (((i 0).val * 512 + (i 1).val) / 64 % 8) + ((i 0).val * 512 + (i 1).val) % 64)
    * gW 2048 (Zh p (((i 0).val * 512 + (i 1).val) / 64 % 8)) t (((i 0).val * 512 + (i 1).val) / 512) : ℝ) : EReal) = _
  rw [e, e', e'', show 64 * ((i 1).val / 64) + (i 1).val % 64 = (i 1).val by omega]
  congr 1
  exact Finset.sum_congr rfl fun t _ => mul_comm _ _

/-- The gradient of the keys, in the reference. -/
theorem v53_eq : val_main_v53 (F := Ideal) (wide p) (flat dd) = flat (dK p dd) := by
  funext i
  have h0 : (i 0).val < 2048 := (i 0).isLt
  have h1 : (i 1).val < 512 := (i 1).isLt
  rw [val_main_v53_apply, val_main_v52_apply, v48_apply]
  unfold flat
  rw [dK_eq]
  have e : ((i 0).val * 512 + (i 1).val) / 64 % 8 = (i 1).val / 64 := by omega
  have e' : ((i 0).val * 512 + (i 1).val) % 64 = (i 1).val % 64 := by omega
  have e'' : ((i 0).val * 512 + (i 1).val) / 512 = (i 0).val := by omega
  show ((∑ t ∈ range 2048, gz p dd (((i 0).val * 512 + (i 1).val) / 64 % 8) t (((i 0).val * 512 + (i 1).val) / 512) * (1 / 8)
    * p t (3072 + 64 * (((i 0).val * 512 + (i 1).val) / 64 % 8) + ((i 0).val * 512 + (i 1).val) % 64) : ℝ) : EReal) = _
  rw [e, e', e'', show 3072 + 64 * ((i 1).val / 64) + (i 1).val % 64 = 3072 + (i 1).val by omega]
  congr 1
  refine Finset.sum_congr rfl fun t _ => ?_
  ring

/-- The gradient of the queries, in the reference. -/
theorem v55_eq : val_main_v55 (F := Ideal) (wide p) (flat dd) = flat (dQ p dd) := by
  funext i
  have h0 : (i 0).val < 2048 := (i 0).isLt
  have h1 : (i 1).val < 512 := (i 1).isLt
  rw [val_main_v55_apply, val_main_v54_apply, v49_apply]
  unfold flat
  rw [dQ_eq _ _ _ _ h0]
  have e : ((i 0).val * 512 + (i 1).val) / 64 % 8 = (i 1).val / 64 := by omega
  have e' : ((i 0).val * 512 + (i 1).val) % 64 = (i 1).val % 64 := by omega
  have e'' : ((i 0).val * 512 + (i 1).val) / 512 = (i 0).val := by omega
  show ((∑ s ∈ range 2048, gz p dd (((i 0).val * 512 + (i 1).val) / 64 % 8) (((i 0).val * 512 + (i 1).val) / 512) s * (1 / 8)
    * p s (3584 + 64 * (((i 0).val * 512 + (i 1).val) / 64 % 8) + ((i 0).val * 512 + (i 1).val) % 64) : ℝ) : EReal) = _
  rw [e, e', e'', show 3584 + 64 * ((i 1).val / 64) + (i 1).val % 64 = 3584 + (i 1).val by omega, Finset.sum_mul]
  congr 1
  refine Finset.sum_congr rfl fun t _ => ?_
  ring

end Cert.Sb
-- ==== Proof.Host.lean ====
/-
  The totals that the host prepares for the kernel: each query's sum of the log keep-probabilities over its keys, once per lane of the head.
-/
module

public import proofs.«01_k».proof.Proof.Ref
public import proofs.«01_k».proof.Proof.Grid
public import Idealize.ShloMosaic.Lib.StableHlo.ReadAt
public import Idealize.ShloMosaic.Lib.Pointwise

@[expose] public section

set_option maxRecDepth 16384

noncomputable section

namespace Cert.Sb

open Finset
open Cert.KernelIdeal Cert.KernelIdeal.Gen Idealize.ShloMosaic Idealize.ShloMosaic.TcCoe Idealize.SL.Sem

/-- The sums over the last axis, laid out with every sum on 64 neighbouring lanes. -/
def spread (x : Vec Ideal S8x2048x2048 .f32) : Vec Ideal S2048x512 .f32 :=
  shapeCast S2048x512 (broadcastInDim S2048x8x64 ![0, 1, 2] bcast_S2048x8x1_S2048x8x64_0_1_2 (broadcastInDim S2048x8x1 ![0, 1] bcast_S2048x8_S2048x8x1_0_1
    (transpose S2048x8 [1, 0] (Host.reduceAdd (F := Ideal) x (constant S_ .f32 0x00000000#32) reducesTo_S8x2048x2048_S8x2048_d2 h_S_) transposes_S8x2048_S2048x8_1_0)))
    shapeCasts_S2048x8x64_S2048x512

theorem V_tot (m : (ℓ : Loc nD τ sig) → Buf (Elt Ideal) ℓ) (c : Dev nD) :
    V m c main_v23 = spread (Cert.ReferenceIdeal.Read.val_main_v21_0 (F := Ideal) (m ((c.tc : Thread nD τ).loc main_arg0))) := by
  unfold V
  simp only [hostOps0, hostOps0_1, hostOps0_2, hostOps0_3, hostOps0_4, List.flatten_cons, List.flatten_nil, List.append_nil, List.cons_append, List.nil_append]
  after_reads_simp
  rfl

theorem spread_cube (f : ℕ → ℕ → ℕ → ℝ) : spread (cube f) = flat fun t j => ∑ u ∈ range 2048, f (j / 64) t u := by
  funext i
  have h0 : (i 0).val < 2048 := (i 0).isLt
  have h1 : (i 1).val < 512 := (i 1).isLt
  unfold spread
  pointwise
  exact sum_fin 2048 (fun u => f ((i 1).val / 64) (i 0).val u)

/-- The totals that the kernel is given. -/
theorem V_wide (m : (ℓ : Loc nD τ sig) → Buf (Elt Ideal) ℓ) (c : Dev nD) (p : ℕ → ℕ → ℝ) (h : m ((c.tc : Thread nD τ).loc main_arg0) = wide p) :
    V m c main_v23 = flat (tot p) := by
  rw [V_tot, h]
  refine (congrArg spread (v21_eq p)).trans ?_
  rw [spread_cube]
  congr 1
  funext t j
  rw [tot_eq, Finset.sum_neg_distrib]

end Cert.Sb
-- ==== Proof.Value.lean ====
/-
  The gradients of the queries, keys and values: kernel and reference end with the same real arrays.
-/
module

public import proofs.«01_k».proof.Proof.Finite
public import proofs.«01_k».proof.Proof.Host
public import proofs.«01_k».proof.Proof.Gen.KernelIdeal.Value
public import proofs.«01_k».proof.Proof.Gen.ReferenceIdeal.Run

@[expose] public section

set_option maxRecDepth 16384

noncomputable section

namespace Cert.Sb

open Idealize.ShloMosaic Idealize.ShloMosaic.TcCoe Idealize.SL.Sem

/-- Both programs end with the gradients of the precondition's real arrays. -/
theorem algebraic [hK : Cert.KernelIdeal.Facts] [hR : Cert.ReferenceIdeal.Facts] [hF : Cert.Pre_finite.Facts] :
    Cert.algebraic_KernelIdeal_ReferenceIdeal_pre_finite := by
  intro m g m' g' hpre hagree
  have args : ∀ c : Dev Cert.KernelIdeal.nD, ∃ p dd : ℕ → ℕ → ℝ, m ((c.tc : Thread Cert.KernelIdeal.nD Cert.KernelIdeal.τ).loc Cert.KernelIdeal.main_arg0) = wide p
      ∧ m ((c.tc : Thread Cert.KernelIdeal.nD Cert.KernelIdeal.τ).loc Cert.KernelIdeal.main_arg1) = flat dd := fun c => real_args _ _ (hpre c)
  choose p dd hp hd using args
  refine ⟨fun c => flat (dQ (p c) (dd c)), fun c => flat (dK (p c) (dd c)), fun c => flat (dV (p c) (dd c)), ?_, ?_⟩
  · refine (θ_run Cert.KernelIdeal.defs _ _).mono (fun r h c => ?_) (Cert.KernelIdeal.Value.run_blocks m g)
    have ep := (Cert.KernelIdeal.Gen.V_main_arg0 m c).trans (hp c)
    have ed := (Cert.KernelIdeal.Gen.V_main_arg1 m c).trans (hd c)
    have et := V_wide m c (p c) (hp c)
    exact ⟨(h c).1.trans (fin5 _ _ m c ep ed et), (h c).2.1.trans (fin6 _ _ m c ep ed et), (h c).2.2.1.trans (fin7 _ _ m c ep ed et), (h c).2.2.2.1, (h c).2.2.2.2⟩
  · refine (θ_run Cert.ReferenceIdeal.defs _ _).mono (fun r h c => ?_) (Cert.ReferenceIdeal.Value.run (F := Ideal) m' g')
    have ep := (hagree c).1.trans (hp c)
    have ed := (hagree c).2.trans (hd c)
    refine ⟨(h c).1.trans ?_, (h c).2.1.trans ?_, (h c).2.2.1.trans ?_, (h c).2.2.2.1, (h c).2.2.2.2⟩
    · rw [Cert.ReferenceIdeal.Read.val_main_v55_eq, ep, ed]
      exact v55_eq _ _
    · rw [Cert.ReferenceIdeal.Read.val_main_v53_eq, ep, ed]
      exact v53_eq _ _
    · rw [Cert.ReferenceIdeal.Read.val_main_v51_eq, ep, ed]
      exact v51_eq _ _

end Cert.Sb
-- ==== Proof.DFfAct.lean ====
/-
  The gradient of the up projection's output: the gradient of the activation, times the derivative of the squared positive part.
-/
module

public import proofs.«01_k».proof.Proof.Gen.Kernel2Ideal.Frame
public import proofs.«01_k».proof.Proof.Gen.Reference2Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DFfAct

open Cert.Kernel2Ideal Cert.Kernel2Ideal.Gen Idealize.ShloMosaic Idealize.ShloMosaic.TcCoe Idealize.SL.Sem

variable (m : (l : Loc nD τ sig) → BufTy.Contents (Elt Ideal) l.ty) (c : Dev nD)

theorem ofBits_two : FloatOps.ofBits (F := Ideal) .f32 0x40000000#32 = (2 : EReal) := by
  show Ideal.ofBits .f32 _ = _
  simp [Ideal.ofBits, Ideal.ieee, -EReal.coe_mul]; norm_num; rfl

theorem ofBits_zero : FloatOps.ofBits (F := Ideal) .f32 0x00000000#32 = (0 : EReal) := by
  show Ideal.ofBits .f32 _ = _
  rw [Ideal.ofBits_zero_f32]

/-- The derivative of the squared positive part, in both spellings. -/
theorem act (z d : EReal) : Scalar.select (FloatOps.cmpf (F := Ideal) (φ := .f32) .ogt z (0 : EReal)) (max z 0 * d + d * max z 0) (0 : EReal) = d * (2 * max z 0) := by
  rw [Ideal.cmpf_def]
  by_cases h : 0 < z
  · have e : max z 0 = z := max_eq_left h.le
    have e2 : (2 : EReal) * z = z + z := by
      rw [show (2 : EReal) = 1 + 1 from one_add_one_eq_two.symm, EReal.right_distrib_of_nonneg zero_le_one zero_le_one, one_mul]
    have e1 : Ideal.cmp .ogt z 0 = 1#1 := by simp [Ideal.cmp, h]
    rw [e1, e, e2, EReal.left_distrib_of_nonneg h.le h.le, mul_comm z d]
    rfl
  · have e : max z 0 = 0 := max_eq_right (not_lt.mp h)
    have e1 : Ideal.cmp .ogt z 0 = 0#1 := by simp [Ideal.cmp, h]
    rw [e1, e, mul_zero, mul_zero, mul_zero]
    rfl

/-- What one grid point stores. -/
theorem block (x0 : Vec Ideal S1024x1024 .bf16) (x1 : Vec Ideal S1024x1024 .bf16) (x2 : Vec Ideal S1024x1024 .bf16) (y : S1024x1024.Idx) :
    out0_3 x0 x1 x2 y = (∑ k : Fin 1024, x0 (ix2 (y 0) k) * x1 (ix2 (y 1) k)) * (2 * x2 y) := by
  unfold out0_3
  rw [View.canon_unit_zero (by decide), View.ld_unit_zero (by decide), View.ld_unit_zero (by decide), View.ld_unit_zero (by decide)]
  unfold k0_pay1
  pointwise
  rw [← ofBits_two]
  rfl

/-- Every window's block index at each point. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- The left operand, whole -/
def leftA : S2048x1024.Idx → EReal := (m ((c.tc : Thread nD τ).loc main_arg1))

theorem left : V m c main_v2 = leftA m c := by
  unfold V V0
  simp only [hostOps0, hostOps0_1, List.flatten_cons, List.flatten_nil, List.append_nil, List.cons_append, List.nil_append]
  after_reads_simp
  rfl

/-- The right operand, whole -/
def rightA : S4096x1024.Idx → EReal := (m ((c.tc : Thread nD τ).loc main_arg2))

theorem right : V m c main_v3 = rightA m c := by
  unfold V V0
  simp only [hostOps0, hostOps0_1, List.flatten_cons, List.flatten_nil, List.append_nil, List.cons_append, List.nil_append]
  after_reads_simp
  rfl

/-- The positive part, whole -/
def posA : S2048x4096.Idx → EReal := Cert.Reference2Ideal.Read.val_main_v0 (F := Ideal) (m ((c.tc : Thread nD τ).loc main_arg0))

theorem pos : V m c main_v1 = posA m c := by
  unfold V V0
  simp only [hostOps0, hostOps0_1, List.flatten_cons, List.flatten_nil, List.append_nil, List.cons_append, List.nil_append]
  after_reads_simp
  rfl

/-- The reference's array, for the kernel's arguments. -/
def goal : S2048x4096.Idx → EReal :=
  Cert.Reference2Ideal.Read.val_main_v11 (F := Ideal) (m ((c.tc : Thread nD τ).loc main_arg0)) (m ((c.tc : Thread nD τ).loc main_arg1)) (m ((c.tc : Thread nD τ).loc main_arg2))

theorem goal_apply (i : S2048x4096.Idx) : goal m c i = (∑ k : Fin 1024, leftA m c (ix2 (i 0) k) * rightA m c (ix2 (i 1) k)) * (2 * posA m c i) := by
  have e : (∑ k : Fin 1024, leftA m c (ix2 (i 0) k) * rightA m c (ix2 (i 1) k)) = Cert.Reference2Ideal.Read.val_main_v6 (F := Ideal) (m ((c.tc : Thread nD τ).loc main_arg1)) (m ((c.tc : Thread nD τ).loc main_arg2)) i := by
    rw [Cert.Reference2Ideal.Read.val_main_v6_apply]
    refine Finset.sum_congr rfl fun k _ => ?_
    refine congrArg₂ (· * ·) (congrArg _ (funext fun a => ?_)) (congrArg _ (funext fun a => ?_)) <;> match a with
      | ⟨0, _⟩ => rfl
      | ⟨1, _⟩ => rfl
  rw [e]
  unfold goal posA
  rw [Cert.Reference2Ideal.Read.val_main_v11_apply, Cert.Reference2Ideal.Read.val_main_v2_apply, Cert.Reference2Ideal.Read.val_main_v9_apply, Cert.Reference2Ideal.Read.val_main_v7_apply, Cert.Reference2Ideal.Read.val_main_v8_apply, Cert.Reference2Ideal.Read.val_main_v10_apply,
    Cert.Reference2Ideal.Read.val_main_v1_apply, Cert.Reference2Ideal.Read.val_main_cst_apply, Cert.Reference2Ideal.Read.val_main_cst_1_apply, Cert.Reference2Ideal.Read.val_main_v0_apply, Cert.Reference2Ideal.Read.val_main_call0_v0_apply, Cert.Reference2Ideal.Read.val_main_call0_cst_apply, ofBits_zero]
  exact act _ _

/-- The result array once every block is written back. -/
theorem arr : (dats m 0 c).arrAt 3 cfg0.N = goal m c := by
  refine (dats m 0 c).arrAt_eq_of_cover 3 (goal m c) (fun t _ => ?_) (fun i => ?_)
  · funext y
    show (cfg0.win 3).cut (grid0.coords t) ((dats m 0 c).after 3 t) y = goal m c (((cfg0.win 3).blk t).view.emb y)
    rw [after0_3]
    refine (block _ _ _ y).trans ?_
    rw [goal_apply]
    refine congrArg₂ (· * ·) (Finset.sum_congr rfl fun k _ => congrArg₂ (· * ·) ?_ ?_) (congrArg _ ?_)
    · show V m c main_v2 (((cfg0.win 0).blk t).view.emb (ix2 (y 0) k)) = _
      rw [left]
      refine congrArg _ (funext fun a => Fin.ext ?_)
      match a with
      | ⟨0, _⟩ =>
        blk_simp [idx t]
        try omega
      | ⟨1, _⟩ =>
        blk_simp [idx t]
        try omega
    · show V m c main_v3 (((cfg0.win 1).blk t).view.emb (ix2 (y 1) k)) = _
      rw [right]
      refine congrArg _ (funext fun a => Fin.ext ?_)
      match a with
      | ⟨0, _⟩ =>
        blk_simp [idx t]
        try omega
      | ⟨1, _⟩ =>
        blk_simp [idx t]
        try omega
    · show V m c main_v1 (((cfg0.win 2).blk t).view.emb (y)) = _
      rw [pos]
      refine congrArg _ (funext fun a => Fin.ext ?_)
      match a with
      | ⟨0, _⟩ =>
        blk_simp [idx t]
        try omega
      | ⟨1, _⟩ =>
        blk_simp [idx t]
        try omega
  · have hi0 : (i 0).val < 2048 := (i 0).isLt
    have hi1 : (i 1).val < 4096 := (i 1).isLt
    have hN : cfg0.N = 8 := N_0
    refine ⟨⟨4 * ((i 0).val / 1024) + (i 1).val / 1024, by omega⟩, flush0_3 _, ?_⟩
    set t : Fin cfg0.N := ⟨4 * ((i 0).val / 1024) + (i 1).val / 1024, by omega⟩ with ht
    have tv : t.val = 4 * ((i 0).val / 1024) + (i 1).val / 1024 := rfl
    refine ((cfg0.win 3).emb_mem_blk_iff t i).mpr fun a => ?_
    show win0_3.index t a * S1024x1024.size a ≤ (i a).val ∧ (i a).val < win0_3.index t a * S1024x1024.size a + S1024x1024.size a
    rw [(idx t).2.2.2]
    match a with
    | ⟨0, _⟩ =>
      show (t.val / 4) * 1024 ≤ (i 0).val ∧ (i 0).val < (t.val / 4) * 1024 + 1024
      omega
    | ⟨1, _⟩ =>
      show (t.val % 4) * 1024 ≤ (i 1).val ∧ (i 1).val < (t.val % 4) * 1024 + 1024
      omega

/-- The result buffer after the host's last line. -/
theorem tail : Pipeline.afterTail₀ cfgs (dats m) 0 (V0 m) [hostOps1] c main_v5 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 3
  funext i
  exact congrFun (e.trans (arr m c)) i

/-- Both programs end with the gradient of the up projection's output. -/
theorem algebraic [hK : Cert.Kernel2Ideal.Facts] [hR : Cert.Reference2Ideal.Facts] : Cert.algebraic_Kernel2Ideal_Reference2Ideal := by
  intro m g m' g' _ hagree
  refine ⟨fun c => goal m c, ?_, ?_⟩
  · refine (θ_run Cert.Kernel2Ideal.defs _ _).mono (fun r h c => ?_) (run_main m g)
    exact ⟨((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run Cert.Reference2Ideal.defs _ _).mono (fun r h c => ?_) (Cert.Reference2Ideal.Value.run (F := Ideal) m' g')
    refine ⟨(h c).1.trans ?_, (h c).2.1, (h c).2.2.1, (h c).2.2.2⟩
    rw [Cert.Reference2Ideal.Read.val_main_v11_eq, (hagree c).1, (hagree c).2.1, (hagree c).2.2]
    rfl

end Cert.DFfAct
-- ==== Proof.DWFfDown.lean ====
/-
  The gradient of the down projection's weight: the product of the squared positive parts, transposed, with the residual's gradient.
-/
module

public import proofs.«01_k».proof.Proof.Gen.Kernel3Ideal.Frame
public import proofs.«01_k».proof.Proof.Gen.Reference3Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DWFfDown

open Cert.Kernel3Ideal Cert.Kernel3Ideal.Gen Idealize.ShloMosaic Idealize.ShloMosaic.TcCoe Idealize.SL.Sem

variable (m : (l : Loc nD τ sig) → BufTy.Contents (Elt Ideal) l.ty) (c : Dev nD)

/-- What one grid point stores: the whole sum over the tokens. -/
theorem block (x0 : Vec Ideal S2048x1024 .bf16) (x1 : Vec Ideal S2048x1024 .bf16) (y : S1024x1024.Idx) :
    out0_2 x0 x1 y = ∑ k : Fin 2048, x0 (ix2 k (y 0)) * x1 (ix2 k (y 1)) := by
  unfold out0_2
  rw [View.canon_unit_zero (by decide), View.ld_unit_zero (by decide), View.ld_unit_zero (by decide)]
  unfold k0_pay1
  pointwise

/-- Every window's block index at each point. -/
theorem idx : ∀ t : Fin cfg0.N, win0_0.index t = ![0, t.val] ∧ win0_1.index t = ![0, 0] ∧ win0_2.index t = ![t.val, 0] :=
  (by decide +kernel : ∀ t : Fin grid0.N, _)

/-- The left operand's array when the region is entered. -/
theorem left : V m c main_v2 = (Cert.Reference3Ideal.Read.val_main_v2 (F := Ideal) (m ((c.tc : Thread nD τ).loc main_arg0)) : S2048x4096.Idx → EReal) := by
  unfold V V0
  simp only [hostOps0, hostOps0_1, List.flatten_cons, List.flatten_nil, List.append_nil, List.cons_append, List.nil_append]
  after_reads_simp
  rfl

/-- The right operand's array when the region is entered. -/
theorem right : V m c main_v3 = (m ((c.tc : Thread nD τ).loc main_arg1) : S2048x1024.Idx → EReal) := by
  unfold V V0
  simp only [hostOps0, hostOps0_1, List.flatten_cons, List.flatten_nil, List.append_nil, List.cons_append, List.nil_append]
  after_reads_simp
  rfl

/-- The reference's array, for the kernel's arguments. -/
def goal : S4096x1024.Idx → EReal :=
  Cert.Reference3Ideal.Read.val_main_v5 (F := Ideal) (m ((c.tc : Thread nD τ).loc main_arg0)) (m ((c.tc : Thread nD τ).loc main_arg1))

theorem goal_apply (i : S4096x1024.Idx) : goal m c i = ∑ k : Fin 2048,
    (Cert.Reference3Ideal.Read.val_main_v2 (F := Ideal) (m ((c.tc : Thread nD τ).loc main_arg0)) : S2048x4096.Idx → EReal) (ix2 k (i 0))
      * (m ((c.tc : Thread nD τ).loc main_arg1) : S2048x1024.Idx → EReal) (ix2 k (i 1)) := by
  unfold goal
  rw [Cert.Reference3Ideal.Read.val_main_v5_apply, Cert.Reference3Ideal.Read.val_main_v4_apply]
  refine Finset.sum_congr rfl fun k _ => ?_
  rw [mul_comm]
  congr 1 <;> congr 1 <;> funext a <;> match a with
    | ⟨0, _⟩ => rfl
    | ⟨1, _⟩ => rfl

/-- The result array once every block is written back. -/
theorem arr : (dats m 0 c).arrAt 2 cfg0.N = goal m c := by
  refine (dats m 0 c).arrAt_eq_of_cover 2 (goal m c) (fun t _ => ?_) (fun i => ?_)
  · funext y
    show (cfg0.win 2).cut (grid0.coords t) ((dats m 0 c).after 2 t) y = goal m c (((cfg0.win 2).blk t).view.emb y)
    rw [after0_2]
    refine (block _ _ y).trans ?_
    rw [goal_apply]
    refine Finset.sum_congr rfl fun k _ => ?_
    refine congrArg₂ (· * ·) ?_ ?_
    · show V m c main_v2 (((cfg0.win 0).blk t).view.emb (ix2 k (y 0))) = _
      rw [left]
      refine congrArg _ (funext fun a => Fin.ext ?_)
      match a with
      | ⟨0, _⟩ =>
        blk_simp [idx t]
        try omega
      | ⟨1, _⟩ =>
        blk_simp [idx t]
        try omega
    · show V m c main_v3 (((cfg0.win 1).blk t).view.emb (ix2 k (y 1))) = _
      rw [right]
      refine congrArg _ (funext fun a => Fin.ext ?_)
      match a with
      | ⟨0, _⟩ =>
        blk_simp [idx t]
        try omega
      | ⟨1, _⟩ =>
        blk_simp [idx t]
        try omega
  · have hi0 : (i 0).val < 4096 := (i 0).isLt
    have hi1 : (i 1).val < 1024 := (i 1).isLt
    have hN : cfg0.N = 4 := N_0
    refine ⟨⟨(i 0).val / 1024, by omega⟩, flush0_2 _, ?_⟩
    set t : Fin cfg0.N := ⟨(i 0).val / 1024, by omega⟩ with ht
    have tv : t.val = (i 0).val / 1024 := rfl
    refine ((cfg0.win 2).emb_mem_blk_iff t i).mpr fun a => ?_
    show win0_2.index t a * S1024x1024.size a ≤ (i a).val ∧ (i a).val < win0_2.index t a * S1024x1024.size a + S1024x1024.size a
    rw [(idx t).2.2]
    match a with
    | ⟨0, _⟩ =>
      show t.val * 1024 ≤ (i 0).val ∧ (i 0).val < t.val * 1024 + 1024
      omega
    | ⟨1, _⟩ =>
      show 0 * 1024 ≤ (i 1).val ∧ (i 1).val < 0 * 1024 + 1024
      omega

/-- The result buffer after the host's last line. -/
theorem tail : Pipeline.afterTail₀ cfgs (dats m) 0 (V0 m) [hostOps1] c main_v5 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 2
  funext i
  exact congrFun (e.trans (arr m c)) i

/-- Both programs end with the gradient of the weight. -/
theorem algebraic [hK : Cert.Kernel3Ideal.Facts] [hR : Cert.Reference3Ideal.Facts] : Cert.algebraic_Kernel3Ideal_Reference3Ideal := by
  intro m g m' g' _ hagree
  refine ⟨fun c => goal m c, ?_, ?_⟩
  · refine (θ_run Cert.Kernel3Ideal.defs _ _).mono (fun r h c => ?_) (run_main m g)
    exact ⟨((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩
  · refine (θ_run Cert.Reference3Ideal.defs _ _).mono (fun r h c => ?_) (Cert.Reference3Ideal.Value.run (F := Ideal) m' g')
    refine ⟨(h c).1.trans ?_, (h c).2.1, (h c).2.2⟩
    rw [Cert.Reference3Ideal.Read.val_main_v5_eq, (hagree c).1, (hagree c).2]
    rfl

end Cert.DWFfDown
-- ==== Proof.DWFfUp.lean ====
/-
  The gradient of the up projection's weight: the normalised rows, transposed, times the gradient of the projection.
-/
module

public import proofs.«01_k».proof.Proof.Gen.Kernel4Ideal.Frame
public import proofs.«01_k».proof.Proof.Gen.Reference4Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DWFfUp

open Cert.Kernel4Ideal Cert.Kernel4Ideal.Gen Idealize.ShloMosaic Idealize.ShloMosaic.TcCoe Idealize.SL.Sem

variable (m : (l : Loc nD τ sig) → BufTy.Contents (Elt Ideal) l.ty) (c : Dev nD)

/-- What one grid point stores: the whole sum. -/
theorem block (x0 : Vec Ideal S2048x1024 .bf16) (x1 : Vec Ideal S2048x1024 .bf16) (y : S1024x1024.Idx) :
    out0_2 x0 x1 y = ∑ k : Fin 2048, x0 (ix2 k (y 0)) * x1 (ix2 k (y 1)) := by
  unfold out0_2
  rw [View.canon_unit_zero (by decide), View.ld_unit_zero (by decide), View.ld_unit_zero (by decide)]
  unfold k0_pay1
  pointwise

/-- Every window's block index at each point. -/
theorem idx : ∀ t : Fin cfg0.N, win0_0.index t = ![0, 0] ∧ win0_1.index t = ![0, t.val] ∧ win0_2.index t = ![0, t.val] :=
  (by decide +kernel : ∀ t : Fin grid0.N, _)

/-- The left operand, whole. -/
def leftA : S2048x1024.Idx → EReal := Cert.Reference4Ideal.Read.val_main_v12 (F := Ideal) (m ((c.tc : Thread nD τ).loc main_arg0)) (m ((c.tc : Thread nD τ).loc main_arg2))

theorem left : V m c main_v12 = leftA m c := by
  unfold V V0
  simp only [hostOps0, List.flatten_cons, List.flatten_nil, List.append_nil, List.cons_append, List.nil_append]
  after_reads_simp
  rfl

/-- The right operand, whole. -/
def rightA : S2048x4096.Idx → EReal := (m ((c.tc : Thread nD τ).loc main_arg1))

theorem right : V m c main_v13 = rightA m c := by
  unfold V V0
  simp only [hostOps0, List.flatten_cons, List.flatten_nil, List.append_nil, List.cons_append, List.nil_append]
  after_reads_simp
  rfl

/-- The reference's array, for the kernel's arguments. -/
def goal : S1024x4096.Idx → EReal :=
  Cert.Reference4Ideal.Read.val_main_v15 (F := Ideal) (m ((c.tc : Thread nD τ).loc main_arg0)) (m ((c.tc : Thread nD τ).loc main_arg1)) (m ((c.tc : Thread nD τ).loc main_arg2))

theorem goal_apply (i : S1024x4096.Idx) : goal m c i = ∑ k : Fin 2048,
    leftA m c (ix2 k (i 0)) * rightA m c (ix2 k (i 1)) := by
  unfold goal
  rw [Cert.Reference4Ideal.Read.val_main_v15_apply, Cert.Reference4Ideal.Read.val_main_v14_apply]
  refine Finset.sum_congr rfl fun k _ => ?_
  rw [mul_comm]
  refine congrArg₂ (· * ·) (congrArg _ (funext fun a => ?_)) (congrArg _ (funext fun a => ?_)) <;> match a with
    | ⟨0, _⟩ => rfl
    | ⟨1, _⟩ => rfl

/-- The result array once every block is written back. -/
theorem arr : (dats m 0 c).arrAt 2 cfg0.N = goal m c := by
  refine (dats m 0 c).arrAt_eq_of_cover 2 (goal m c) (fun t _ => ?_) (fun i => ?_)
  · funext y
    show (cfg0.win 2).cut (grid0.coords t) ((dats m 0 c).after 2 t) y = goal m c (((cfg0.win 2).blk t).view.emb y)
    rw [after0_2]
    refine (block _ _ y).trans ?_
    rw [goal_apply]
    refine Finset.sum_congr rfl fun k _ => ?_
    refine congrArg₂ (· * ·) ?_ ?_
    · show V m c main_v12 (((cfg0.win 0).blk t).view.emb (ix2 k (y 0))) = _
      rw [left]
      refine congrArg _ (funext fun a => Fin.ext ?_)
      match a with
      | ⟨0, _⟩ =>
        blk_simp [idx t]
        try omega
      | ⟨1, _⟩ =>
        blk_simp [idx t]
        try omega
    · show V m c main_v13 (((cfg0.win 1).blk t).view.emb (ix2 k (y 1))) = _
      rw [right]
      refine congrArg _ (funext fun a => Fin.ext ?_)
      match a with
      | ⟨0, _⟩ =>
        blk_simp [idx t]
        try omega
      | ⟨1, _⟩ =>
        blk_simp [idx t]
        try omega
  · have hi0 : (i 0).val < 1024 := (i 0).isLt
    have hi1 : (i 1).val < 4096 := (i 1).isLt
    have hN : cfg0.N = 4 := N_0
    refine ⟨⟨(i 1).val / 1024, by omega⟩, flush0_2 _, ?_⟩
    set t : Fin cfg0.N := ⟨(i 1).val / 1024, by omega⟩ with ht
    have tv : t.val = (i 1).val / 1024 := rfl
    refine ((cfg0.win 2).emb_mem_blk_iff t i).mpr fun a => ?_
    show win0_2.index t a * S1024x1024.size a ≤ (i a).val ∧ (i a).val < win0_2.index t a * S1024x1024.size a + S1024x1024.size a
    rw [(idx t).2.2]
    match a with
    | ⟨0, _⟩ =>
      show 0 * 1024 ≤ (i 0).val ∧ (i 0).val < 0 * 1024 + 1024
      omega
    | ⟨1, _⟩ =>
      show t.val * 1024 ≤ (i 1).val ∧ (i 1).val < t.val * 1024 + 1024
      omega

/-- The result buffer after the host's last line. -/
theorem tail : Pipeline.afterTail₀ cfgs (dats m) 0 (V0 m) [hostOps1] c main_v15 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 2
  funext i
  exact congrFun (e.trans (arr m c)) i

/-- Both programs end with the gradient of the weight. -/
theorem algebraic [hK : Cert.Kernel4Ideal.Facts] [hR : Cert.Reference4Ideal.Facts] : Cert.algebraic_Kernel4Ideal_Reference4Ideal := by
  intro m g m' g' _ hagree
  refine ⟨fun c => goal m c, ?_, ?_⟩
  · refine (θ_run Cert.Kernel4Ideal.defs _ _).mono (fun r h c => ?_) (run_main m g)
    exact ⟨((h c).2 main_v15 (Pipeline.mem_restRefs_of main_v15 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run Cert.Reference4Ideal.defs _ _).mono (fun r h c => ?_) (Cert.Reference4Ideal.Value.run (F := Ideal) m' g')
    refine ⟨(h c).1.trans ?_, (h c).2.1, (h c).2.2.1, (h c).2.2.2⟩
    rw [Cert.Reference4Ideal.Read.val_main_v15_eq, (hagree c).1, (hagree c).2.1, (hagree c).2.2]
    rfl

end Cert.DWFfUp
-- ==== Proof.NormTail.lean ====
/-
  The gradient through a root-mean-square norm, for one row: the form with one factor taken out and the form that
  differentiating line by line gives are one extended real, whatever the row holds.
-/
module

public import Idealize.ShloMosaic.PureOps.Ideal
public import Idealize.ShloMosaic.Lib.Pointwise

@[expose] public section

noncomputable section

namespace Cert.NormTail

open Idealize.ShloMosaic

/-- The row's mean square and the small constant. -/
def meanSq (e : ℝ) (x : Fin 1024 → EReal) : EReal := Ideal.div (∑ k, x k * x k) ((1024 : ℝ) : EReal) + (e : EReal)

/-- The row's scale. -/
def scale (e : ℝ) (x : Fin 1024 → EReal) : EReal := Ideal.rsqrt (meanSq e x)

/-- The gradient with the scale taken out, and the gradient that goes past the norm. -/
def factored (e : ℝ) (x d : Fin 1024 → EReal) (a : EReal) (j : Fin 1024) : EReal :=
  scale e x * (d j - (x j * scale e x) * Ideal.div (∑ k, d k * (x k * scale e x)) ((1024 : ℝ) : EReal)) + a

/-- The gradient of the mean square's element. -/
def inner (e : ℝ) (x d : Fin 1024 → EReal) : EReal :=
  Ideal.div ((∑ k, x k * d k) * (((-(1/2) : ℝ) : EReal) * Ideal.div (scale e x) (meanSq e x))) ((1024 : ℝ) : EReal)

/-- The gradient as differentiating line by line leaves it. -/
def plain (e : ℝ) (x d : Fin 1024 → EReal) (a : EReal) (j : Fin 1024) : EReal :=
  ((a + d j * scale e x) + x j * inner e x d) + inner e x d * x j

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem sum_mul {n : ℕ} (f : Fin n → EReal) (r : ℝ) (hr : 0 ≤ r) : (∑ k, f k * (r : EReal)) = (∑ k, f k) * (r : EReal) := by
  have h : (0 : EReal) ≤ (r : EReal) := EReal.coe_nonneg.mpr hr
  induction n with
  | zero => simp
  | succ n ih =>
    rw [Fin.sum_univ_succ, Fin.sum_univ_succ, ih, mul_comm _ (r : EReal), mul_comm _ (r : EReal), mul_comm _ (r : EReal),
      EReal.left_distrib_of_nonneg_of_ne_top h (EReal.coe_ne_top r)]

theorem div_real (X : EReal) : Ideal.div X ((1024 : ℝ) : EReal) = X * ((1/1024 : ℝ) : EReal) := by
  have h : ((1024 : ℝ) : EReal) ≠ 0 := fun h => by
    have := EReal.coe_eq_zero.mp h
    norm_num at this
  unfold Ideal.div
  rw [if_neg h, ← EReal.coe_inv]
  norm_num

theorem twice (X : EReal) : X + X = X * ((2 : ℝ) : EReal) := by
  induction X with
  | bot => rw [EReal.bot_mul_coe_of_pos (by norm_num)]; rfl
  | top => rw [EReal.top_mul_coe_of_pos (by norm_num)]; rfl
  | coe x => rw [← EReal.coe_add, ← EReal.coe_mul]; congr 1; ring

theorem sq_nonneg (x : EReal) : 0 ≤ x * x := by
  induction x with
  | bot => simp
  | top => simp
  | coe x => rw [← EReal.coe_mul]; exact EReal.coe_nonneg.mpr (mul_self_nonneg x)

/-- A row with an infinite element: its mean square is infinite and its scale zero. -/
theorem meanSq_top (e : ℝ) (x : Fin 1024 → EReal) (k : Fin 1024) (h : x k = ⊤ ∨ x k = ⊥) : meanSq e x = ⊤ := by
  have hk : x k * x k = ⊤ := by rcases h with h | h <;> rw [h] <;> simp
  have hs : ∑ k, x k * x k = ⊤ := by
    refine top_le_iff.mp ?_
    rw [← hk]
    exact Finset.single_le_sum (f := fun k => x k * x k) (fun k _ => sq_nonneg (x k)) (Finset.mem_univ k)
  unfold meanSq
  rw [hs, div_real, EReal.top_mul_coe_of_pos (by norm_num), EReal.top_add_coe]

theorem plain_eq_factored (e : ℝ) (he : 0 < e) (x d : Fin 1024 → EReal) (a : EReal) (j : Fin 1024) : plain e x d a j = factored e x d a j := by
  by_cases h : ∃ k, x k = ⊤ ∨ x k = ⊥
  · obtain ⟨k, hk⟩ := h
    have hm := meanSq_top e x k hk
    have hr : scale e x = 0 := by unfold scale; rw [hm]; rfl
    have hi : inner e x d = 0 := by
      unfold inner
      rw [hr, hm, show Ideal.div (0 : EReal) ⊤ = 0 from by unfold Ideal.div; rw [if_neg (by simp)]; simp, mul_zero, mul_zero, div_real, zero_mul]
    unfold plain factored
    rw [hr, hi]
    simp
  · have hx : ∀ k, ∃ y : ℝ, x k = (y : EReal) := fun k => by
      have h1 : x k ≠ ⊤ := fun hh => h ⟨k, .inl hh⟩
      have h2 : x k ≠ ⊥ := fun hh => h ⟨k, .inr hh⟩
      exact ⟨(x k).toReal, (EReal.coe_toReal h1 h2).symm⟩
    choose y hy using hx
    obtain rfl : x = fun k => ((y k : ℝ) : EReal) := funext hy
    have hm : meanSq e (fun k => ((y k : ℝ) : EReal)) = (((∑ k, y k * y k) / 1024 + e : ℝ) : EReal) := by
      unfold meanSq
      rw [show (∑ k, ((y k : ℝ) : EReal) * ((y k : ℝ) : EReal)) = ((∑ k, y k * y k : ℝ) : EReal) from by
        rw [← coe_sum]; exact Finset.sum_congr rfl fun k _ => (EReal.coe_mul _ _).symm]
      rw [div_real, ← EReal.coe_mul, ← EReal.coe_add]
      congr 1
      ring
    set w : ℝ := (∑ k, y k * y k) / 1024 + e with hw
    have wpos : 0 < w := by
      have : 0 ≤ ∑ k, y k * y k := Finset.sum_nonneg fun k _ => mul_self_nonneg (y k)
      rw [hw]; positivity
    set r : ℝ := (Real.sqrt w)⁻¹ with hrdef
    have rpos : 0 < r := inv_pos.mpr (Real.sqrt_pos.mpr wpos)
    have hr : scale e (fun k => ((y k : ℝ) : EReal)) = (r : EReal) := by
      unfold scale
      rw [hm, Ideal.rsqrt_coe, if_neg (not_lt.mpr wpos.le), if_neg wpos.ne']
    have hrr : r * r = w⁻¹ := by
      rw [hrdef, ← mul_inv, Real.mul_self_sqrt wpos.le]
    have hdv : Ideal.div (r : EReal) (w : EReal) = ((r * (r * r) : ℝ) : EReal) := by
      unfold Ideal.div
      rw [if_neg (fun h => wpos.ne' (EReal.coe_eq_zero.mp h)), ← EReal.coe_inv, ← EReal.coe_mul, hrr]
    have h0 : (0 : EReal) ≤ (r : EReal) := EReal.coe_nonneg.mpr rpos.le
    unfold plain factored inner
    rw [hr, hm, hdv]
    set T : EReal := ∑ k, ((y k : ℝ) : EReal) * d k with hT
    have hS : (∑ k, d k * (((y k : ℝ) : EReal) * (r : EReal))) = T * (r : EReal) := by
      rw [hT, ← sum_mul _ r rpos.le]
      exact Finset.sum_congr rfl fun k _ => by rw [← mul_assoc, mul_comm (d k)]
    rw [hS, div_real, div_real, sub_eq_add_neg, EReal.left_distrib_of_nonneg_of_ne_top h0 (EReal.coe_ne_top r)]
    have e1 : (T * (((-(1/2) : ℝ) : EReal) * ((r * (r * r) : ℝ) : EReal))) * ((1/1024 : ℝ) : EReal) = T * ((-(1/2) * (r * (r * r)) * (1/1024) : ℝ) : EReal) := by
      rw [← EReal.coe_mul, mul_assoc, ← EReal.coe_mul]
    rw [e1]
    have e2 : ((y j : ℝ) : EReal) * (T * ((-(1/2) * (r * (r * r)) * (1/1024) : ℝ) : EReal)) = T * ((y j * (-(1/2) * (r * (r * r)) * (1/1024)) : ℝ) : EReal) := by
      rw [mul_left_comm, ← EReal.coe_mul]
    have e3 : (T * ((-(1/2) * (r * (r * r)) * (1/1024) : ℝ) : EReal)) * ((y j : ℝ) : EReal) = T * ((y j * (-(1/2) * (r * (r * r)) * (1/1024)) : ℝ) : EReal) := by
      rw [mul_comm, e2]
    have e4 : (r : EReal) * -((((y j : ℝ) : EReal) * (r : EReal)) * (T * (r : EReal) * ((1/1024 : ℝ) : EReal))) = T * ((-(r * (y j * r * (r * (1/1024)))) : ℝ) : EReal) := by
      rw [mul_assoc T, ← EReal.coe_mul, ← EReal.coe_mul, mul_left_comm _ T, ← EReal.coe_mul, mul_neg, mul_left_comm _ T, ← EReal.coe_mul, ← mul_neg, ← EReal.coe_neg]
    rw [e2, e3, e4, add_assoc (a + d j * (r : EReal)), twice, mul_assoc T, ← EReal.coe_mul, mul_comm (d j), add_assoc a, add_comm a]
    congr 4
    ring

/-- The small constant of the norm. -/
def eps : ℝ := 8796093 / 8796093022208

theorem eps_pos : 0 < eps := by unfold eps; norm_num

theorem ofBits_eps : FloatOps.ofBits (F := Ideal) .f32 0x358637BD#32 = ((eps : ℝ) : EReal) := by
  show Ideal.ofBits .f32 _ = _
  unfold eps
  simp [Ideal.ofBits, Ideal.ieee, -EReal.coe_mul]
  norm_num

theorem ofBits_n : FloatOps.ofBits (F := Ideal) .f32 0x44800000#32 = ((1024 : ℝ) : EReal) := by
  show Ideal.ofBits .f32 _ = _
  simp [Ideal.ofBits, Ideal.ieee, -EReal.coe_mul]
  norm_num

theorem ofBits_zero : FloatOps.ofBits (F := Ideal) .f32 0x00000000#32 = (0 : EReal) := by
  show Ideal.ofBits .f32 _ = _
  rw [Ideal.ofBits_zero_f32]

theorem ofBits_half : FloatOps.ofBits (F := Ideal) .f32 0xBF000000#32 = ((-(1/2) : ℝ) : EReal) := by
  show Ideal.ofBits .f32 _ = _
  simp [Ideal.ofBits, Ideal.ieee, -EReal.coe_mul]
  norm_num

/-- A sum over a + b positions is one over the first a and one over the rest. -/
theorem sum_append {a b n : ℕ} (h : a + b = n) (f : Fin n → EReal) :
    ∑ k, f k = ∑ k : Fin a, f ⟨k.val, by omega⟩ + ∑ k : Fin b, f ⟨a + k.val, by omega⟩ := by
  subst h
  exact Fin.sum_univ_add f

/-- Row sums kept in each eighth row add up to the sum over all rows. -/
theorem rows_total (f : Fin 2048 → EReal) (g : Fin 32 → EReal)
    (hg : ∀ r : Fin 32, g r = if r.val % 8 = 0 then ∑ a : Fin 512, f ⟨512 * (r.val / 8) + a.val, by omega⟩ else 0) :
    ∑ r, g r = ∑ s, f s := by
  rw [sum_append (a := 512) (b := 1536) rfl f, sum_append (a := 512) (b := 1024) (n := 1536) rfl, sum_append (a := 512) (b := 512) (n := 1024) rfl]
  rw [show (∑ r, g r) = g 0 + g 8 + g 16 + g 24 from by
    rw [← Finset.sum_subset (Finset.subset_univ ({0, 8, 16, 24} : Finset (Fin 32))) fun r _ hr => by
      rw [hg r, if_neg (by revert r; decide)]]
    rw [Finset.sum_insert (by decide), Finset.sum_insert (by decide), Finset.sum_insert (by decide), Finset.sum_singleton]
    simp only [add_assoc]]
  rw [(hg 0).trans (if_pos rfl), (hg 8).trans (if_pos rfl), (hg 16).trans (if_pos rfl), (hg 24).trans (if_pos rfl)]
  simp only [add_assoc]
  refine congrArg₂ (· + ·) ?_ (congrArg₂ (· + ·) ?_ (congrArg₂ (· + ·) ?_ ?_)) <;> refine Finset.sum_congr rfl fun k _ => congrArg f (Fin.ext ?_)
  · exact Nat.zero_add _
  · rfl
  · show 1024 + k.val = 512 + (512 + k.val)
    omega
  · show 1536 + k.val = 512 + (512 + (512 + k.val))
    omega

end Cert.NormTail

end
-- ==== Proof.DMlpIn.lean ====
/-
  The gradient of the rows before the second norm, and of that norm's gains: the product with the up projection's weights, then
  back through the norm.
-/
module

public import proofs.«01_k».proof.Proof.Gen.Kernel5Ideal.Frame
public import proofs.«01_k».proof.Proof.Gen.Reference5Ideal.Read
public import proofs.«01_k».proof.Defs
public import proofs.«01_k».proof.Proof.NormTail
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DMlpIn

open Cert.Kernel5Ideal Cert.Kernel5Ideal.Gen Idealize.ShloMosaic Idealize.ShloMosaic.TcCoe Idealize.SL.Sem

open Cert.NormTail

variable (m : (l : Loc nD τ sig) → BufTy.Contents (Elt Ideal) l.ty) (c : Dev nD)

theorem hz : (![0, 0] : Fin 2 → Nat) = fun _ => 0 := funext fun a => by fin_cases a <;> rfl

theorem pay1 (x0 : Vec Ideal S512x2048 .bf16) (x1 : Vec Ideal S1024x2048 .bf16) (y : S512x1024.Idx) :
    k0_pay1 x0 x1 y = ∑ k : Fin 2048, x0 (ix2 (y 0) k) * x1 (ix2 (y 1) k) := by
  unfold k0_pay1
  pointwise

theorem pay5 (x : Vec Ideal S512x1024 .f32) (y : S512x1.Idx) : k0_pay5 x y = scale eps (fun k => x (ix2 (y 0) k)) := by
  unfold scale meanSq
  rw [← ofBits_eps, ← ofBits_n]
  unfold k0_pay5
  pointwise

theorem pay6 (x : Vec Ideal S512x1024 .f32) (y : S512x1024.Idx) : k0_pay6 x y = x y * scale eps (fun k => x (ix2 (y 0) k)) := by
  unfold k0_pay6
  pointwise
  exact congrArg (x y * ·) (pay5 x (ix2 (y 0) 0))

/-- What the last step stores into the rows' gradient. -/
theorem pay7 (v4 : FVec Ideal S512x1024 .f32) (v16 v18 v19 : Vec Ideal S512x1024 .f32) (v20 : Vec Ideal S1x1024 .f32) (y : S512x1024.Idx) : k0_pay7 v4 v16 v18 v19 v20 y =
    factored eps (fun k => v18 (ix2 (y 0) k)) (fun k => (v16 (ix2 (y 0) k) + v4 (ix2 (y 0) k)) * v20 (ix2 0 k)) (v19 y) (y 1) := by
  have e : ix2 (y 0) (y 1) = y := funext fun a => by match a with
    | ⟨0, _⟩ => rfl
    | ⟨1, _⟩ => rfl
  unfold factored
  rw [← ofBits_n]
  unfold k0_pay7 k0_pay4
  pointwise
  simp only [pay5, pay6]
  rfl

/-- What the last step stores into the block of column sums: the sums in its first row. -/
theorem pay8 (v4 : FVec Ideal S512x1024 .f32) (v16 v18 : Vec Ideal S512x1024 .f32) (y : S8x1024.Idx) : k0_pay8 v4 v16 v18 y =
    if (y 0).val = 0 then ∑ a : Fin 512, (v16 (ix2 a (y 1)) + v4 (ix2 a (y 1))) * (v18 (ix2 a (y 1)) * scale eps (fun k => v18 (ix2 a k))) else 0 := by
  unfold k0_pay8 k0_pay4
  pointwise
  have hy : (y 0).val < 8 := (y 0).isLt
  by_cases h : (y 0).val = 0
  · rw [if_pos h, h]
    refine Eq.trans (b := ∑ a : Fin 512, (v16 (ix2 a (y 1)) + v4 (ix2 a (y 1))) * k0_pay6 v18 (ix2 a (y 1))) rfl (Finset.sum_congr rfl fun a _ => ?_)
    rw [pay6]
    rfl
  · rw [if_neg h]
    have : IntOp.cmpi CmpIPredicate.eq (BitVec.ofNat 32 (y 0).val) 0#32 = 0#1 := by
      generalize (y 0).val = q at hy h
      interval_cases q <;> first | exact absurd rfl h | rfl
    rw [this]
    rfl

theorem scr_A (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : cond0_0 i) (hc1 : ¬cond0_1 i) (hc2 : ¬cond0_2 i)
    (x0 : Vec Ideal S512x2048 .bf16) (x1 : Vec Ideal S1024x2048 .bf16) (x2 x3 : Vec Ideal S512x1024 .f32) (x4 : Vec Ideal S1x1024 .f32) :
    sout0_A_0 c i arg3 harg3 arg4 harg4 arg5 harg5 arg6 harg6 arg7 harg7 arg8 harg8 arg9 harg9 arg10 harg10 hc0 hc1 hc2 x0 x1 x2 x3 x4 = k0_pay1 x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 x0 x1 x2 x3 x4)]
  unfold kernelRun0_A
  dsimp only
  try sl_unfold_words
  rw [View.canon_unit_zero hz]
  unfold k0_pay2
  simp only [View.readAt_eq_ld, harg3.read_unread, harg4.read_unread, harg5.read_unread, harg6.read_unread, harg7.read_unread, harg10.read_unread, View.ld_unit_zero (S := S512x2048) hz, View.ld_unit_zero (S := S1024x2048) hz, View.ld_unit_zero (S := S512x1024) hz, View.ld_unit_zero (S := S1x1024) hz, shapeCast_self]

theorem out_5 (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : ¬cond0_0 i) (hc1 : ¬cond0_1 i) (hc2 : cond0_2 i)
    (x0 : Vec Ideal S512x2048 .bf16) (x1 : Vec Ideal S1024x2048 .bf16) (x2 x3 : Vec Ideal S512x1024 .f32) (x4 : Vec Ideal S1x1024 .f32) (xs0 : Vec Ideal S512x1024 .f32) :
    out0_B_5 c i arg3 harg3 arg4 harg4 arg5 harg5 arg6 harg6 arg7 harg7 arg8 harg8 arg9 harg9 arg10 harg10 hc0 hc1 hc2 x0 x1 x2 x3 x4 xs0 = k0_pay7 (k0_pay1 x0 x1) xs0 x2 x3 x4 := by
  unfold out0_B_5
  rw [View.read_writes_eq_canon _ _ _ (cover0_B_5 c i arg3 harg3 arg4 harg4 arg5 harg5 arg6 harg6 arg7 harg7 arg8 harg8 arg9 harg9 arg10 harg10 hc0 hc1 hc2 x0 x1 x2 x3 x4 xs0)]
  unfold kernelRun0_B
  dsimp only
  try sl_unfold_words
  rw [View.canon_unit_zero hz]
  simp only [View.readAt_eq_ld, harg3.read_unread, harg4.read_unread, harg5.read_unread, harg6.read_unread, harg7.read_unread, harg10.read_unread, View.ld_unit_zero (S := S512x2048) hz, View.ld_unit_zero (S := S1024x2048) hz, View.ld_unit_zero (S := S512x1024) hz, View.ld_unit_zero (S := S1x1024) hz, shapeCast_self]

theorem out_6 (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : ¬cond0_0 i) (hc1 : ¬cond0_1 i) (hc2 : cond0_2 i)
    (x0 : Vec Ideal S512x2048 .bf16) (x1 : Vec Ideal S1024x2048 .bf16) (x2 x3 : Vec Ideal S512x1024 .f32) (x4 : Vec Ideal S1x1024 .f32) (xs0 : Vec Ideal S512x1024 .f32) :
    out0_B_6 c i arg3 harg3 arg4 harg4 arg5 harg5 arg6 harg6 arg7 harg7 arg8 harg8 arg9 harg9 arg10 harg10 hc0 hc1 hc2 x0 x1 x2 x3 x4 xs0 = k0_pay8 (k0_pay1 x0 x1) xs0 x2 := by
  unfold out0_B_6
  rw [View.read_writes_eq_canon _ _ _ (cover0_B_6 c i arg3 harg3 arg4 harg4 arg5 harg5 arg6 harg6 arg7 harg7 arg8 harg8 arg9 harg9 arg10 harg10 hc0 hc1 hc2 x0 x1 x2 x3 x4 xs0)]
  unfold kernelRun0_B
  dsimp only
  try sl_unfold_words
  rw [View.canon_unit_zero hz]
  simp only [View.readAt_eq_ld, harg3.read_unread, harg4.read_unread, harg5.read_unread, harg6.read_unread, harg7.read_unread, harg10.read_unread, View.ld_unit_zero (S := S512x2048) hz, View.ld_unit_zero (S := S1024x2048) hz, View.ld_unit_zero (S := S512x1024) hz, View.ld_unit_zero (S := S1x1024) hz, shapeCast_self]

/-- Every window's block index at each point. -/
theorem idx : ∀ t : Fin cfg0.N, win0_0.index t = ![t.val / 2, t.val % 2] ∧ win0_1.index t = ![0, t.val % 2] ∧ win0_2.index t = ![t.val / 2, 0] ∧ win0_3.index t = ![t.val / 2, 0] ∧ win0_4.index t = ![0, 0] ∧ win0_5.index t = ![t.val / 2, 0] ∧ win0_6.index t = ![t.val / 2, 0] :=
  (by decide +kernel : ∀ t : Fin grid0.N, _)

/-- The rows that were normalised. -/
def rowsA : S2048x1024.Idx → EReal := m ((c.tc : Thread nD τ).loc main_arg0)
/-- The gradient that goes past the norm. -/
def passA : S2048x1024.Idx → EReal := m ((c.tc : Thread nD τ).loc main_arg1)
/-- The gradient of the product. -/
def leftA : S2048x4096.Idx → EReal := m ((c.tc : Thread nD τ).loc main_arg2)
/-- The product's weights. -/
def rightA : S1024x4096.Idx → EReal := m ((c.tc : Thread nD τ).loc main_arg3)
/-- The norm's gains. -/
def gainA : S1x1024.Idx → EReal := m ((c.tc : Thread nD τ).loc main_arg4)

theorem left : V m c main_v0 = leftA m c := by
  unfold V V0
  simp only [hostOps0, List.flatten_cons, List.flatten_nil, List.append_nil, List.cons_append, List.nil_append]
  after_reads_simp
  rfl

theorem right : V m c main_v1 = rightA m c := by
  unfold V V0
  simp only [hostOps0, List.flatten_cons, List.flatten_nil, List.append_nil, List.cons_append, List.nil_append]
  after_reads_simp
  rfl

/-- The gradient of the norm's output. -/
def ct (i : S2048x1024.Idx) : EReal := ∑ k : Fin 4096, leftA m c (ix2 (i 0) k) * rightA m c (ix2 (i 1) k)

/-- The part of it one point's blocks make. -/
def part (t : Fin cfg0.N) : S512x1024.Idx → EReal := k0_pay1 (iblk m c 0 t) (iblk m c 1 t)

/-- The left block. -/
def inL (t : Fin cfg0.N) : S512x2048.Idx → EReal := iblk m c 0 t
/-- The right block. -/
def inR (t : Fin cfg0.N) : S1024x2048.Idx → EReal := iblk m c 1 t

theorem part_eq (t : Fin cfg0.N) (y : S512x1024.Idx) (i : S2048x1024.Idx) (h0 : (i 0).val = 512 * (t.val / 2) + (y 0).val) (h1 : (i 1).val = (y 1).val) :
    part m c t y = ∑ k : Fin 2048, leftA m c (ix2 (i 0) ⟨2048 * (t.val % 2) + k.val, by omega⟩) * rightA m c (ix2 (i 1) ⟨2048 * (t.val % 2) + k.val, by omega⟩) := by
  refine (pay1 _ _ y).trans (Finset.sum_congr rfl fun k _ => ?_)
  show inL m c t (ix2 (y 0) k) * inR m c t (ix2 (y 1) k) = _
  refine congrArg₂ (· * ·) ?_ ?_
  · show V m c main_v0 (((cfg0.win 0).blk t).view.emb (ix2 (y 0) k)) = _
    rw [left]
    refine congrArg _ (funext fun a => Fin.ext ?_)
    match a with
    | ⟨0, _⟩ =>
      refine Eq.trans ?_ h0.symm
      blk_simp [idx t]
      first | done | rfl | exact congrArg (· + _) (Nat.mul_comm _ _) | omega
    | ⟨1, _⟩ =>
      blk_simp [idx t]
      first | done | rfl | exact congrArg (· + _) (Nat.mul_comm _ _) | omega
  · show V m c main_v1 (((cfg0.win 1).blk t).view.emb (ix2 (y 1) k)) = _
    rw [right]
    refine congrArg _ (funext fun a => Fin.ext ?_)
    match a with
    | ⟨0, _⟩ =>
      refine Eq.trans ?_ h1.symm
      blk_simp [idx t]
      first | done | rfl | exact congrArg (· + _) (Nat.mul_comm _ _) | omega
    | ⟨1, _⟩ =>
      blk_simp [idx t]
      first | done | rfl | exact congrArg (· + _) (Nat.mul_comm _ _) | omega

/-- What the accumulator holds before the last step of a row of tiles. -/
def acc (t : Fin cfg0.N) : S512x1024.Idx → EReal := (outsAt0 m c (t.val - 1) (Nat.lt_of_le_of_lt (Nat.sub_le _ _) t.isLt)).2.2

theorem first (t : Fin cfg0.N) (h : t.val % 2 = 0) : (outsAt0 m c t.val t.isLt).2.2 = part m c t := by
  rw [outsAt0_A m c t h (by omega)]
  dsimp only
  rw [scr_A]
  rfl

/-- At the last step of a row of tiles the accumulator and the step's part make the whole gradient of the norm's output. -/
theorem whole (t : Fin cfg0.N) (h : t.val % 2 = 1) (y : S512x1024.Idx) (i : S2048x1024.Idx) (h0 : (i 0).val = 512 * (t.val / 2) + (y 0).val) (h1 : (i 1).val = (y 1).val) :
    acc m c t y + part m c t y = ct m c i := by
  have e : acc m c t = part m c ⟨t.val - 1, by omega⟩ := first m c ⟨t.val - 1, by omega⟩ (by show (t.val - 1) % 2 = 0; omega)
  unfold ct
  rw [e, sum_append (a := 2048) (b := 2048) rfl]
  refine congrArg₂ (· + ·) ((part_eq m c _ y i (by show (i 0).val = 512 * ((t.val - 1) / 2) + (y 0).val; omega) h1).trans ?_) ((part_eq m c t y i h0 h1).trans ?_) <;>
    refine Finset.sum_congr rfl fun k _ => congrArg₂ (· * ·) (congrArg (fun q => leftA m c (ix2 (i 0) q)) (Fin.ext ?_)) (congrArg (fun q => rightA m c (ix2 (i 1) q)) (Fin.ext ?_))
  · show 2048 * ((t.val - 1) % 2) + k.val = k.val
    omega
  · show 2048 * ((t.val - 1) % 2) + k.val = k.val
    omega
  · show 2048 * (t.val % 2) + k.val = 2048 + k.val
    omega
  · show 2048 * (t.val % 2) + k.val = 2048 + k.val
    omega

/-- The block of normalised rows. -/
def inX (t : Fin cfg0.N) : S512x1024.Idx → EReal := iblk m c 2 t
/-- The block of the gradient past the norm. -/
def inP (t : Fin cfg0.N) : S512x1024.Idx → EReal := iblk m c 3 t
/-- The gains, as a block. -/
def inG (t : Fin cfg0.N) : S1x1024.Idx → EReal := iblk m c 4 t

theorem inX_eq (t : Fin cfg0.N) (y : S512x1024.Idx) (i : S2048x1024.Idx) (h0 : (i 0).val = 512 * (t.val / 2) + (y 0).val) (h1 : (i 1).val = (y 1).val) : inX m c t y = rowsA m c i := by
  show V m c main_arg0 (((cfg0.win 2).blk t).view.emb y) = _
  rw [V_main_arg0]
  refine congrArg (rowsA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | exact congrArg (· + _) (Nat.mul_comm _ _) | omega

theorem inP_eq (t : Fin cfg0.N) (y : S512x1024.Idx) (i : S2048x1024.Idx) (h0 : (i 0).val = 512 * (t.val / 2) + (y 0).val) (h1 : (i 1).val = (y 1).val) : inP m c t y = passA m c i := by
  show V m c main_arg1 (((cfg0.win 3).blk t).view.emb y) = _
  rw [V_main_arg1]
  refine congrArg (passA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | exact congrArg (· + _) (Nat.mul_comm _ _) | omega

theorem inG_eq (t : Fin cfg0.N) (k : Fin 1024) : inG m c t (ix2 0 k) = gainA m c (ix2 0 k) := by
  show V m c main_arg4 (((cfg0.win 4).blk t).view.emb (ix2 0 k)) = _
  rw [V_main_arg4]
  refine congrArg (gainA m c) (funext fun a => Fin.ext ?_)
  match a with
  | ⟨0, _⟩ =>
    blk_simp [idx t]
    first | done | rfl | exact congrArg (· + _) (Nat.mul_comm _ _) | omega
  | ⟨1, _⟩ =>
    blk_simp [idx t]
    first | done | rfl | exact congrArg (· + _) (Nat.mul_comm _ _) | omega

theorem last_5 (t : Fin cfg0.N) (h : t.val % 2 = 1) : (outsAt0 m c t.val t.isLt).1 = k0_pay7 (F := Ideal) (part m c t) (acc m c t) (inX m c t) (inP m c t) (inG m c t) := by
  rw [outsAt0_B m c t (by omega) h]
  dsimp only
  rw [out_5]
  rfl

theorem last_6 (t : Fin cfg0.N) (h : t.val % 2 = 1) : (outsAt0 m c t.val t.isLt).2.1 = k0_pay8 (F := Ideal) (part m c t) (acc m c t) (inX m c t) := by
  rw [outsAt0_B m c t (by omega) h]
  dsimp only
  rw [out_6]
  rfl

/-- The reference's gradient of the rows, for the kernel's arguments. -/
def goal : S2048x1024.Idx → EReal := Cert.Reference5Ideal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's gradient of the gains. -/
def goalG : S1x1024.Idx → EReal := Cert.Reference5Ideal.Read.val_main_v19 (F := Ideal) (m ((c.tc : Thread nD τ).loc main_arg0)) (m ((c.tc : Thread nD τ).loc main_arg2)) (m ((c.tc : Thread nD τ).loc main_arg3))

theorem ref_meanSq (s : Cert.Reference5Ideal.S2048x1.Idx) : Cert.Reference5Ideal.Read.val_main_v6 (F := Ideal) (m ((c.tc : Thread nD τ).loc main_arg0)) s = meanSq eps (fun k => rowsA m c (ix2 (s 0) k)) := by
  rw [Cert.Reference5Ideal.Read.val_main_v6_apply, Cert.Reference5Ideal.Read.val_main_v4_apply, Cert.Reference5Ideal.Read.val_main_v2_apply, Cert.Reference5Ideal.Read.val_main_v1_apply, Cert.Reference5Ideal.Read.val_main_v3_apply, Cert.Reference5Ideal.Read.val_main_cst_0_apply, Cert.Reference5Ideal.Read.val_main_v5_apply, Cert.Reference5Ideal.Read.val_main_cst_1_apply, Cert.Reference5Ideal.Read.val_main_cst_apply, ofBits_n, ofBits_eps, ofBits_zero]
  unfold meanSq
  refine congrArg (· + ((eps : ℝ) : EReal)) (congrArg (Ideal.div · ((1024 : ℝ) : EReal)) ((zero_add _).trans (Finset.sum_congr rfl fun k _ => ?_)))
  rw [Cert.Reference5Ideal.Read.val_main_v0_apply]
  have e : Cert.Reference5Ideal.Read.idx_main_v1 (Cert.Reference5Ideal.Read.idx_main_v2 s) k = ix2 (s 0) k := funext fun a => by match a with
    | ⟨0, _⟩ => rfl
    | ⟨1, _⟩ => rfl
  rw [e]
  rfl

theorem ref_scale (s : Cert.Reference5Ideal.S2048x1.Idx) : Cert.Reference5Ideal.Read.val_main_v7 (F := Ideal) (m ((c.tc : Thread nD τ).loc main_arg0)) s = scale eps (fun k => rowsA m c (ix2 (s 0) k)) := by
  rw [Cert.Reference5Ideal.Read.val_main_v7_apply, ref_meanSq]
  rfl

theorem ref_ct (i : S2048x1024.Idx) : Cert.Reference5Ideal.Read.val_main_v16 (F := Ideal) (m ((c.tc : Thread nD τ).loc main_arg2)) (m ((c.tc : Thread nD τ).loc main_arg3)) i = ct m c i := by
  rw [Cert.Reference5Ideal.Read.val_main_v16_apply]
  refine Finset.sum_congr rfl fun k _ => ?_
  refine congrArg₂ (· * ·) (congrArg (leftA m c) (funext fun a => ?_)) (congrArg (rightA m c) (funext fun a => ?_)) <;> match a with
    | ⟨0, _⟩ => rfl
    | ⟨1, _⟩ => rfl

theorem ref_d (i : S2048x1024.Idx) : Cert.Reference5Ideal.Read.val_main_v21 (F := Ideal) (m ((c.tc : Thread nD τ).loc main_arg2)) (m ((c.tc : Thread nD τ).loc main_arg3)) (m ((c.tc : Thread nD τ).loc main_arg4)) i = ct m c i * gainA m c (ix2 0 (i 1)) := by
  rw [Cert.Reference5Ideal.Read.val_main_v21_apply, ref_ct, Cert.Reference5Ideal.Read.val_main_v20_apply]
  refine congrArg (ct m c i * ·) (congrArg (gainA m c) (funext fun a => ?_))
  match a with
    | ⟨0, _⟩ => rfl
    | ⟨1, _⟩ => rfl

theorem ref_inner (i : S2048x1024.Idx) : Cert.Reference5Ideal.Read.val_main_v32 (F := Ideal) (m ((c.tc : Thread nD τ).loc main_arg0)) (m ((c.tc : Thread nD τ).loc main_arg2)) (m ((c.tc : Thread nD τ).loc main_arg3)) (m ((c.tc : Thread nD τ).loc main_arg4)) i
    = NormTail.inner eps (fun k => rowsA m c (ix2 (i 0) k)) (fun k => ct m c (ix2 (i 0) k) * gainA m c (ix2 0 k)) := by
  rw [Cert.Reference5Ideal.Read.val_main_v32_apply, Cert.Reference5Ideal.Read.val_main_v31_apply, Cert.Reference5Ideal.Read.val_main_cst_6_apply, ofBits_zero]
  refine (zero_add _).trans ?_
  rw [Fin.sum_univ_one, Cert.Reference5Ideal.Read.val_main_v30_apply, Cert.Reference5Ideal.Read.val_main_v29_apply, Cert.Reference5Ideal.Read.val_main_cst_5_apply, ofBits_n, Cert.Reference5Ideal.Read.val_main_v28_apply, Cert.Reference5Ideal.Read.val_main_v24_apply, Cert.Reference5Ideal.Read.val_main_v23_apply, Cert.Reference5Ideal.Read.val_main_cst_4_apply, ofBits_zero,
    Cert.Reference5Ideal.Read.val_main_v10_apply, Cert.Reference5Ideal.Read.val_main_v9_apply, Cert.Reference5Ideal.Read.val_main_cst_2_apply, ofBits_half, Cert.Reference5Ideal.Read.val_main_v8_apply, ref_meanSq, ref_scale]
  unfold NormTail.inner
  refine congrArg (Ideal.div · ((1024 : ℝ) : EReal)) (congrArg₂ (· * ·) ((zero_add _).trans (Finset.sum_congr rfl fun k _ => ?_)) rfl)
  rw [Cert.Reference5Ideal.Read.val_main_v22_apply, ref_d]
  have e : Cert.Reference5Ideal.Read.idx_main_v23 (Cert.Reference5Ideal.Read.idx_main_v24 (Cert.Reference5Ideal.Read.idx_main_v31 (Cert.Reference5Ideal.Read.idx_main_v32 i) 0)) k = ix2 (i 0) k := funext fun a => by match a with
    | ⟨0, _⟩ => exact Fin.ext (by simp)
    | ⟨1, _⟩ => rfl
  rw [e]
  rfl

theorem goal_apply (i : S2048x1024.Idx) : goal m c i = factored eps (fun k => rowsA m c (ix2 (i 0) k)) (fun k => ct m c (ix2 (i 0) k) * gainA m c (ix2 0 k)) (passA m c i) (i 1) := by
  have e : ix2 (i 0) (i 1) = i := funext fun a => by match a with
    | ⟨0, _⟩ => rfl
    | ⟨1, _⟩ => rfl
  refine Eq.trans ?_ (plain_eq_factored eps eps_pos _ _ _ _)
  unfold goal plain
  rw [Cert.Reference5Ideal.Read.val_main_v36_apply, Cert.Reference5Ideal.Read.val_main_v35_apply, Cert.Reference5Ideal.Read.val_main_v34_apply, Cert.Reference5Ideal.Read.val_main_v33_apply, Cert.Reference5Ideal.Read.val_main_v27_apply, Cert.Reference5Ideal.Read.val_main_v26_apply, Cert.Reference5Ideal.Read.val_main_v25_apply, ref_inner, ref_scale, ref_d]
  exact congrArg₂ (· + ·) (congrArg₂ (· + ·) (congrArg₂ (· + ·) rfl (congrArg₂ (· * ·) (congrArg (· * gainA m c (ix2 0 (i 1))) (congrArg (ct m c) e.symm)) rfl))
    (congrArg₂ (· * ·) (congrArg (rowsA m c) e.symm) rfl)) (congrArg₂ (· * ·) rfl (congrArg (rowsA m c) e.symm))

theorem goalG_apply (i : S1x1024.Idx) : goalG m c i = ∑ s : Fin 2048, ct m c (ix2 s (i 1)) * (rowsA m c (ix2 s (i 1)) * scale eps (fun k => rowsA m c (ix2 s k))) := by
  unfold goalG
  rw [Cert.Reference5Ideal.Read.val_main_v19_apply, Cert.Reference5Ideal.Read.val_main_v18_apply, Cert.Reference5Ideal.Read.val_main_cst_3_apply, ofBits_zero]
  refine (zero_add _).trans (Finset.sum_congr rfl fun s _ => ?_)
  have e : Cert.Reference5Ideal.Read.idx_main_v18 (Cert.Reference5Ideal.Read.idx_main_v19 i) s = ix2 s (i 1) := funext fun a => by match a with
    | ⟨0, _⟩ => rfl
    | ⟨1, _⟩ => exact Fin.ext (by simp)
  rw [Cert.Reference5Ideal.Read.val_main_v17_apply, ref_ct, Cert.Reference5Ideal.Read.val_main_v12_apply, Cert.Reference5Ideal.Read.val_main_v11_apply, ref_scale, e]
  exact mul_comm _ _

/-- The rows' gradient once every block is written back. -/
theorem arr : (dats m 0 c).arrAt 5 cfg0.N = goal m c := by
  refine (dats m 0 c).arrAt_eq_of_cover 5 (goal m c) (fun t hf => ?_) (fun i => ?_)
  · have h : t.val % 2 = 1 := (flush0_5 t).mp hf
    funext y
    show (cfg0.win 5).cut (grid0.coords t) ((dats m 0 c).after 5 t) y = goal m c (((cfg0.win 5).blk t).view.emb y)
    rw [after0_5, last_5 m c t h]
    refine (pay7 _ _ _ _ _ y).trans ?_
    rw [goal_apply]
    have h0 : ((((cfg0.win 5).blk t).view.emb y) 0).val = 512 * (t.val / 2) + (y 0).val := by
      blk_simp [idx t]
      first | done | rfl | exact congrArg (· + _) (Nat.mul_comm _ _) | omega
    have h1 : ((((cfg0.win 5).blk t).view.emb y) 1).val = (y 1).val := by
      blk_simp [idx t]
      first | done | rfl | exact congrArg (· + _) (Nat.mul_comm _ _) | omega
    generalize ((cfg0.win 5).blk t).view.emb y = i at h0 h1
    rw [inP_eq m c t y i h0 h1, show (y 1) = (i 1) from Fin.ext h1.symm,
      show (fun k => inX m c t (ix2 (y 0) k)) = fun k => rowsA m c (ix2 (i 0) k) from funext fun k => inX_eq m c t _ _ h0 rfl,
      show (fun k => (acc m c t (ix2 (y 0) k) + part m c t (ix2 (y 0) k)) * inG m c t (ix2 0 k)) = fun k => ct m c (ix2 (i 0) k) * gainA m c (ix2 0 k) from
        funext fun k => congrArg₂ (· * ·) (whole m c t h _ _ h0 rfl) (inG_eq m c t k)]
  · have hi0 : (i 0).val < 2048 := (i 0).isLt
    have hi1 : (i 1).val < 1024 := (i 1).isLt
    have hN : cfg0.N = 8 := N_0
    refine ⟨⟨2 * ((i 0).val / 512) + 1, by omega⟩, (flush0_5 _).mpr (by show (2 * ((i 0).val / 512) + 1) % 2 = 1; omega), ?_⟩
    set t : Fin cfg0.N := ⟨2 * ((i 0).val / 512) + 1, by omega⟩ with ht
    have tv : t.val = 2 * ((i 0).val / 512) + 1 := rfl
    refine ((cfg0.win 5).emb_mem_blk_iff t i).mpr fun a => ?_
    show win0_5.index t a * S512x1024.size a ≤ (i a).val ∧ (i a).val < win0_5.index t a * S512x1024.size a + S512x1024.size a
    rw [(idx t).2.2.2.2.2.1]
    match a with
    | ⟨0, _⟩ =>
      show (t.val / 2) * 512 ≤ (i 0).val ∧ (i 0).val < (t.val / 2) * 512 + 512
      omega
    | ⟨1, _⟩ =>
      show 0 * 1024 ≤ (i 1).val ∧ (i 1).val < 0 * 1024 + 1024
      omega

/-- One term of the gains' gradient. -/
def term (j : Fin 1024) (s : Fin 2048) : EReal := ct m c (ix2 s j) * (rowsA m c (ix2 s j) * scale eps (fun k => rowsA m c (ix2 s k)))

/-- The column sums, in every eighth row. -/
def sums (i : S32x1024.Idx) : EReal := if (i 0).val % 8 = 0 then ∑ a : Fin 512, term m c (i 1) ⟨512 * ((i 0).val / 8) + a.val, by have : (i 0).val < 32 := (i 0).isLt; omega⟩ else 0

/-- The column sums once every block is written back. -/
theorem arrG : (dats m 0 c).arrAt 6 cfg0.N = sums m c := by
  refine (dats m 0 c).arrAt_eq_of_cover 6 (sums m c) (fun t hf => ?_) (fun i => ?_)
  · have h : t.val % 2 = 1 := (flush0_6 t).mp hf
    funext y
    show (cfg0.win 6).cut (grid0.coords t) ((dats m 0 c).after 6 t) y = sums m c (((cfg0.win 6).blk t).view.emb y)
    rw [after0_6, last_6 m c t h]
    refine (pay8 _ _ _ y).trans ?_
    have h0 : ((((cfg0.win 6).blk t).view.emb y) 0).val = 8 * (t.val / 2) + (y 0).val := by
      blk_simp [idx t]
      first | done | rfl | exact congrArg (· + _) (Nat.mul_comm _ _) | omega
    have h1 : ((((cfg0.win 6).blk t).view.emb y) 1).val = (y 1).val := by
      blk_simp [idx t]
      first | done | rfl | exact congrArg (· + _) (Nat.mul_comm _ _) | omega
    generalize ((cfg0.win 6).blk t).view.emb y = i at h0 h1
    have hy : (y 0).val < 8 := (y 0).isLt
    unfold sums
    by_cases hz : (y 0).val = 0
    · rw [if_pos hz, if_pos (by omega)]
      refine Finset.sum_congr rfl fun a _ => ?_
      have ha : a.val < 512 := a.isLt
      have hi0 : (i 0).val < 32 := (i 0).isLt
      unfold term
      rw [show (y 1) = (i 1) from Fin.ext h1.symm]
      refine congrArg₂ (· * ·) (whole m c t h _ _ ?_ rfl) (congrArg₂ (· * ·) (inX_eq m c t _ _ ?_ rfl) (congrArg (scale eps) (funext fun k => inX_eq m c t _ _ ?_ rfl))) <;>
        show 512 * ((i 0).val / 8) + a.val = 512 * (t.val / 2) + a.val <;> omega
    · rw [if_neg hz, if_neg (by omega)]
  · have hi0 : (i 0).val < 32 := (i 0).isLt
    have hi1 : (i 1).val < 1024 := (i 1).isLt
    have hN : cfg0.N = 8 := N_0
    refine ⟨⟨2 * ((i 0).val / 8) + 1, by omega⟩, (flush0_6 _).mpr (by show (2 * ((i 0).val / 8) + 1) % 2 = 1; omega), ?_⟩
    set t : Fin cfg0.N := ⟨2 * ((i 0).val / 8) + 1, by omega⟩ with ht
    have tv : t.val = 2 * ((i 0).val / 8) + 1 := rfl
    refine ((cfg0.win 6).emb_mem_blk_iff t i).mpr fun a => ?_
    show win0_6.index t a * S8x1024.size a ≤ (i a).val ∧ (i a).val < win0_6.index t a * S8x1024.size a + S8x1024.size a
    rw [(idx t).2.2.2.2.2.2]
    match a with
    | ⟨0, _⟩ =>
      show (t.val / 2) * 8 ≤ (i 0).val ∧ (i 0).val < (t.val / 2) * 8 + 8
      omega
    | ⟨1, _⟩ =>
      show 0 * 1024 ≤ (i 1).val ∧ (i 1).val < 0 * 1024 + 1024
      omega

/-- The host's sum over the rows of column sums. -/
theorem hostSum (i : S1x1024.Idx) : broadcastInDim S1x1024 ![1] bcast_S1024_S1x1024_1 (Host.reduceAdd (F := Ideal) (φ := .f32) (sums m c) (constant S_ .f32 0x00000000#32) reducesTo_S32x1024_S1024_d0 h_S_) i = goalG m c i := by
  unfold broadcastInDim
  simp only [Host.reduceAdd, Ideal.hostReduceAdd_def]
  rw [Ideal.hostReduceAdd_single reducesTo_S32x1024_S1024_d0 (by decide), goalG_apply]
  refine Eq.trans (congrArg₂ (· + ·) ofBits_zero ?_) (zero_add _)
  refine Eq.trans (Finset.sum_congr rfl fun r _ => congrArg (sums m c) (?_ : _ = ix2 r (i 1))) (rows_total (term m c (i 1)) (fun r => sums m c (ix2 r (i 1))) fun r => rfl)
  funext a
  match a with
  | ⟨0, _⟩ => rfl
  | ⟨1, _⟩ => rfl

/-- The gains' gradient after the host's last lines. -/
theorem tailG : Pipeline.afterTail₀ cfgs (dats m) 0 (V0 m) [hostOps1] c main_v4 = goalG m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 6
  funext i
  refine Eq.trans ?_ (hostSum m c i)
  rw [← arrG, ← e]

/-- Both programs end with the rows' gradient and the gains'. -/
theorem algebraic [hK : Cert.Kernel5Ideal.Facts] [hR : Cert.Reference5Ideal.Facts] : Cert.algebraic_Kernel5Ideal_Reference5Ideal := by
  intro m g m' g' _ hagree
  refine ⟨fun c => goal m c, fun c => goalG m c, ?_, ?_⟩
  · refine (θ_run Cert.Kernel5Ideal.defs _ _).mono (fun r h c => ?_) (run_main m g)
    exact ⟨((h c).1 5).trans (arr m c),
      ((h c).2 main_v4 (Pipeline.mem_restRefs_of main_v4 (by decide) (by decide))).trans (tailG m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩
  · refine (θ_run Cert.Reference5Ideal.defs _ _).mono (fun r h c => ?_) (Cert.Reference5Ideal.Value.run (F := Ideal) m' g')
    refine ⟨(h c).1.trans ?_, (h c).2.1.trans ?_, (h c).2.2.1, (h c).2.2.2.1, (h c).2.2.2.2.1, (h c).2.2.2.2.2.1, (h c).2.2.2.2.2.2⟩
    · rw [Cert.Reference5Ideal.Read.val_main_v36_eq, (hagree c).1, (hagree c).2.1, (hagree c).2.2.1, (hagree c).2.2.2.1, (hagree c).2.2.2.2]
      rfl
    · rw [Cert.Reference5Ideal.Read.val_main_v19_eq, (hagree c).1, (hagree c).2.2.1, (hagree c).2.2.2.1]
      rfl

end Cert.DMlpIn
-- ==== Proof.DWIn.lean ====
/-
  The gradient of the input projection's weight: the gradient of the projection, transposed, times the normalised rows.
-/
module

public import proofs.«01_k».proof.Proof.Gen.Kernel6Ideal.Frame
public import proofs.«01_k».proof.Proof.Gen.Reference6Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DWIn

open Cert.Kernel6Ideal Cert.Kernel6Ideal.Gen Idealize.ShloMosaic Idealize.ShloMosaic.TcCoe Idealize.SL.Sem

variable (m : (l : Loc nD τ sig) → BufTy.Contents (Elt Ideal) l.ty) (c : Dev nD)

/-- What one grid point stores: the whole sum. -/
theorem block (x0 : Vec Ideal S2048x1152 .bf16) (x1 : Vec Ideal S2048x1024 .bf16) (y : S1152x1024.Idx) :
    out0_2 x0 x1 y = ∑ k : Fin 2048, x0 (ix2 k (y 0)) * x1 (ix2 k (y 1)) := by
  unfold out0_2
  rw [View.canon_unit_zero (by decide), View.ld_unit_zero (by decide), View.ld_unit_zero (by decide)]
  unfold k0_pay1
  pointwise

/-- Every window's block index at each point. -/
theorem idx : ∀ t : Fin cfg0.N, win0_0.index t = ![0, t.val] ∧ win0_1.index t = ![0, 0] ∧ win0_2.index t = ![t.val, 0] :=
  (by decide +kernel : ∀ t : Fin grid0.N, _)

/-- The left operand, whole. -/
def leftA : S2048x6912.Idx → EReal := (m ((c.tc : Thread nD τ).loc main_arg1))

theorem left : V m c main_v13 = leftA m c := by
  unfold V V0
  simp only [hostOps0, List.flatten_cons, List.flatten_nil, List.append_nil, List.cons_append, List.nil_append]
  after_reads_simp
  rfl

/-- The right operand, whole. -/
def rightA : S2048x1024.Idx → EReal := Cert.Reference6Ideal.Read.val_main_v12 (F := Ideal) (m ((c.tc : Thread nD τ).loc main_arg0)) (m ((c.tc : Thread nD τ).loc main_arg2))

theorem right : V m c main_v12 = rightA m c := by
  unfold V V0
  simp only [hostOps0, List.flatten_cons, List.flatten_nil, List.append_nil, List.cons_append, List.nil_append]
  after_reads_simp
  rfl

/-- The reference's array, for the kernel's arguments. -/
def goal : S6912x1024.Idx → EReal :=
  Cert.Reference6Ideal.Read.val_main_v14 (F := Ideal) (m ((c.tc : Thread nD τ).loc main_arg0)) (m ((c.tc : Thread nD τ).loc main_arg1)) (m ((c.tc : Thread nD τ).loc main_arg2))

theorem goal_apply (i : S6912x1024.Idx) : goal m c i = ∑ k : Fin 2048,
    leftA m c (ix2 k (i 0)) * rightA m c (ix2 k (i 1)) := by
  unfold goal
  rw [Cert.Reference6Ideal.Read.val_main_v14_apply]
  refine Finset.sum_congr rfl fun k _ => ?_
  refine congrArg₂ (· * ·) (congrArg _ (funext fun a => ?_)) (congrArg _ (funext fun a => ?_)) <;> match a with
    | ⟨0, _⟩ => rfl
    | ⟨1, _⟩ => rfl

/-- The result array once every block is written back. -/
theorem arr : (dats m 0 c).arrAt 2 cfg0.N = goal m c := by
  refine (dats m 0 c).arrAt_eq_of_cover 2 (goal m c) (fun t _ => ?_) (fun i => ?_)
  · funext y
    show (cfg0.win 2).cut (grid0.coords t) ((dats m 0 c).after 2 t) y = goal m c (((cfg0.win 2).blk t).view.emb y)
    rw [after0_2]
    refine (block _ _ y).trans ?_
    rw [goal_apply]
    refine Finset.sum_congr rfl fun k _ => ?_
    refine congrArg₂ (· * ·) ?_ ?_
    · show V m c main_v13 (((cfg0.win 0).blk t).view.emb (ix2 k (y 0))) = _
      rw [left]
      refine congrArg _ (funext fun a => Fin.ext ?_)
      match a with
      | ⟨0, _⟩ =>
        blk_simp [idx t]
        try omega
      | ⟨1, _⟩ =>
        blk_simp [idx t]
        try omega
    · show V m c main_v12 (((cfg0.win 1).blk t).view.emb (ix2 k (y 1))) = _
      rw [right]
      refine congrArg _ (funext fun a => Fin.ext ?_)
      match a with
      | ⟨0, _⟩ =>
        blk_simp [idx t]
        try omega
      | ⟨1, _⟩ =>
        blk_simp [idx t]
        try omega
  · have hi0 : (i 0).val < 6912 := (i 0).isLt
    have hi1 : (i 1).val < 1024 := (i 1).isLt
    have hN : cfg0.N = 6 := N_0
    refine ⟨⟨(i 0).val / 1152, by omega⟩, flush0_2 _, ?_⟩
    set t : Fin cfg0.N := ⟨(i 0).val / 1152, by omega⟩ with ht
    have tv : t.val = (i 0).val / 1152 := rfl
    refine ((cfg0.win 2).emb_mem_blk_iff t i).mpr fun a => ?_
    show win0_2.index t a * S1152x1024.size a ≤ (i a).val ∧ (i a).val < win0_2.index t a * S1152x1024.size a + S1152x1024.size a
    rw [(idx t).2.2]
    match a with
    | ⟨0, _⟩ =>
      show t.val * 1152 ≤ (i 0).val ∧ (i 0).val < t.val * 1152 + 1152
      omega
    | ⟨1, _⟩ =>
      show 0 * 1024 ≤ (i 1).val ∧ (i 1).val < 0 * 1024 + 1024
      omega

/-- The result buffer after the host's last line. -/
theorem tail : Pipeline.afterTail₀ cfgs (dats m) 0 (V0 m) [hostOps1] c main_v15 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 2
  funext i
  exact congrFun (e.trans (arr m c)) i

/-- Both programs end with the gradient of the weight. -/
theorem algebraic [hK : Cert.Kernel6Ideal.Facts] [hR : Cert.Reference6Ideal.Facts] : Cert.algebraic_Kernel6Ideal_Reference6Ideal := by
  intro m g m' g' _ hagree
  refine ⟨fun c => goal m c, ?_, ?_⟩
  · refine (θ_run Cert.Kernel6Ideal.defs _ _).mono (fun r h c => ?_) (run_main m g)
    exact ⟨((h c).2 main_v15 (Pipeline.mem_restRefs_of main_v15 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run Cert.Reference6Ideal.defs _ _).mono (fun r h c => ?_) (Cert.Reference6Ideal.Value.run (F := Ideal) m' g')
    refine ⟨(h c).1.trans ?_, (h c).2.1, (h c).2.2.1, (h c).2.2.2⟩
    rw [Cert.Reference6Ideal.Read.val_main_v14_eq, (hagree c).1, (hagree c).2.1, (hagree c).2.2]
    rfl

end Cert.DWIn
-- ==== Proof.DMixIn.lean ====
/-
  The gradient of the rows before the first norm, and of that norm's gains: the product with the input projection's weights,
  then back through the norm.
-/
module

public import proofs.«01_k».proof.Proof.Gen.Kernel7Ideal.Frame
public import proofs.«01_k».proof.Proof.Gen.Reference7Ideal.Read
public import proofs.«01_k».proof.Defs
public import proofs.«01_k».proof.Proof.NormTail
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DMixIn

open Cert.Kernel7Ideal Cert.Kernel7Ideal.Gen Idealize.ShloMosaic Idealize.ShloMosaic.TcCoe Idealize.SL.Sem

open Cert.NormTail

variable (m : (l : Loc nD τ sig) → BufTy.Contents (Elt Ideal) l.ty) (c : Dev nD)

theorem hz : (![0, 0] : Fin 2 → Nat) = fun _ => 0 := funext fun a => by fin_cases a <;> rfl

theorem pay1 (x0 : Vec Ideal S512x2304 .bf16) (x1 : Vec Ideal S2304x1024 .bf16) (y : S512x1024.Idx) :
    k0_pay1 x0 x1 y = ∑ k : Fin 2304, x0 (ix2 (y 0) k) * x1 (ix2 k (y 1)) := by
  unfold k0_pay1
  pointwise

theorem pay5 (x : Vec Ideal S512x1024 .f32) (y : S512x1.Idx) : k0_pay5 x y = scale eps (fun k => x (ix2 (y 0) k)) := by
  unfold scale meanSq
  rw [← ofBits_eps, ← ofBits_n]
  unfold k0_pay5
  pointwise

theorem pay6 (x : Vec Ideal S512x1024 .f32) (y : S512x1024.Idx) : k0_pay6 x y = x y * scale eps (fun k => x (ix2 (y 0) k)) := by
  unfold k0_pay6
  pointwise
  exact congrArg (x y * ·) (pay5 x (ix2 (y 0) 0))

/-- What the last step stores into the rows' gradient. -/
theorem pay7 (v4 : FVec Ideal S512x1024 .f32) (v16 v18 v19 : Vec Ideal S512x1024 .f32) (v20 : Vec Ideal S1x1024 .f32) (y : S512x1024.Idx) : k0_pay7 v4 v16 v18 v19 v20 y =
    factored eps (fun k => v18 (ix2 (y 0) k)) (fun k => (v16 (ix2 (y 0) k) + v4 (ix2 (y 0) k)) * v20 (ix2 0 k)) (v19 y) (y 1) := by
  have e : ix2 (y 0) (y 1) = y := funext fun a => by match a with
    | ⟨0, _⟩ => rfl
    | ⟨1, _⟩ => rfl
  unfold factored
  rw [← ofBits_n]
  unfold k0_pay7 k0_pay4
  pointwise
  simp only [pay5, pay6]
  rfl

/-- What the last step stores into the block of column sums: the sums in its first row. -/
theorem pay8 (v4 : FVec Ideal S512x1024 .f32) (v16 v18 : Vec Ideal S512x1024 .f32) (y : S8x1024.Idx) : k0_pay8 v4 v16 v18 y =
    if (y 0).val = 0 then ∑ a : Fin 512, (v16 (ix2 a (y 1)) + v4 (ix2 a (y 1))) * (v18 (ix2 a (y 1)) * scale eps (fun k => v18 (ix2 a k))) else 0 := by
  unfold k0_pay8 k0_pay4
  pointwise
  have hy : (y 0).val < 8 := (y 0).isLt
  by_cases h : (y 0).val = 0
  · rw [if_pos h, h]
    refine Eq.trans (b := ∑ a : Fin 512, (v16 (ix2 a (y 1)) + v4 (ix2 a (y 1))) * k0_pay6 v18 (ix2 a (y 1))) rfl (Finset.sum_congr rfl fun a _ => ?_)
    rw [pay6]
    rfl
  · rw [if_neg h]
    have : IntOp.cmpi CmpIPredicate.eq (BitVec.ofNat 32 (y 0).val) 0#32 = 0#1 := by
      generalize (y 0).val = q at hy h
      interval_cases q <;> first | exact absurd rfl h | rfl
    rw [this]
    rfl

theorem scr_A (c : Dev nD) (i : grid0.Coords) (arg3 : Memref sig .tc .vmem S512x2304 .bf16) (harg3 : arg3.IsWhole) (arg4 : Memref sig .tc .vmem S2304x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : cond0_0 i) (hc1 : ¬cond0_1 i) (hc2 : ¬cond0_2 i)
    (x0 : Vec Ideal S512x2304 .bf16) (x1 : Vec Ideal S2304x1024 .bf16) (x2 x3 : Vec Ideal S512x1024 .f32) (x4 : Vec Ideal S1x1024 .f32) :
    sout0_A_0 c i arg3 harg3 arg4 harg4 arg5 harg5 arg6 harg6 arg7 harg7 arg8 harg8 arg9 harg9 arg10 harg10 hc0 hc1 hc2 x0 x1 x2 x3 x4 = k0_pay1 x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 x0 x1 x2 x3 x4)]
  unfold kernelRun0_A
  dsimp only
  try sl_unfold_words
  rw [View.canon_unit_zero hz]
  unfold k0_pay2
  simp only [View.readAt_eq_ld, harg3.read_unread, harg4.read_unread, harg5.read_unread, harg6.read_unread, harg7.read_unread, harg10.read_unread, View.ld_unit_zero (S := S512x2304) hz, View.ld_unit_zero (S := S2304x1024) hz, View.ld_unit_zero (S := S512x1024) hz, View.ld_unit_zero (S := S1x1024) hz, shapeCast_self]

theorem scr_B (c : Dev nD) (i : grid0.Coords) (arg3 : Memref sig .tc .vmem S512x2304 .bf16) (harg3 : arg3.IsWhole) (arg4 : Memref sig .tc .vmem S2304x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : ¬cond0_0 i) (hc1 : cond0_1 i) (hc2 : ¬cond0_2 i)
    (x0 : Vec Ideal S512x2304 .bf16) (x1 : Vec Ideal S2304x1024 .bf16) (x2 x3 : Vec Ideal S512x1024 .f32) (x4 : Vec Ideal S1x1024 .f32) (xs0 : Vec Ideal S512x1024 .f32) :
    sout0_B_0 c i arg3 harg3 arg4 harg4 arg5 harg5 arg6 harg6 arg7 harg7 arg8 harg8 arg9 harg9 arg10 harg10 hc0 hc1 hc2 x0 x1 x2 x3 x4 xs0 = addf xs0 (k0_pay1 x0 x1) := by
  unfold sout0_B_0
  rw [View.read_writes_eq_canon _ _ _ (scover0_B_0 c i arg3 harg3 arg4 harg4 arg5 harg5 arg6 harg6 arg7 harg7 arg8 harg8 arg9 harg9 arg10 harg10 hc0 hc1 hc2 x0 x1 x2 x3 x4 xs0)]
  unfold kernelRun0_B
  dsimp only
  try sl_unfold_words
  rw [View.canon_unit_zero hz]
  unfold k0_pay3
  simp only [View.readAt_eq_ld, harg3.read_unread, harg4.read_unread, harg5.read_unread, harg6.read_unread, harg7.read_unread, harg10.read_unread, View.ld_unit_zero (S := S512x2304) hz, View.ld_unit_zero (S := S2304x1024) hz, View.ld_unit_zero (S := S512x1024) hz, View.ld_unit_zero (S := S1x1024) hz, shapeCast_self]

theorem out_5 (c : Dev nD) (i : grid0.Coords) (arg3 : Memref sig .tc .vmem S512x2304 .bf16) (harg3 : arg3.IsWhole) (arg4 : Memref sig .tc .vmem S2304x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : ¬cond0_0 i) (hc1 : ¬cond0_1 i) (hc2 : cond0_2 i)
    (x0 : Vec Ideal S512x2304 .bf16) (x1 : Vec Ideal S2304x1024 .bf16) (x2 x3 : Vec Ideal S512x1024 .f32) (x4 : Vec Ideal S1x1024 .f32) (xs0 : Vec Ideal S512x1024 .f32) :
    out0_C_5 c i arg3 harg3 arg4 harg4 arg5 harg5 arg6 harg6 arg7 harg7 arg8 harg8 arg9 harg9 arg10 harg10 hc0 hc1 hc2 x0 x1 x2 x3 x4 xs0 = k0_pay7 (k0_pay1 x0 x1) xs0 x2 x3 x4 := by
  unfold out0_C_5
  rw [View.read_writes_eq_canon _ _ _ (cover0_C_5 c i arg3 harg3 arg4 harg4 arg5 harg5 arg6 harg6 arg7 harg7 arg8 harg8 arg9 harg9 arg10 harg10 hc0 hc1 hc2 x0 x1 x2 x3 x4 xs0)]
  unfold kernelRun0_C
  dsimp only
  try sl_unfold_words
  rw [View.canon_unit_zero hz]
  simp only [View.readAt_eq_ld, harg3.read_unread, harg4.read_unread, harg5.read_unread, harg6.read_unread, harg7.read_unread, harg10.read_unread, View.ld_unit_zero (S := S512x2304) hz, View.ld_unit_zero (S := S2304x1024) hz, View.ld_unit_zero (S := S512x1024) hz, View.ld_unit_zero (S := S1x1024) hz, shapeCast_self]

theorem out_6 (c : Dev nD) (i : grid0.Coords) (arg3 : Memref sig .tc .vmem S512x2304 .bf16) (harg3 : arg3.IsWhole) (arg4 : Memref sig .tc .vmem S2304x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S512x1024 .f32) (harg10 : arg10.IsWhole) (hc0 : ¬cond0_0 i) (hc1 : ¬cond0_1 i) (hc2 : cond0_2 i)
    (x0 : Vec Ideal S512x2304 .bf16) (x1 : Vec Ideal S2304x1024 .bf16) (x2 x3 : Vec Ideal S512x1024 .f32) (x4 : Vec Ideal S1x1024 .f32) (xs0 : Vec Ideal S512x1024 .f32) :
    out0_C_6 c i arg3 harg3 arg4 harg4 arg5 harg5 arg6 harg6 arg7 harg7 arg8 harg8 arg9 harg9 arg10 harg10 hc0 hc1 hc2 x0 x1 x2 x3 x4 xs0 = k0_pay8 (k0_pay1 x0 x1) xs0 x2 := by
  unfold out0_C_6
  rw [View.read_writes_eq_canon _ _ _ (cover0_C_6 c i arg3 harg3 arg4 harg4 arg5 harg5 arg6 harg6 arg7 harg7 arg8 harg8 arg9 harg9 arg10 harg10 hc0 hc1 hc2 x0 x1 x2 x3 x4 xs0)]
  unfold kernelRun0_C
  dsimp only
  try sl_unfold_words
  rw [View.canon_unit_zero hz]
  simp only [View.readAt_eq_ld, harg3.read_unread, harg4.read_unread, harg5.read_unread, harg6.read_unread, harg7.read_unread, harg10.read_unread, View.ld_unit_zero (S := S512x2304) hz, View.ld_unit_zero (S := S2304x1024) hz, View.ld_unit_zero (S := S512x1024) hz, View.ld_unit_zero (S := S1x1024) hz, shapeCast_self]

/-- Every window's block index at each point. -/
theorem idx : ∀ t : Fin cfg0.N, win0_0.index t = ![t.val / 3, t.val % 3] ∧ win0_1.index t = ![t.val % 3, 0] ∧ win0_2.index t = ![t.val / 3, 0] ∧ win0_3.index t = ![t.val / 3, 0] ∧ win0_4.index t = ![0, 0] ∧ win0_5.index t = ![t.val / 3, 0] ∧ win0_6.index t = ![t.val / 3, 0] :=
  (by decide +kernel : ∀ t : Fin grid0.N, _)

/-- The rows that were normalised. -/
def rowsA : S2048x1024.Idx → EReal := m ((c.tc : Thread nD τ).loc main_arg0)
/-- The gradient that goes past the norm. -/
def passA : S2048x1024.Idx → EReal := m ((c.tc : Thread nD τ).loc main_arg1)
/-- The gradient of the product. -/
def leftA : S2048x6912.Idx → EReal := m ((c.tc : Thread nD τ).loc main_arg2)
/-- The product's weights. -/
def rightA : S6912x1024.Idx → EReal := m ((c.tc : Thread nD τ).loc main_arg3)
/-- The norm's gains. -/
def gainA : S1x1024.Idx → EReal := m ((c.tc : Thread nD τ).loc main_arg4)

theorem left : V m c main_v0 = leftA m c := by
  unfold V V0
  simp only [hostOps0, List.flatten_cons, List.flatten_nil, List.append_nil, List.cons_append, List.nil_append]
  after_reads_simp
  rfl

theorem right : V m c main_v1 = rightA m c := by
  unfold V V0
  simp only [hostOps0, List.flatten_cons, List.flatten_nil, List.append_nil, List.cons_append, List.nil_append]
  after_reads_simp
  rfl

/-- The gradient of the norm's output. -/
def ct (i : S2048x1024.Idx) : EReal := ∑ k : Fin 6912, leftA m c (ix2 (i 0) k) * rightA m c (ix2 k (i 1))

/-- The part of it one point's blocks make. -/
def part (t : Fin cfg0.N) : S512x1024.Idx → EReal := k0_pay1 (iblk m c 0 t) (iblk m c 1 t)

/-- The left block. -/
def inL (t : Fin cfg0.N) : S512x2304.Idx → EReal := iblk m c 0 t
/-- The right block. -/
def inR (t : Fin cfg0.N) : S2304x1024.Idx → EReal := iblk m c 1 t

theorem part_eq (t : Fin cfg0.N) (y : S512x1024.Idx) (i : S2048x1024.Idx) (h0 : (i 0).val = 512 * (t.val / 3) + (y 0).val) (h1 : (i 1).val = (y 1).val) :
    part m c t y = ∑ k : Fin 2304, leftA m c (ix2 (i 0) ⟨2304 * (t.val % 3) + k.val, by omega⟩) * rightA m c (ix2 ⟨2304 * (t.val % 3) + k.val, by omega⟩ (i 1)) := by
  refine (pay1 _ _ y).trans (Finset.sum_congr rfl fun k _ => ?_)
  show inL m c t (ix2 (y 0) k) * inR m c t (ix2 k (y 1)) = _
  refine congrArg₂ (· * ·) ?_ ?_
  · show V m c main_v0 (((cfg0.win 0).blk t).view.emb (ix2 (y 0) k)) = _
    rw [left]
    refine congrArg _ (funext fun a => Fin.ext ?_)
    match a with
    | ⟨0, _⟩ =>
      refine Eq.trans ?_ h0.symm
      blk_simp [idx t]
      first | done | rfl | exact congrArg (· + _) (Nat.mul_comm _ _) | omega
    | ⟨1, _⟩ =>
      blk_simp [idx t]
      first | done | rfl | exact congrArg (· + _) (Nat.mul_comm _ _) | omega
  · show V m c main_v1 (((cfg0.win 1).blk t).view.emb (ix2 k (y 1))) = _
    rw [right]
    refine congrArg _ (funext fun a => Fin.ext ?_)
    match a with
    | ⟨1, _⟩ =>
      refine Eq.trans ?_ h1.symm
      blk_simp [idx t]
      first | done | rfl | exact congrArg (· + _) (Nat.mul_comm _ _) | omega
    | ⟨0, _⟩ =>
      blk_simp [idx t]
      first | done | rfl | exact congrArg (· + _) (Nat.mul_comm _ _) | omega

/-- What the accumulator holds before the last step of a row of tiles. -/
def acc (t : Fin cfg0.N) : S512x1024.Idx → EReal := (outsAt0 m c (t.val - 1) (Nat.lt_of_le_of_lt (Nat.sub_le _ _) t.isLt)).2.2

theorem first (t : Fin cfg0.N) (h : t.val % 3 = 0) : (outsAt0 m c t.val t.isLt).2.2 = part m c t := by
  rw [outsAt0_A m c t h (by omega) (by omega)]
  dsimp only
  rw [scr_A]
  rfl

theorem middle (t : Fin cfg0.N) (h : t.val % 3 = 1) (y : S512x1024.Idx) : (outsAt0 m c t.val t.isLt).2.2 y = part m c ⟨t.val - 1, by omega⟩ y + part m c t y := by
  rw [outsAt0_B m c t (by omega) h (by omega)]
  dsimp only
  rw [scr_B]
  show (outsAt0 m c (t.val - 1) _).2.2 y + part m c t y = _
  rw [first m c ⟨t.val - 1, by omega⟩ (by show (t.val - 1) % 3 = 0; omega)]

/-- At the last step of a row of tiles the accumulator and the step's part make the whole gradient of the norm's output. -/
theorem whole (t : Fin cfg0.N) (h : t.val % 3 = 2) (y : S512x1024.Idx) (i : S2048x1024.Idx) (h0 : (i 0).val = 512 * (t.val / 3) + (y 0).val) (h1 : (i 1).val = (y 1).val) :
    acc m c t y + part m c t y = ct m c i := by
  have e : acc m c t y = part m c ⟨t.val - 1 - 1, by omega⟩ y + part m c ⟨t.val - 1, by omega⟩ y :=
    middle m c ⟨t.val - 1, by omega⟩ (by show (t.val - 1) % 3 = 1; omega) y
  unfold ct
  rw [e, add_assoc, sum_append (a := 2304) (b := 4608) rfl, sum_append (a := 2304) (b := 2304) (n := 4608) rfl]
  refine congrArg₂ (· + ·) ((part_eq m c _ y i (by show (i 0).val = 512 * ((t.val - 1 - 1) / 3) + (y 0).val; omega) h1).trans ?_)
    (congrArg₂ (· + ·) ((part_eq m c _ y i (by show (i 0).val = 512 * ((t.val - 1) / 3) + (y 0).val; omega) h1).trans ?_) ((part_eq m c t y i h0 h1).trans ?_)) <;>
    refine Finset.sum_congr rfl fun k _ => congrArg₂ (· * ·) (congrArg (fun q => leftA m c (ix2 (i 0) q)) (Fin.ext ?_)) (congrArg (fun q => rightA m c (ix2 q (i 1))) (Fin.ext ?_))
  · show 2304 * ((t.val - 1 - 1) % 3) + k.val = k.val
    omega
  · show 2304 * ((t.val - 1 - 1) % 3) + k.val = k.val
    omega
  · show 2304 * ((t.val - 1) % 3) + k.val = 2304 + k.val
    omega
  · show 2304 * ((t.val - 1) % 3) + k.val = 2304 + k.val
    omega
  · show 2304 * (t.val % 3) + k.val = 2304 + (2304 + k.val)
    omega
  · show 2304 * (t.val % 3) + k.val = 2304 + (2304 + k.val)
    omega

/-- The block of normalised rows. -/
def inX (t : Fin cfg0.N) : S512x1024.Idx → EReal := iblk m c 2 t
/-- The block of the gradient past the norm. -/
def inP (t : Fin cfg0.N) : S512x1024.Idx → EReal := iblk m c 3 t
/-- The gains, as a block. -/
def inG (t : Fin cfg0.N) : S1x1024.Idx → EReal := iblk m c 4 t

theorem inX_eq (t : Fin cfg0.N) (y : S512x1024.Idx) (i : S2048x1024.Idx) (h0 : (i 0).val = 512 * (t.val / 3) + (y 0).val) (h1 : (i 1).val = (y 1).val) : inX m c t y = rowsA m c i := by
  show V m c main_arg0 (((cfg0.win 2).blk t).view.emb y) = _
  rw [V_main_arg0]
  refine congrArg (rowsA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | exact congrArg (· + _) (Nat.mul_comm _ _) | omega

theorem inP_eq (t : Fin cfg0.N) (y : S512x1024.Idx) (i : S2048x1024.Idx) (h0 : (i 0).val = 512 * (t.val / 3) + (y 0).val) (h1 : (i 1).val = (y 1).val) : inP m c t y = passA m c i := by
  show V m c main_arg1 (((cfg0.win 3).blk t).view.emb y) = _
  rw [V_main_arg1]
  refine congrArg (passA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | exact congrArg (· + _) (Nat.mul_comm _ _) | omega

theorem inG_eq (t : Fin cfg0.N) (k : Fin 1024) : inG m c t (ix2 0 k) = gainA m c (ix2 0 k) := by
  show V m c main_arg4 (((cfg0.win 4).blk t).view.emb (ix2 0 k)) = _
  rw [V_main_arg4]
  refine congrArg (gainA m c) (funext fun a => Fin.ext ?_)
  match a with
  | ⟨0, _⟩ =>
    blk_simp [idx t]
    first | done | rfl | exact congrArg (· + _) (Nat.mul_comm _ _) | omega
  | ⟨1, _⟩ =>
    blk_simp [idx t]
    first | done | rfl | exact congrArg (· + _) (Nat.mul_comm _ _) | omega

theorem last_5 (t : Fin cfg0.N) (h : t.val % 3 = 2) : (outsAt0 m c t.val t.isLt).1 = k0_pay7 (F := Ideal) (part m c t) (acc m c t) (inX m c t) (inP m c t) (inG m c t) := by
  rw [outsAt0_C m c t (by omega) (by omega) h]
  dsimp only
  rw [out_5]
  rfl

theorem last_6 (t : Fin cfg0.N) (h : t.val % 3 = 2) : (outsAt0 m c t.val t.isLt).2.1 = k0_pay8 (F := Ideal) (part m c t) (acc m c t) (inX m c t) := by
  rw [outsAt0_C m c t (by omega) (by omega) h]
  dsimp only
  rw [out_6]
  rfl

/-- The reference's gradient of the rows, for the kernel's arguments. -/
def goal : S2048x1024.Idx → EReal := Cert.Reference7Ideal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's gradient of the gains. -/
def goalG : S1x1024.Idx → EReal := Cert.Reference7Ideal.Read.val_main_v19 (F := Ideal) (m ((c.tc : Thread nD τ).loc main_arg0)) (m ((c.tc : Thread nD τ).loc main_arg2)) (m ((c.tc : Thread nD τ).loc main_arg3))

theorem ref_meanSq (s : Cert.Reference7Ideal.S2048x1.Idx) : Cert.Reference7Ideal.Read.val_main_v6 (F := Ideal) (m ((c.tc : Thread nD τ).loc main_arg0)) s = meanSq eps (fun k => rowsA m c (ix2 (s 0) k)) := by
  rw [Cert.Reference7Ideal.Read.val_main_v6_apply, Cert.Reference7Ideal.Read.val_main_v4_apply, Cert.Reference7Ideal.Read.val_main_v2_apply, Cert.Reference7Ideal.Read.val_main_v1_apply, Cert.Reference7Ideal.Read.val_main_v3_apply, Cert.Reference7Ideal.Read.val_main_cst_0_apply, Cert.Reference7Ideal.Read.val_main_v5_apply, Cert.Reference7Ideal.Read.val_main_cst_1_apply, Cert.Reference7Ideal.Read.val_main_cst_apply, ofBits_n, ofBits_eps, ofBits_zero]
  unfold meanSq
  refine congrArg (· + ((eps : ℝ) : EReal)) (congrArg (Ideal.div · ((1024 : ℝ) : EReal)) ((zero_add _).trans (Finset.sum_congr rfl fun k _ => ?_)))
  rw [Cert.Reference7Ideal.Read.val_main_v0_apply]
  have e : Cert.Reference7Ideal.Read.idx_main_v1 (Cert.Reference7Ideal.Read.idx_main_v2 s) k = ix2 (s 0) k := funext fun a => by match a with
    | ⟨0, _⟩ => rfl
    | ⟨1, _⟩ => rfl
  rw [e]
  rfl

theorem ref_scale (s : Cert.Reference7Ideal.S2048x1.Idx) : Cert.Reference7Ideal.Read.val_main_v7 (F := Ideal) (m ((c.tc : Thread nD τ).loc main_arg0)) s = scale eps (fun k => rowsA m c (ix2 (s 0) k)) := by
  rw [Cert.Reference7Ideal.Read.val_main_v7_apply, ref_meanSq]
  rfl

theorem ref_ct (i : S2048x1024.Idx) : Cert.Reference7Ideal.Read.val_main_v16 (F := Ideal) (m ((c.tc : Thread nD τ).loc main_arg2)) (m ((c.tc : Thread nD τ).loc main_arg3)) i = ct m c i := by
  rw [Cert.Reference7Ideal.Read.val_main_v16_apply]
  refine Finset.sum_congr rfl fun k _ => ?_
  refine congrArg₂ (· * ·) (congrArg (leftA m c) (funext fun a => ?_)) (congrArg (rightA m c) (funext fun a => ?_)) <;> match a with
    | ⟨0, _⟩ => rfl
    | ⟨1, _⟩ => rfl

theorem ref_d (i : S2048x1024.Idx) : Cert.Reference7Ideal.Read.val_main_v21 (F := Ideal) (m ((c.tc : Thread nD τ).loc main_arg2)) (m ((c.tc : Thread nD τ).loc main_arg3)) (m ((c.tc : Thread nD τ).loc main_arg4)) i = ct m c i * gainA m c (ix2 0 (i 1)) := by
  rw [Cert.Reference7Ideal.Read.val_main_v21_apply, ref_ct, Cert.Reference7Ideal.Read.val_main_v20_apply]
  refine congrArg (ct m c i * ·) (congrArg (gainA m c) (funext fun a => ?_))
  match a with
    | ⟨0, _⟩ => rfl
    | ⟨1, _⟩ => rfl

theorem ref_inner (i : S2048x1024.Idx) : Cert.Reference7Ideal.Read.val_main_v32 (F := Ideal) (m ((c.tc : Thread nD τ).loc main_arg0)) (m ((c.tc : Thread nD τ).loc main_arg2)) (m ((c.tc : Thread nD τ).loc main_arg3)) (m ((c.tc : Thread nD τ).loc main_arg4)) i
    = NormTail.inner eps (fun k => rowsA m c (ix2 (i 0) k)) (fun k => ct m c (ix2 (i 0) k) * gainA m c (ix2 0 k)) := by
  rw [Cert.Reference7Ideal.Read.val_main_v32_apply, Cert.Reference7Ideal.Read.val_main_v31_apply, Cert.Reference7Ideal.Read.val_main_cst_6_apply, ofBits_zero]
  refine (zero_add _).trans ?_
  rw [Fin.sum_univ_one, Cert.Reference7Ideal.Read.val_main_v30_apply, Cert.Reference7Ideal.Read.val_main_v29_apply, Cert.Reference7Ideal.Read.val_main_cst_5_apply, ofBits_n, Cert.Reference7Ideal.Read.val_main_v28_apply, Cert.Reference7Ideal.Read.val_main_v24_apply, Cert.Reference7Ideal.Read.val_main_v23_apply, Cert.Reference7Ideal.Read.val_main_cst_4_apply, ofBits_zero,
    Cert.Reference7Ideal.Read.val_main_v10_apply, Cert.Reference7Ideal.Read.val_main_v9_apply, Cert.Reference7Ideal.Read.val_main_cst_2_apply, ofBits_half, Cert.Reference7Ideal.Read.val_main_v8_apply, ref_meanSq, ref_scale]
  unfold NormTail.inner
  refine congrArg (Ideal.div · ((1024 : ℝ) : EReal)) (congrArg₂ (· * ·) ((zero_add _).trans (Finset.sum_congr rfl fun k _ => ?_)) rfl)
  rw [Cert.Reference7Ideal.Read.val_main_v22_apply, ref_d]
  have e : Cert.Reference7Ideal.Read.idx_main_v23 (Cert.Reference7Ideal.Read.idx_main_v24 (Cert.Reference7Ideal.Read.idx_main_v31 (Cert.Reference7Ideal.Read.idx_main_v32 i) 0)) k = ix2 (i 0) k := funext fun a => by match a with
    | ⟨0, _⟩ => exact Fin.ext (by simp)
    | ⟨1, _⟩ => rfl
  rw [e]
  rfl

theorem goal_apply (i : S2048x1024.Idx) : goal m c i = factored eps (fun k => rowsA m c (ix2 (i 0) k)) (fun k => ct m c (ix2 (i 0) k) * gainA m c (ix2 0 k)) (passA m c i) (i 1) := by
  have e : ix2 (i 0) (i 1) = i := funext fun a => by match a with
    | ⟨0, _⟩ => rfl
    | ⟨1, _⟩ => rfl
  refine Eq.trans ?_ (plain_eq_factored eps eps_pos _ _ _ _)
  unfold goal plain
  rw [Cert.Reference7Ideal.Read.val_main_v36_apply, Cert.Reference7Ideal.Read.val_main_v35_apply, Cert.Reference7Ideal.Read.val_main_v34_apply, Cert.Reference7Ideal.Read.val_main_v33_apply, Cert.Reference7Ideal.Read.val_main_v27_apply, Cert.Reference7Ideal.Read.val_main_v26_apply, Cert.Reference7Ideal.Read.val_main_v25_apply, ref_inner, ref_scale, ref_d]
  exact congrArg₂ (· + ·) (congrArg₂ (· + ·) (congrArg₂ (· + ·) rfl (congrArg₂ (· * ·) (congrArg (· * gainA m c (ix2 0 (i 1))) (congrArg (ct m c) e.symm)) rfl))
    (congrArg₂ (· * ·) (congrArg (rowsA m c) e.symm) rfl)) (congrArg₂ (· * ·) rfl (congrArg (rowsA m c) e.symm))

theorem goalG_apply (i : S1x1024.Idx) : goalG m c i = ∑ s : Fin 2048, ct m c (ix2 s (i 1)) * (rowsA m c (ix2 s (i 1)) * scale eps (fun k => rowsA m c (ix2 s k))) := by
  unfold goalG
  rw [Cert.Reference7Ideal.Read.val_main_v19_apply, Cert.Reference7Ideal.Read.val_main_v18_apply, Cert.Reference7Ideal.Read.val_main_cst_3_apply, ofBits_zero]
  refine (zero_add _).trans (Finset.sum_congr rfl fun s _ => ?_)
  have e : Cert.Reference7Ideal.Read.idx_main_v18 (Cert.Reference7Ideal.Read.idx_main_v19 i) s = ix2 s (i 1) := funext fun a => by match a with
    | ⟨0, _⟩ => rfl
    | ⟨1, _⟩ => exact Fin.ext (by simp)
  rw [Cert.Reference7Ideal.Read.val_main_v17_apply, ref_ct, Cert.Reference7Ideal.Read.val_main_v12_apply, Cert.Reference7Ideal.Read.val_main_v11_apply, ref_scale, e]
  exact mul_comm _ _

/-- The rows' gradient once every block is written back. -/
theorem arr : (dats m 0 c).arrAt 5 cfg0.N = goal m c := by
  refine (dats m 0 c).arrAt_eq_of_cover 5 (goal m c) (fun t hf => ?_) (fun i => ?_)
  · have h : t.val % 3 = 2 := (flush0_5 t).mp hf
    funext y
    show (cfg0.win 5).cut (grid0.coords t) ((dats m 0 c).after 5 t) y = goal m c (((cfg0.win 5).blk t).view.emb y)
    rw [after0_5, last_5 m c t h]
    refine (pay7 _ _ _ _ _ y).trans ?_
    rw [goal_apply]
    have h0 : ((((cfg0.win 5).blk t).view.emb y) 0).val = 512 * (t.val / 3) + (y 0).val := by
      blk_simp [idx t]
      first | done | rfl | exact congrArg (· + _) (Nat.mul_comm _ _) | omega
    have h1 : ((((cfg0.win 5).blk t).view.emb y) 1).val = (y 1).val := by
      blk_simp [idx t]
      first | done | rfl | exact congrArg (· + _) (Nat.mul_comm _ _) | omega
    generalize ((cfg0.win 5).blk t).view.emb y = i at h0 h1
    rw [inP_eq m c t y i h0 h1, show (y 1) = (i 1) from Fin.ext h1.symm,
      show (fun k => inX m c t (ix2 (y 0) k)) = fun k => rowsA m c (ix2 (i 0) k) from funext fun k => inX_eq m c t _ _ h0 rfl,
      show (fun k => (acc m c t (ix2 (y 0) k) + part m c t (ix2 (y 0) k)) * inG m c t (ix2 0 k)) = fun k => ct m c (ix2 (i 0) k) * gainA m c (ix2 0 k) from
        funext fun k => congrArg₂ (· * ·) (whole m c t h _ _ h0 rfl) (inG_eq m c t k)]
  · have hi0 : (i 0).val < 2048 := (i 0).isLt
    have hi1 : (i 1).val < 1024 := (i 1).isLt
    have hN : cfg0.N = 12 := N_0
    refine ⟨⟨3 * ((i 0).val / 512) + 2, by omega⟩, (flush0_5 _).mpr (by show (3 * ((i 0).val / 512) + 2) % 3 = 2; omega), ?_⟩
    set t : Fin cfg0.N := ⟨3 * ((i 0).val / 512) + 2, by omega⟩ with ht
    have tv : t.val = 3 * ((i 0).val / 512) + 2 := rfl
    refine ((cfg0.win 5).emb_mem_blk_iff t i).mpr fun a => ?_
    show win0_5.index t a * S512x1024.size a ≤ (i a).val ∧ (i a).val < win0_5.index t a * S512x1024.size a + S512x1024.size a
    rw [(idx t).2.2.2.2.2.1]
    match a with
    | ⟨0, _⟩ =>
      show (t.val / 3) * 512 ≤ (i 0).val ∧ (i 0).val < (t.val / 3) * 512 + 512
      omega
    | ⟨1, _⟩ =>
      show 0 * 1024 ≤ (i 1).val ∧ (i 1).val < 0 * 1024 + 1024
      omega

/-- One term of the gains' gradient. -/
def term (j : Fin 1024) (s : Fin 2048) : EReal := ct m c (ix2 s j) * (rowsA m c (ix2 s j) * scale eps (fun k => rowsA m c (ix2 s k)))

/-- The column sums, in every eighth row. -/
def sums (i : S32x1024.Idx) : EReal := if (i 0).val % 8 = 0 then ∑ a : Fin 512, term m c (i 1) ⟨512 * ((i 0).val / 8) + a.val, by have : (i 0).val < 32 := (i 0).isLt; omega⟩ else 0

/-- The column sums once every block is written back. -/
theorem arrG : (dats m 0 c).arrAt 6 cfg0.N = sums m c := by
  refine (dats m 0 c).arrAt_eq_of_cover 6 (sums m c) (fun t hf => ?_) (fun i => ?_)
  · have h : t.val % 3 = 2 := (flush0_6 t).mp hf
    funext y
    show (cfg0.win 6).cut (grid0.coords t) ((dats m 0 c).after 6 t) y = sums m c (((cfg0.win 6).blk t).view.emb y)
    rw [after0_6, last_6 m c t h]
    refine (pay8 _ _ _ y).trans ?_
    have h0 : ((((cfg0.win 6).blk t).view.emb y) 0).val = 8 * (t.val / 3) + (y 0).val := by
      blk_simp [idx t]
      first | done | rfl | exact congrArg (· + _) (Nat.mul_comm _ _) | omega
    have h1 : ((((cfg0.win 6).blk t).view.emb y) 1).val = (y 1).val := by
      blk_simp [idx t]
      first | done | rfl | exact congrArg (· + _) (Nat.mul_comm _ _) | omega
    generalize ((cfg0.win 6).blk t).view.emb y = i at h0 h1
    have hy : (y 0).val < 8 := (y 0).isLt
    unfold sums
    by_cases hz : (y 0).val = 0
    · rw [if_pos hz, if_pos (by omega)]
      refine Finset.sum_congr rfl fun a _ => ?_
      have ha : a.val < 512 := a.isLt
      have hi0 : (i 0).val < 32 := (i 0).isLt
      unfold term
      rw [show (y 1) = (i 1) from Fin.ext h1.symm]
      refine congrArg₂ (· * ·) (whole m c t h _ _ ?_ rfl) (congrArg₂ (· * ·) (inX_eq m c t _ _ ?_ rfl) (congrArg (scale eps) (funext fun k => inX_eq m c t _ _ ?_ rfl))) <;>
        show 512 * ((i 0).val / 8) + a.val = 512 * (t.val / 3) + a.val <;> omega
    · rw [if_neg hz, if_neg (by omega)]
  · have hi0 : (i 0).val < 32 := (i 0).isLt
    have hi1 : (i 1).val < 1024 := (i 1).isLt
    have hN : cfg0.N = 12 := N_0
    refine ⟨⟨3 * ((i 0).val / 8) + 2, by omega⟩, (flush0_6 _).mpr (by show (3 * ((i 0).val / 8) + 2) % 3 = 2; omega), ?_⟩
    set t : Fin cfg0.N := ⟨3 * ((i 0).val / 8) + 2, by omega⟩ with ht
    have tv : t.val = 3 * ((i 0).val / 8) + 2 := rfl
    refine ((cfg0.win 6).emb_mem_blk_iff t i).mpr fun a => ?_
    show win0_6.index t a * S8x1024.size a ≤ (i a).val ∧ (i a).val < win0_6.index t a * S8x1024.size a + S8x1024.size a
    rw [(idx t).2.2.2.2.2.2]
    match a with
    | ⟨0, _⟩ =>
      show (t.val / 3) * 8 ≤ (i 0).val ∧ (i 0).val < (t.val / 3) * 8 + 8
      omega
    | ⟨1, _⟩ =>
      show 0 * 1024 ≤ (i 1).val ∧ (i 1).val < 0 * 1024 + 1024
      omega

/-- The host's sum over the rows of column sums. -/
theorem hostSum (i : S1x1024.Idx) : broadcastInDim S1x1024 ![1] bcast_S1024_S1x1024_1 (Host.reduceAdd (F := Ideal) (φ := .f32) (sums m c) (constant S_ .f32 0x00000000#32) reducesTo_S32x1024_S1024_d0 h_S_) i = goalG m c i := by
  unfold broadcastInDim
  simp only [Host.reduceAdd, Ideal.hostReduceAdd_def]
  rw [Ideal.hostReduceAdd_single reducesTo_S32x1024_S1024_d0 (by decide), goalG_apply]
  refine Eq.trans (congrArg₂ (· + ·) ofBits_zero ?_) (zero_add _)
  refine Eq.trans (Finset.sum_congr rfl fun r _ => congrArg (sums m c) (?_ : _ = ix2 r (i 1))) (rows_total (term m c (i 1)) (fun r => sums m c (ix2 r (i 1))) fun r => rfl)
  funext a
  match a with
  | ⟨0, _⟩ => rfl
  | ⟨1, _⟩ => rfl

/-- The gains' gradient after the host's last lines. -/
theorem tailG : Pipeline.afterTail₀ cfgs (dats m) 0 (V0 m) [hostOps1] c main_v4 = goalG m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 6
  funext i
  refine Eq.trans ?_ (hostSum m c i)
  rw [← arrG, ← e]

/-- Both programs end with the rows' gradient and the gains'. -/
theorem algebraic [hK : Cert.Kernel7Ideal.Facts] [hR : Cert.Reference7Ideal.Facts] : Cert.algebraic_Kernel7Ideal_Reference7Ideal := by
  intro m g m' g' _ hagree
  refine ⟨fun c => goal m c, fun c => goalG m c, ?_, ?_⟩
  · refine (θ_run Cert.Kernel7Ideal.defs _ _).mono (fun r h c => ?_) (run_main m g)
    exact ⟨((h c).1 5).trans (arr m c),
      ((h c).2 main_v4 (Pipeline.mem_restRefs_of main_v4 (by decide) (by decide))).trans (tailG m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩
  · refine (θ_run Cert.Reference7Ideal.defs _ _).mono (fun r h c => ?_) (Cert.Reference7Ideal.Value.run (F := Ideal) m' g')
    refine ⟨(h c).1.trans ?_, (h c).2.1.trans ?_, (h c).2.2.1, (h c).2.2.2.1, (h c).2.2.2.2.1, (h c).2.2.2.2.2.1, (h c).2.2.2.2.2.2⟩
    · rw [Cert.Reference7Ideal.Read.val_main_v36_eq, (hagree c).1, (hagree c).2.1, (hagree c).2.2.1, (hagree c).2.2.2.1, (hagree c).2.2.2.2]
      rfl
    · rw [Cert.Reference7Ideal.Read.val_main_v19_eq, (hagree c).1, (hagree c).2.2.1, (hagree c).2.2.2.1]
      rfl

end Cert.DMixIn
-- ==== Proof.InProjRunIdeal.lean ====
/-
  The run of the input projection's pallas call, by hand: at the first column tile of a row of tiles the body normalises the
  rows and stores them; at the others it reads them back from the same buffer, which nothing has written back in between.
-/
module

public import proofs.«01_k».proof.Proof.Gen.Kernel8Ideal.Frame
public import proofs.«01_k».proof.Proof.Gen.Kernel8Ideal.Skeleton
public import Idealize.ShloMosaic.Lib.Pipeline.Value
public import Idealize.ShloMosaic.Lib.Claim

@[expose] public section

set_option maxRecDepth 16384

noncomputable section

namespace Cert.InProj.Kernel8Ideal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## Where the rows are normalised -/

/-- The body's condition holds at the first column tile. -/
theorem hcond : ∀ t : Fin cfg0.N, k0_cond1 (grid0.coords t) = 1#1 ↔ t.val % 6 = 0 :=
  (by decide +kernel : ∀ t : Fin grid0.N, k0_cond1 (grid0.coords t) = 1#1 ↔ t.val % 6 = 0)

theorem live (w : Fin cfg0.W) (hw : w ≠ 4) (t : Fin cfg0.N) : cfg0.idle w (grid0.coords t) = false := by
  fin_cases w
  · rfl
  · rfl
  · rfl
  · rfl
  · exact absurd rfl hw

theorem live4 : ∀ t : Fin cfg0.N, t.val % 6 = 0 → cfg0.idle 4 (grid0.coords t) = false :=
  (by decide +kernel : ∀ t : Fin grid0.N, t.val % 6 = 0 → cfg0.idle 4 (grid0.coords t) = false)

theorem idle4 : ∀ t : Fin cfg0.N, ¬t.val % 6 = 0 → cfg0.idle 4 (grid0.coords t) = true :=
  (by decide +kernel : ∀ t : Fin grid0.N, ¬t.val % 6 = 0 → cfg0.idle 4 (grid0.coords t) = true)

/-! ## The body on any staging buffers -/

section Run

variable (c : Dev nD) (i : grid0.Coords)
  (arg3 : Memref sig .tc .vmem S1024x1024 .f32) (harg3 : arg3.IsWhole) (arg4 : Memref sig .tc .vmem S1152x1024 .bf16) (harg4 : arg4.IsWhole)
  (arg5 : Memref sig .tc .vmem S1x1024 .f32) (harg5 : arg5.IsWhole) (arg6 : Memref sig .tc .vmem S1024x1152 .f32) (harg6 : arg6.IsWhole)
  (arg7 : Memref sig .tc .vmem S1024x1024 .bf16) (harg7 : arg7.IsWhole)
  (x : Vec F S1024x1024 .f32) (w : Vec F S1152x1024 .bf16) (g : Vec F S1x1024 .f32)

set_option maxHeartbeats 1000000 in
/-- At the first column tile. -/
theorem runFirst (hc : k0_cond1 i = 1#1) (E : Set ℕ) (K : PUnit → sProp 𝕄) :
    iprop(owns (c : Thread nD τ) arg3 fullShare x ∗ owns (c : Thread nD τ) arg4 fullShare w ∗ owns (c : Thread nD τ) arg5 fullShare g
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare w ∗ owns (c : Thread nD τ) arg5 fullShare g
          ∗ owns (c : Thread nD τ) arg6 fullShare (k0_pay2 (k0_pay1 x g) w) ∗ owns (c : Thread nD τ) arg7 fullShare (k0_pay1 x g)) -∗ K ⟨⟩))
      ⊢ wp frame (wpE (defs₀ (F := F)) Variants.none c none) E (cc0_in_proj i arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg3.eq_unread hf0; obtain rfl := harg4.eq_unread hf1; obtain rfl := harg5.eq_unread hf2
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ fun y => ⟨_, List.mem_singleton.mpr rfl, View.mem_set_unit_zero hz inb_S1024x1152_S1024x1152_0_0 y⟩]
    try sl_unfold_words
    rw [View.canon_unit_zero hz]
    simp only [View.readAt_eq_ld, harg3.read_unread, harg4.read_unread, harg5.read_unread, View.ld_unit_zero (S := S1024x1024) hz, View.ld_unit_zero (S := S1152x1024) hz, View.ld_unit_zero (S := S1x1024) hz]
    exact congrArg (fun q => k0_pay2 q w) (View.readCov_unit_zero (S := S1024x1024) _ hz _ _)
  iexists _; isplitr
  swap; · iexact H4
  ipureintro
  sl_unfold_words
  rw [View.read_writes_eq_canon _ _ _ fun y => ⟨_, List.mem_singleton.mpr rfl, View.mem_set_unit_zero hz inb_S1024x1024_S1024x1024_0_0 y⟩]
  rw [View.canon_unit_zero hz]
  simp only [View.readAt_eq_ld, harg3.read_unread, harg4.read_unread, harg5.read_unread, View.ld_unit_zero (S := S1024x1024) hz, View.ld_unit_zero (S := S1152x1024) hz, View.ld_unit_zero (S := S1x1024) hz]

set_option maxHeartbeats 1000000 in
/-- At the others. -/
theorem runLater (hc : ¬k0_cond1 i = 1#1) (h : Vec F S1024x1024 .bf16) (E : Set ℕ) (K : PUnit → sProp 𝕄) :
    iprop(owns (c : Thread nD τ) arg3 fullShare x ∗ owns (c : Thread nD τ) arg4 fullShare w ∗ owns (c : Thread nD τ) arg5 fullShare g
        ∗ (∃ d, owns (c : Thread nD τ) arg6 fullShare d) ∗ owns (c : Thread nD τ) arg7 fullShare h
        ∗ (iprop(owns (c : Thread nD τ) arg3 fullShare x ∗ owns (c : Thread nD τ) arg4 fullShare w ∗ owns (c : Thread nD τ) arg5 fullShare g
          ∗ owns (c : Thread nD τ) arg6 fullShare (k0_pay2 h w) ∗ owns (c : Thread nD τ) arg7 fullShare h) -∗ K ⟨⟩))
      ⊢ wp frame (wpE (defs₀ (F := F)) Variants.none c none) E (cc0_in_proj i arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg3.eq_unread hf0; obtain rfl := harg4.eq_unread hf1; obtain rfl := harg5.eq_unread hf2; obtain rfl := harg7.eq_unread hf4
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ fun y => ⟨_, List.mem_singleton.mpr rfl, View.mem_set_unit_zero hz inb_S1024x1152_S1024x1152_0_0 y⟩]
    try sl_unfold_words
    rw [View.canon_unit_zero hz]
    simp only [View.readAt_eq_ld, harg4.read_unread, harg7.read_unread, View.ld_unit_zero (S := S1024x1024) hz, View.ld_unit_zero (S := S1152x1024) hz]
  iexists _; isplitr; · ipureintro; exact harg7.read_unread _
  iexact H4

end Run

/-! ## The proof data -/

variable (m : (ℓ : Loc nD τ sig) → Buf (Elt F) ℓ) (ρ : Dev nD → PrngReg)

/-- The normalised rows of the point's row of tiles. -/
def rows (c : Dev nD) (t : Fin cfg0.N) : Vec F S1024x1024 .bf16 := k0_pay1 (iblk m c 0 t) (iblk m c 2 t)

/-- Each input's buffer at its block, the product's at the point's product, the rows' at the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 1 t)
    | ⟨4, _⟩ => rows m c t
  Φ _ := Pipeline.ΦA spec0 c
  q w := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rows m c t) (iblk m c 1 t) := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Within a row of tiles the block of rows stays. -/
theorem step0 (c : Dev nD) (n : ℕ) (hn : n + 1 < cfg0.N) (h : ¬(n + 1) % 6 = 0) :
    (iblk m c 0 ⟨n + 1, hn⟩ : Vec F S1024x1024 .f32) = (iblk m c 0 ⟨n, Nat.lt_of_succ_lt hn⟩ : Vec F S1024x1024 .f32) := by
  have e := before0 m c ⟨n + 1, hn⟩ (iblk m c 0 ⟨n + 1, hn⟩)
  rw [(dats m 0 c).before_unfetched_in 0 rfl _ (Bool.eq_false_iff.mpr fun hf => h ((fetch0_0 _).mp hf)) (fun _ => rfl)] at e
  refine e.symm.trans ?_
  unfold Dat.kept
  rw [Pipeline.fill_of_clip_none (cfg := cfg0) 0 _ (fun _ => rfl) _ ((dats m 0 c).after 0 _), Window.fill_cut]
  exact after0 m c ⟨n, Nat.lt_of_succ_lt hn⟩

/-- The gains stay. -/
theorem step2 (c : Dev nD) (n : ℕ) (hn : n + 1 < cfg0.N) :
    (iblk m c 2 ⟨n + 1, hn⟩ : Vec F S1x1024 .f32) = (iblk m c 2 ⟨n, Nat.lt_of_succ_lt hn⟩ : Vec F S1x1024 .f32) := by
  have e := before2 m c ⟨n + 1, hn⟩ (iblk m c 2 ⟨n + 1, hn⟩)
  have hN : n + 1 < 12 := lt_of_lt_of_eq hn N_0
  rw [(dats m 0 c).before_unfetched_in 2 rfl _ (Bool.eq_false_iff.mpr fun hf => by
    have := (fetch0_2 _).mp hf
    dsimp only at this
    omega) (fun _ => rfl)] at e
  refine e.symm.trans ?_
  unfold Dat.kept
  rw [Pipeline.fill_of_clip_none (cfg := cfg0) 2 _ (fun _ => rfl) _ ((dats m 0 c).after 2 _), Window.fill_cut]
  exact after2 m c ⟨n, Nat.lt_of_succ_lt hn⟩

theorem rows_step (c : Dev nD) (n : ℕ) (hn : n + 1 < cfg0.N) (h : ¬(n + 1) % 6 = 0) : rows m c ⟨n + 1, hn⟩ = rows m c ⟨n, Nat.lt_of_succ_lt hn⟩ := by
  unfold rows
  exact congrArg₂ k0_pay1 (step0 m c n hn h) (step2 m c n hn)

/-- Past the first column tile the rows' buffer holds the rows. -/
theorem before4 (c : Dev nD) (d) : ∀ (n : ℕ) (hn : n < cfg0.N), ¬n % 6 = 0 → (dats m 0 c).before 4 ⟨n, hn⟩ d = rows m c ⟨n, hn⟩
  | 0, _, h => absurd rfl h
  | n + 1, hn, h => by
    have hN : n + 1 < 12 := lt_of_lt_of_eq hn N_0
    rw [(dats m 0 c).before_of_pos 4 ⟨n + 1, hn⟩ (Nat.succ_ne_zero n) ((cfg0.win 4).fetch_out rfl _), if_neg (fun hf => by
      have := (flush0_4 _).mp hf
      dsimp only at this
      omega), rows_step m c n hn h]
    show (dats m 0 c).left 4 ⟨n, Nat.lt_of_succ_lt hn⟩ d = _
    unfold Dat.left
    by_cases hs : n % 6 = 0
    · have hl := live4 ⟨n, Nat.lt_of_succ_lt hn⟩ hs
      rw [hl]
      dsimp only
      unfold Dat.kept
      rw [Pipeline.fill_of_clip_none (cfg := cfg0) 4 _ (fun _ => rfl) _ ((dats m 0 c).after 4 _), Window.fill_cut]
      exact after4 m c ⟨n, Nat.lt_of_succ_lt hn⟩
    · have hl := idle4 ⟨n, Nat.lt_of_succ_lt hn⟩ hs
      rw [hl]
      exact before4 c d n (Nat.lt_of_succ_lt hn) hs

/-! ## The body obligation -/

abbrev ms0 (t : Fin cfg0.N) : Memref sig .tc .vmem S1024x1024 .f32 := win0_0.stage (cfg0.slots t 0)
abbrev ms1 (t : Fin cfg0.N) : Memref sig .tc .vmem S1152x1024 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1152 .f32 := win0_3.stage (cfg0.slots t 3)
abbrev ms4 (t : Fin cfg0.N) : Memref sig .tc .vmem S1024x1024 .bf16 := win0_4.stage (cfg0.slots t 4)

/-- The rows' buffer holding the rows is what is asked of it after the body. -/
theorem leaves4 (c : Dev nD) (t : Fin cfg0.N) : owns (c : Thread nD τ) (ms4 t) fullShare (rows m c t) ⊢ (dats m 0 c).leavesExact 4 t := by
  unfold Dat.leavesExact
  by_cases h : t.val % 6 = 0
  · rw [live4 t h, after4]
    try exact Idealize.SL.BI.Entails.refl _
  · rw [idle4 t h]
    by_cases hf : (cfg0.win 4).flush t = true
    · rw [hf, after4]
      try exact Idealize.SL.BI.Entails.refl _
    · rw [Bool.eq_false_iff.mpr hf]
      dsimp only
      iintro H
      iexists (rows m c t)
      rw [before4 m c (rows m c t) t.val t.isLt h]
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0 (by decide) t], after0]
  rw [show (dats m 0 c).leavesExact 1 t = owns (c : Thread nD τ) (ms1 t) fullShare ((dats m 0 c).after 1 t) from by
    unfold Dat.leavesExact; rw [live 1 (by decide) t], after1]
  rw [show (dats m 0 c).leavesExact 2 t = owns (c : Thread nD τ) (ms2 t) fullShare ((dats m 0 c).after 2 t) from by
    unfold Dat.leavesExact; rw [live 2 (by decide) t], after2]
  rw [show (dats m 0 c).leavesExact 3 t = owns (c : Thread nD τ) (ms3 t) fullShare ((dats m 0 c).after 3 t) from by
    unfold Dat.leavesExact; rw [live 3 (by decide) t], after3]
  by_cases h : t.val % 6 = 0
  · iintro ⟨HΦ, Ho, ⟨%d0, H0⟩, ⟨%d1, H1⟩, ⟨%d2, H2⟩, ⟨%d3, H3⟩, ⟨%d4, H4⟩⟩
    iapply (runFirst c (grid0.coords t) _ _ _ _ _ _ _ _ _ _ (iblk m c 0 t) (iblk m c 1 t) (iblk m c 2 t) ((hcond t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t)
    iexact H4
  · simp only [before4 m c _ t.val t.isLt h]
    iintro ⟨HΦ, Ho, ⟨%d0, H0⟩, ⟨%d1, H1⟩, ⟨%d2, H2⟩, ⟨%d3, H3⟩, ⟨%d4, H4⟩⟩
    iapply (runLater c (grid0.coords t) _ _ _ _ _ _ _ _ _ _ (iblk m c 0 t) (iblk m c 1 t) (iblk m c 2 t) (fun hc => h ((hcond t).mp hc)) (rows m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t)
    iexact H4

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
set_option maxHeartbeats 800000 in
/-- The run, and every counter at zero at its end. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.InProj.Kernel8Ideal
-- ==== Proof.InProj.lean ====
/-
  The input projection: the rows normalised and times the gains, their product with the weights, and the normalised rows themselves.
-/
module

public import proofs.«01_k».proof.Proof.InProjRunIdeal
public import proofs.«01_k».proof.Proof.Gen.Reference8Ideal.Read
public import proofs.«01_k».proof.Defs
public import proofs.«01_k».proof.Proof.NormTail
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.InProj

open Cert.Kernel8Ideal Cert.Kernel8Ideal.Gen Cert.InProj.Kernel8Ideal Idealize.ShloMosaic Idealize.ShloMosaic.TcCoe Idealize.SL.Sem

open Cert.NormTail

variable (m : (l : Loc nD τ sig) → BufTy.Contents (Elt Ideal) l.ty) (c : Dev nD)

/-- A block of normalised rows, entry by entry. -/
theorem pay1 (x : Vec Ideal S1024x1024 .f32) (g : Vec Ideal S1x1024 .f32) (y : S1024x1024.Idx) :
    k0_pay1 x g y = x y * scale eps (fun k => x (ix2 (y 0) k)) * g (ix2 0 (y 1)) := by
  unfold scale meanSq
  rw [← ofBits_eps, ← ofBits_n]
  unfold k0_pay1
  pointwise

/-- A block of the product, entry by entry. -/
theorem pay2 (a : Vec Ideal S1024x1024 .bf16) (b : Vec Ideal S1152x1024 .bf16) (y : S1024x1152.Idx) :
    k0_pay2 a b y = ∑ k : Fin 1024, a (ix2 (y 0) k) * b (ix2 (y 1) k) := by
  unfold k0_pay2
  pointwise

/-- Every window's block index at each point. -/
theorem idx : ∀ t : Fin cfg0.N, win0_0.index t = ![t.val / 6, 0] ∧ win0_1.index t = ![t.val % 6, 0] ∧ win0_2.index t = ![0, 0] ∧ win0_3.index t = ![t.val / 6, t.val % 6] ∧ win0_4.index t = ![t.val / 6, 0] :=
  (by decide +kernel : ∀ t : Fin grid0.N, _)

/-- The rows, whole. -/
def rowsA : S2048x1024.Idx → EReal := m ((c.tc : Thread nD τ).loc main_arg0)
/-- The weights, whole. -/
def weightsA : S6912x1024.Idx → EReal := m ((c.tc : Thread nD τ).loc main_arg1)
/-- The gains. -/
def gainA : S1x1024.Idx → EReal := m ((c.tc : Thread nD τ).loc main_arg2)

theorem weights : V m c main_v0 = weightsA m c := by
  unfold V V0
  simp only [hostOps0, List.flatten_cons, List.flatten_nil, List.append_nil, List.cons_append, List.nil_append]
  after_reads_simp
  rfl

/-- One entry of the normalised rows. -/
def norm (i : S2048x1024.Idx) : EReal := rowsA m c i * scale eps (fun k => rowsA m c (ix2 (i 0) k)) * gainA m c (ix2 0 (i 1))

/-- The reference's product, for the kernel's arguments. -/
def goal : S2048x6912.Idx → EReal :=
  Cert.Reference8Ideal.Read.val_main_v12 (F := Ideal) (m ((c.tc : Thread nD τ).loc main_arg0)) (m ((c.tc : Thread nD τ).loc main_arg1)) (m ((c.tc : Thread nD τ).loc main_arg2))

/-- The reference's normalised rows. -/
def goalH : S2048x1024.Idx → EReal :=
  Cert.Reference8Ideal.Read.val_main_v24 (F := Ideal) (m ((c.tc : Thread nD τ).loc main_arg0)) (m ((c.tc : Thread nD τ).loc main_arg2))

theorem ref_meanSq (s : Cert.Reference8Ideal.S2048x1.Idx) : Cert.Reference8Ideal.Read.val_main_v6 (F := Ideal) (m ((c.tc : Thread nD τ).loc main_arg0)) s = meanSq eps (fun k => rowsA m c (ix2 (s 0) k)) := by
  rw [Cert.Reference8Ideal.Read.val_main_v6_apply, Cert.Reference8Ideal.Read.val_main_v4_apply, Cert.Reference8Ideal.Read.val_main_v2_apply, Cert.Reference8Ideal.Read.val_main_v1_apply, Cert.Reference8Ideal.Read.val_main_v3_apply, Cert.Reference8Ideal.Read.val_main_cst_0_apply, Cert.Reference8Ideal.Read.val_main_v5_apply, Cert.Reference8Ideal.Read.val_main_cst_1_apply, Cert.Reference8Ideal.Read.val_main_cst_apply, ofBits_n, ofBits_eps, ofBits_zero]
  unfold meanSq
  refine congrArg (· + ((eps : ℝ) : EReal)) (congrArg (Ideal.div · ((1024 : ℝ) : EReal)) ((zero_add _).trans (Finset.sum_congr rfl fun k _ => ?_)))
  rw [Cert.Reference8Ideal.Read.val_main_v0_apply]
  have e : Cert.Reference8Ideal.Read.idx_main_v1 (Cert.Reference8Ideal.Read.idx_main_v2 s) k = ix2 (s 0) k := funext fun a => by match a with
    | ⟨0, _⟩ => rfl
    | ⟨1, _⟩ => rfl
  rw [e]
  rfl

theorem ref_rows (i : S2048x1024.Idx) : Cert.Reference8Ideal.Read.val_main_v11 (F := Ideal) (m ((c.tc : Thread nD τ).loc main_arg0)) (m ((c.tc : Thread nD τ).loc main_arg2)) i = norm m c i := by
  rw [Cert.Reference8Ideal.Read.val_main_v11_apply, Cert.Reference8Ideal.Read.val_main_v9_apply, Cert.Reference8Ideal.Read.val_main_v8_apply, Cert.Reference8Ideal.Read.val_main_v7_apply, ref_meanSq, Cert.Reference8Ideal.Read.val_main_v10_apply]
  refine congrArg₂ (· * ·) rfl (congrArg (gainA m c) (funext fun a => ?_))
  match a with
    | ⟨0, _⟩ => rfl
    | ⟨1, _⟩ => rfl

theorem goalH_apply (i : S2048x1024.Idx) : goalH m c i = norm m c i := (ref_rows m c i).symm ▸ rfl

theorem goal_apply (i : S2048x6912.Idx) : goal m c i = ∑ k : Fin 1024, norm m c (ix2 (i 0) k) * weightsA m c (ix2 (i 1) k) := by
  unfold goal
  rw [Cert.Reference8Ideal.Read.val_main_v12_apply]
  refine Finset.sum_congr rfl fun k _ => ?_
  rw [ref_rows]
  refine congrArg₂ (· * ·) (congrArg (norm m c) (funext fun a => ?_)) (congrArg (weightsA m c) (funext fun a => ?_)) <;> match a with
    | ⟨0, _⟩ => rfl
    | ⟨1, _⟩ => rfl

/-- A block of the rows. -/
def inX (t : Fin cfg0.N) : S1024x1024.Idx → EReal := iblk m c 0 t
/-- A block of the weights. -/
def inW (t : Fin cfg0.N) : S1152x1024.Idx → EReal := iblk m c 1 t
/-- The gains, as a block. -/
def inG (t : Fin cfg0.N) : S1x1024.Idx → EReal := iblk m c 2 t

theorem inX_eq (t : Fin cfg0.N) (y : S1024x1024.Idx) (i : S2048x1024.Idx) (h0 : (i 0).val = 1024 * (t.val / 6) + (y 0).val) (h1 : (i 1).val = (y 1).val) : inX m c t y = rowsA m c i := by
  show V m c main_arg0 (((cfg0.win 0).blk t).view.emb y) = _
  rw [V_main_arg0]
  refine congrArg (rowsA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | omega

theorem inW_eq (t : Fin cfg0.N) (y : S1152x1024.Idx) (i : S6912x1024.Idx) (h0 : (i 0).val = 1152 * (t.val % 6) + (y 0).val) (h1 : (i 1).val = (y 1).val) : inW m c t y = weightsA m c i := by
  show V m c main_v0 (((cfg0.win 1).blk t).view.emb y) = _
  rw [weights]
  refine congrArg (weightsA m c) (funext fun a => Fin.ext ?_)
  match a with
  | ⟨0, _⟩ =>
    refine Eq.trans ?_ h0.symm
    blk_simp [idx t]
    first | done | rfl | exact congrArg (· + _) (Nat.mul_comm _ _) | omega
  | ⟨1, _⟩ =>
    refine Eq.trans ?_ h1.symm
    blk_simp [idx t]
    first | done | rfl | omega

theorem inG_eq (t : Fin cfg0.N) (k : Fin 1024) : inG m c t (ix2 0 k) = gainA m c (ix2 0 k) := by
  show V m c main_arg2 (((cfg0.win 2).blk t).view.emb (ix2 0 k)) = _
  rw [V_main_arg2]
  refine congrArg (gainA m c) (funext fun a => Fin.ext ?_)
  match a with
  | ⟨0, _⟩ =>
    blk_simp [idx t]
    try first | done | rfl | omega
  | ⟨1, _⟩ =>
    blk_simp [idx t]
    try first | done | rfl | omega

/-- The block of normalised rows is a block of the whole. -/
theorem rows_eq (t : Fin cfg0.N) (y : S1024x1024.Idx) (i : S2048x1024.Idx) (h0 : (i 0).val = 1024 * (t.val / 6) + (y 0).val) (h1 : (i 1).val = (y 1).val) : rows m c t y = norm m c i := by
  refine (pay1 (inX m c t) (inG m c t) y).trans ?_
  unfold norm
  refine congrArg₂ (· * ·) (congrArg₂ (· * ·) (inX_eq m c t y i h0 h1) (congrArg (scale eps) (funext fun k => inX_eq m c t _ _ h0 rfl))) ?_
  exact (inG_eq m c t (y 1)).trans (congrArg (fun k : Fin 1024 => gainA m c (ix2 0 k)) (Fin.ext h1.symm))

/-- The product once every block is written back. -/
theorem arr : (dats m 0 c).arrAt 3 cfg0.N = goal m c := by
  refine (dats m 0 c).arrAt_eq_of_cover 3 (goal m c) (fun t _ => ?_) (fun i => ?_)
  · funext y
    show (cfg0.win 3).cut (grid0.coords t) ((dats m 0 c).after 3 t) y = goal m c (((cfg0.win 3).blk t).view.emb y)
    rw [after3]
    refine (pay2 (rows m c t) (inW m c t) y).trans ?_
    rw [goal_apply]
    have h0 : ((((cfg0.win 3).blk t).view.emb y) 0).val = 1024 * (t.val / 6) + (y 0).val := by
      blk_simp [idx t]
      first | done | rfl | exact congrArg (· + _) (Nat.mul_comm _ _) | omega
    have h1 : ((((cfg0.win 3).blk t).view.emb y) 1).val = 1152 * (t.val % 6) + (y 1).val := by
      blk_simp [idx t]
      first | done | rfl | exact congrArg (· + _) (Nat.mul_comm _ _) | omega
    generalize ((cfg0.win 3).blk t).view.emb y = i at h0 h1
    exact Finset.sum_congr rfl fun k _ => congrArg₂ (· * ·) (rows_eq m c t _ _ h0 rfl) (inW_eq m c t _ _ h1 rfl)
  · have hi0 : (i 0).val < 2048 := (i 0).isLt
    have hi1 : (i 1).val < 6912 := (i 1).isLt
    have hN : cfg0.N = 12 := N_0
    refine ⟨⟨6 * ((i 0).val / 1024) + (i 1).val / 1152, by omega⟩, flush0_3 _, ?_⟩
    set t : Fin cfg0.N := ⟨6 * ((i 0).val / 1024) + (i 1).val / 1152, by omega⟩ with ht
    have tv : t.val = 6 * ((i 0).val / 1024) + (i 1).val / 1152 := rfl
    refine ((cfg0.win 3).emb_mem_blk_iff t i).mpr fun a => ?_
    show win0_3.index t a * S1024x1152.size a ≤ (i a).val ∧ (i a).val < win0_3.index t a * S1024x1152.size a + S1024x1152.size a
    rw [(idx t).2.2.2.1]
    match a with
    | ⟨0, _⟩ =>
      show (t.val / 6) * 1024 ≤ (i 0).val ∧ (i 0).val < (t.val / 6) * 1024 + 1024
      omega
    | ⟨1, _⟩ =>
      show (t.val % 6) * 1152 ≤ (i 1).val ∧ (i 1).val < (t.val % 6) * 1152 + 1152
      omega

/-- The normalised rows once both blocks are written back. -/
theorem arrH : (dats m 0 c).arrAt 4 cfg0.N = goalH m c := by
  refine (dats m 0 c).arrAt_eq_of_cover 4 (goalH m c) (fun t _ => ?_) (fun i => ?_)
  · funext y
    show (cfg0.win 4).cut (grid0.coords t) ((dats m 0 c).after 4 t) y = goalH m c (((cfg0.win 4).blk t).view.emb y)
    rw [after4, goalH_apply]
    refine rows_eq m c t y _ ?_ ?_
    · blk_simp [idx t]
      first | done | rfl | exact congrArg (· + _) (Nat.mul_comm _ _) | omega
    · blk_simp [idx t]
      first | done | rfl | omega
  · have hi0 : (i 0).val < 2048 := (i 0).isLt
    have hi1 : (i 1).val < 1024 := (i 1).isLt
    have hN : cfg0.N = 12 := N_0
    refine ⟨⟨6 * ((i 0).val / 1024) + 5, by omega⟩, (flush0_4 _).mpr (by show (6 * ((i 0).val / 1024) + 5) % 6 = 5; omega), ?_⟩
    set t : Fin cfg0.N := ⟨6 * ((i 0).val / 1024) + 5, by omega⟩ with ht
    have tv : t.val = 6 * ((i 0).val / 1024) + 5 := rfl
    refine ((cfg0.win 4).emb_mem_blk_iff t i).mpr fun a => ?_
    show win0_4.index t a * S1024x1024.size a ≤ (i a).val ∧ (i a).val < win0_4.index t a * S1024x1024.size a + S1024x1024.size a
    rw [(idx t).2.2.2.2]
    match a with
    | ⟨0, _⟩ =>
      show (t.val / 6) * 1024 ≤ (i 0).val ∧ (i 0).val < (t.val / 6) * 1024 + 1024
      omega
    | ⟨1, _⟩ =>
      show 0 * 1024 ≤ (i 1).val ∧ (i 1).val < 0 * 1024 + 1024
      omega

/-- The second result buffer after the host's last line. -/
theorem tail : Pipeline.afterTail₀ cfgs (dats m) 0 (V0 m) [hostOps1] c main_v2 = goalH m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 4
  funext i
  exact congrFun (e.trans (arrH m c)) i

/-- Both programs end with the product and the normalised rows. -/
theorem algebraic [hK : Cert.Kernel8Ideal.Facts] [hR : Cert.Reference8Ideal.Facts] : Cert.algebraic_Kernel8Ideal_Reference8Ideal := by
  intro m g m' g' _ hagree
  refine ⟨fun c => goal m c, fun c => goalH m c, ?_, ?_⟩
  · refine (θ_run Cert.Kernel8Ideal.defs _ _).mono (fun r h c => ?_) (run_main m g)
    exact ⟨((h c).1 3).trans (arr m c),
      ((h c).2 main_v2 (Pipeline.mem_restRefs_of main_v2 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run Cert.Reference8Ideal.defs _ _).mono (fun r h c => ?_) (Cert.Reference8Ideal.Value.run (F := Ideal) m' g')
    refine ⟨(h c).1.trans ?_, (h c).2.1.trans ?_, (h c).2.2.1, (h c).2.2.2.1, (h c).2.2.2.2⟩
    · rw [Cert.Reference8Ideal.Read.val_main_v12_eq, (hagree c).1, (hagree c).2.1, (hagree c).2.2]
      rfl
    · rw [Cert.Reference8Ideal.Read.val_main_v24_eq, (hagree c).1, (hagree c).2.2]
      rfl

end Cert.InProj
-- ==== Proof.FfUp.lean ====
/-
  The up projection of the normalised rows: its positive part, and that squared.
-/
module

public import proofs.«01_k».proof.Proof.Gen.Kernel9Ideal.Frame
public import proofs.«01_k».proof.Proof.Gen.Reference9Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.FfUp

open Cert.Kernel9Ideal Cert.Kernel9Ideal.Gen Idealize.ShloMosaic Idealize.ShloMosaic.TcCoe Idealize.SL.Sem

variable (m : (l : Loc nD τ sig) → BufTy.Contents (Elt Ideal) l.ty) (c : Dev nD)

theorem ofBits_zero : FloatOps.ofBits (F := Ideal) .f32 0x00000000#32 = (0 : EReal) := by
  show Ideal.ofBits .f32 _ = _
  rw [Ideal.ofBits_zero_f32]

theorem pay (x0 : Vec Ideal S1024x1024 .bf16) (x1 : Vec Ideal S1024x1024 .bf16) (y : S1024x1024.Idx) :
    k0_pay1 x0 x1 y = max (∑ k : Fin 1024, x0 (ix2 (y 0) k) * x1 (ix2 k (y 1))) 0 := by
  unfold k0_pay1
  pointwise

/-- What one grid point stores first. -/
theorem block (x0 : Vec Ideal S1024x1024 .bf16) (x1 : Vec Ideal S1024x1024 .bf16) (y : S1024x1024.Idx) :
    out0_2 x0 x1 y = max (∑ k : Fin 1024, x0 (ix2 (y 0) k) * x1 (ix2 k (y 1))) 0 := by
  unfold out0_2
  rw [View.canon_unit_zero (by decide), View.ld_unit_zero (by decide), View.ld_unit_zero (by decide)]
  exact pay x0 x1 y

/-- What one grid point stores second. -/
theorem blockSq (x0 : Vec Ideal S1024x1024 .bf16) (x1 : Vec Ideal S1024x1024 .bf16) (y : S1024x1024.Idx) :
    out0_3 x0 x1 y = max (∑ k : Fin 1024, x0 (ix2 (y 0) k) * x1 (ix2 k (y 1))) 0 * max (∑ k : Fin 1024, x0 (ix2 (y 0) k) * x1 (ix2 k (y 1))) 0 := by
  unfold out0_3
  rw [View.canon_unit_zero (by decide), View.ld_unit_zero (by decide), View.ld_unit_zero (by decide)]
  exact congrArg₂ (· * ·) (pay x0 x1 y) (pay x0 x1 y)

/-- Every window's block index at each point. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The left operand, whole -/
def leftA : S2048x1024.Idx → EReal := Cert.Reference9Ideal.Read.val_main_v11 (F := Ideal) (m ((c.tc : Thread nD τ).loc main_arg0)) (m ((c.tc : Thread nD τ).loc main_arg2))

theorem left : V m c main_v12 = leftA m c := by
  unfold V V0
  simp only [hostOps0, List.flatten_cons, List.flatten_nil, List.append_nil, List.cons_append, List.nil_append]
  after_reads_simp
  rfl

/-- The right operand, whole -/
def rightA : S1024x4096.Idx → EReal := (m ((c.tc : Thread nD τ).loc main_arg1))

theorem right : V m c main_v13 = rightA m c := by
  unfold V V0
  simp only [hostOps0, List.flatten_cons, List.flatten_nil, List.append_nil, List.cons_append, List.nil_append]
  after_reads_simp
  rfl

/-- The reference's first array, for the kernel's arguments. -/
def goal : S2048x4096.Idx → EReal :=
  Cert.Reference9Ideal.Read.val_main_v13 (F := Ideal) (m ((c.tc : Thread nD τ).loc main_arg0)) (m ((c.tc : Thread nD τ).loc main_arg1)) (m ((c.tc : Thread nD τ).loc main_arg2))

/-- The reference's second array. -/
def goalSq : S2048x4096.Idx → EReal :=
  Cert.Reference9Ideal.Read.val_main_v14 (F := Ideal) (m ((c.tc : Thread nD τ).loc main_arg0)) (m ((c.tc : Thread nD τ).loc main_arg1)) (m ((c.tc : Thread nD τ).loc main_arg2))

theorem goal_apply (i : S2048x4096.Idx) : goal m c i = max (∑ k : Fin 1024, leftA m c (ix2 (i 0) k) * rightA m c (ix2 k (i 1))) 0 := by
  have e : (∑ k : Fin 1024, leftA m c (ix2 (i 0) k) * rightA m c (ix2 k (i 1))) = Cert.Reference9Ideal.Read.val_main_v12 (F := Ideal) (m ((c.tc : Thread nD τ).loc main_arg0)) (m ((c.tc : Thread nD τ).loc main_arg1)) (m ((c.tc : Thread nD τ).loc main_arg2)) i := by
    rw [Cert.Reference9Ideal.Read.val_main_v12_apply]
    refine Finset.sum_congr rfl fun k _ => ?_
    refine congrArg₂ (· * ·) (congrArg _ (funext fun a => ?_)) (congrArg _ (funext fun a => ?_)) <;> match a with
      | ⟨0, _⟩ => rfl
      | ⟨1, _⟩ => rfl
  rw [e]
  unfold goal
  rw [Cert.Reference9Ideal.Read.val_main_v13_apply, Cert.Reference9Ideal.Read.val_main_call0_v0_apply, Cert.Reference9Ideal.Read.val_main_call0_cst_apply, ofBits_zero]
  rfl

theorem goalSq_apply (i : S2048x4096.Idx) : goalSq m c i = max (∑ k : Fin 1024, leftA m c (ix2 (i 0) k) * rightA m c (ix2 k (i 1))) 0
    * max (∑ k : Fin 1024, leftA m c (ix2 (i 0) k) * rightA m c (ix2 k (i 1))) 0 := by
  rw [← goal_apply]
  unfold goalSq
  rw [Cert.Reference9Ideal.Read.val_main_v14_apply]
  rfl

/-- The left operand's block. -/
def inL (t : Fin cfg0.N) : S1024x1024.Idx → EReal := iblk m c 0 t
/-- The right operand's block. -/
def inR (t : Fin cfg0.N) : S1024x1024.Idx → EReal := iblk m c 1 t

theorem operands (t : Fin cfg0.N) (y : S1024x1024.Idx) (i : S2048x4096.Idx) (h0 : (i 0).val = 1024 * (t.val / 4) + (y 0).val) (h1 : (i 1).val = 1024 * (t.val % 4) + (y 1).val) :
    (∑ k : Fin 1024, inL m c t (ix2 (y 0) k) * inR m c t (ix2 k (y 1)))
      = ∑ k : Fin 1024, leftA m c (ix2 (i 0) k) * rightA m c (ix2 k (i 1)) := by
  refine Finset.sum_congr rfl fun k _ => ?_
  have e0 : inL m c t (ix2 (y 0) k) = leftA m c (ix2 (i 0) k) := by
    show V m c main_v12 (((cfg0.win 0).blk t).view.emb (ix2 (y 0) k)) = _
    rw [left]
    refine congrArg _ (funext fun a => Fin.ext ?_)
    match a with
    | ⟨0, _⟩ =>
      refine Eq.trans ?_ h0.symm
      blk_simp [idx t]
      try omega
    | ⟨1, _⟩ =>
      blk_simp [idx t]
      try omega
  have e1 : inR m c t (ix2 k (y 1)) = rightA m c (ix2 k (i 1)) := by
    show V m c main_v13 (((cfg0.win 1).blk t).view.emb (ix2 k (y 1))) = _
    rw [right]
    refine congrArg _ (funext fun a => Fin.ext ?_)
    match a with
    | ⟨0, _⟩ =>
      blk_simp [idx t]
      try omega
    | ⟨1, _⟩ =>
      refine Eq.trans ?_ h1.symm
      blk_simp [idx t]
      try omega
  rw [e0, e1]

/-- The result array once every block is written back. -/
theorem arr : (dats m 0 c).arrAt 2 cfg0.N = goal m c := by
  refine (dats m 0 c).arrAt_eq_of_cover 2 (goal m c) (fun t _ => ?_) (fun i => ?_)
  · funext y
    show (cfg0.win 2).cut (grid0.coords t) ((dats m 0 c).after 2 t) y = goal m c (((cfg0.win 2).blk t).view.emb y)
    rw [after0_2]
    refine (block _ _ y).trans ?_
    rw [goal_apply]
    refine congrArg (fun x : EReal => max x 0) (operands m c t y _ ?_ ?_)
    · blk_simp [idx t]
      try omega
    · blk_simp [idx t]
      try omega
  · have hi0 : (i 0).val < 2048 := (i 0).isLt
    have hi1 : (i 1).val < 4096 := (i 1).isLt
    have hN : cfg0.N = 8 := N_0
    refine ⟨⟨4 * ((i 0).val / 1024) + (i 1).val / 1024, by omega⟩, flush0_2 _, ?_⟩
    set t : Fin cfg0.N := ⟨4 * ((i 0).val / 1024) + (i 1).val / 1024, by omega⟩ with ht
    have tv : t.val = 4 * ((i 0).val / 1024) + (i 1).val / 1024 := rfl
    refine ((cfg0.win 2).emb_mem_blk_iff t i).mpr fun a => ?_
    show win0_2.index t a * S1024x1024.size a ≤ (i a).val ∧ (i a).val < win0_2.index t a * S1024x1024.size a + S1024x1024.size a
    rw [(idx t).2.2.1]
    match a with
    | ⟨0, _⟩ =>
      show (t.val / 4) * 1024 ≤ (i 0).val ∧ (i 0).val < (t.val / 4) * 1024 + 1024
      omega
    | ⟨1, _⟩ =>
      show (t.val % 4) * 1024 ≤ (i 1).val ∧ (i 1).val < (t.val % 4) * 1024 + 1024
      omega

/-- The result array once every block is written back. -/
theorem arrSq : (dats m 0 c).arrAt 3 cfg0.N = goalSq m c := by
  refine (dats m 0 c).arrAt_eq_of_cover 3 (goalSq m c) (fun t _ => ?_) (fun i => ?_)
  · funext y
    show (cfg0.win 3).cut (grid0.coords t) ((dats m 0 c).after 3 t) y = goalSq m c (((cfg0.win 3).blk t).view.emb y)
    rw [after0_3]
    refine (blockSq _ _ y).trans ?_
    rw [goalSq_apply]
    refine congrArg (fun x : EReal => max x 0 * max x 0) (operands m c t y _ ?_ ?_)
    · blk_simp [idx t]
      try omega
    · blk_simp [idx t]
      try omega
  · have hi0 : (i 0).val < 2048 := (i 0).isLt
    have hi1 : (i 1).val < 4096 := (i 1).isLt
    have hN : cfg0.N = 8 := N_0
    refine ⟨⟨4 * ((i 0).val / 1024) + (i 1).val / 1024, by omega⟩, flush0_3 _, ?_⟩
    set t : Fin cfg0.N := ⟨4 * ((i 0).val / 1024) + (i 1).val / 1024, by omega⟩ with ht
    have tv : t.val = 4 * ((i 0).val / 1024) + (i 1).val / 1024 := rfl
    refine ((cfg0.win 3).emb_mem_blk_iff t i).mpr fun a => ?_
    show win0_3.index t a * S1024x1024.size a ≤ (i a).val ∧ (i a).val < win0_3.index t a * S1024x1024.size a + S1024x1024.size a
    rw [(idx t).2.2.2]
    match a with
    | ⟨0, _⟩ =>
      show (t.val / 4) * 1024 ≤ (i 0).val ∧ (i 0).val < (t.val / 4) * 1024 + 1024
      omega
    | ⟨1, _⟩ =>
      show (t.val % 4) * 1024 ≤ (i 1).val ∧ (i 1).val < (t.val % 4) * 1024 + 1024
      omega

/-- The first result buffer after the host's last lines. -/
theorem tail : Pipeline.afterTail₀ cfgs (dats m) 0 (V0 m) [hostOps1] c main_v15 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 2
  funext i
  exact congrFun (e.trans (arr m c)) i

/-- The second result buffer after the host's last lines. -/
theorem tailSq : Pipeline.afterTail₀ cfgs (dats m) 0 (V0 m) [hostOps1] c main_v16 = goalSq m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 3
  funext i
  exact congrFun (e.trans (arrSq m c)) i

/-- Both programs end with the positive part and its square. -/
theorem algebraic [hK : Cert.Kernel9Ideal.Facts] [hR : Cert.Reference9Ideal.Facts] : Cert.algebraic_Kernel9Ideal_Reference9Ideal := by
  intro m g m' g' _ hagree
  refine ⟨fun c => goal m c, fun c => goalSq m c, ?_, ?_⟩
  · refine (θ_run Cert.Kernel9Ideal.defs _ _).mono (fun r h c => ?_) (run_main m g)
    exact ⟨((h c).2 main_v15 (Pipeline.mem_restRefs_of main_v15 (by decide) (by decide))).trans (tail m c),
      ((h c).2 main_v16 (Pipeline.mem_restRefs_of main_v16 (by decide) (by decide))).trans (tailSq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run Cert.Reference9Ideal.defs _ _).mono (fun r h c => ?_) (Cert.Reference9Ideal.Value.run (F := Ideal) m' g')
    refine ⟨(h c).1.trans ?_, (h c).2.1.trans ?_, (h c).2.2.1, (h c).2.2.2.1, (h c).2.2.2.2⟩
    · rw [Cert.Reference9Ideal.Read.val_main_v13_eq, (hagree c).1, (hagree c).2.1, (hagree c).2.2]
      rfl
    · rw [Cert.Reference9Ideal.Read.val_main_v14_eq, (hagree c).1, (hagree c).2.1, (hagree c).2.2]
      rfl

end Cert.FfUp
-- ==== Proof.FfDown.lean ====
/-
  The down projection, with the loss and its gradient: the residual added, the target taken away, the squares summed.
-/
module

public import proofs.«01_k».proof.Proof.Gen.Kernel10Ideal.Frame
public import proofs.«01_k».proof.Proof.Gen.Reference10Ideal.Read
public import proofs.«01_k».proof.Defs
public import proofs.«01_k».proof.Proof.NormTail
public import Idealize.ShloMosaic.Lib.ValueIdxRank1
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.FfDown

open Cert.Kernel10Ideal Cert.Kernel10Ideal.Gen Idealize.ShloMosaic Idealize.ShloMosaic.TcCoe Idealize.SL.Sem

open Cert.NormTail (ofBits_n sum_mul div_real)

variable (m : (l : Loc nD τ sig) → BufTy.Contents (Elt Ideal) l.ty) (c : Dev nD)

theorem hz : (![0, 0] : Fin 2 → Nat) = fun _ => 0 := funext fun a => by fin_cases a <;> rfl

/-- The reciprocal of the row length. -/
def k : ℝ := 1 / 1024

theorem ofBits_k : Ideal.ofBits .f32 0x3A800000#32 = (k : EReal) := by
  unfold k
  simp [Ideal.ofBits, Ideal.ieee, -EReal.coe_mul]
  norm_num

theorem ofBits_512 : Ideal.ofBits .f32 0x44000000#32 = ((512 : ℝ) : EReal) := by
  simp [Ideal.ofBits, Ideal.ieee, -EReal.coe_mul]
  norm_num

theorem ofBits_half : FloatOps.ofBits (F := Ideal) .f32 0x3F000000#32 = ((1 / 2 : ℝ) : EReal) := by
  show Ideal.ofBits .f32 _ = _
  simp [Ideal.ofBits, Ideal.ieee, -EReal.coe_mul]
  norm_num

theorem ofBits_one : FloatOps.ofBits (F := Ideal) .f32 0x3F800000#32 = ((1 : ℝ) : EReal) := by
  show Ideal.ofBits .f32 _ = _
  simp [Ideal.ofBits, Ideal.ieee, -EReal.coe_mul]
  norm_num

theorem ofBits_two : FloatOps.ofBits (F := Ideal) .f32 0x40000000#32 = ((2 : ℝ) : EReal) := by
  show Ideal.ofBits .f32 _ = _
  simp [Ideal.ofBits, Ideal.ieee, -EReal.coe_mul]
  norm_num

theorem ofBits_zero : FloatOps.ofBits (F := Ideal) .f32 0x00000000#32 = (0 : EReal) := by
  show Ideal.ofBits .f32 _ = _
  rw [Ideal.ofBits_zero_f32]

theorem pay1 (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  unfold k0_pay1
  pointwise

theorem pay4 (x0 : Vec Ideal S1024x2048 .bf16) (x1 : Vec Ideal S2048x512 .bf16) (a r t : Vec Ideal S1024x512 .f32) (y : S1024x512.Idx) :
    k0_pay4 x0 x1 a r t y = (r y + (a y + k0_pay1 x0 x1 y) - t y) * (k : EReal) := by
  rw [← ofBits_k]
  unfold k0_pay4
  pointwise

/-- The block of column sums of squares: the sums in its first row. -/
theorem pay6 (x0 : Vec Ideal S1024x2048 .bf16) (x1 : Vec Ideal S2048x512 .bf16) (a r t : Vec Ideal S1024x512 .f32) (y : S8x512.Idx) :
    k0_pay6 x0 x1 a r t y = if (y 0).val = 0 then ∑ q : Fin 1024, k0_pay4 x0 x1 a r t (ix2 q (y 1)) * k0_pay4 x0 x1 a r t (ix2 q (y 1)) else 0 := by
  unfold k0_pay6
  pointwise
  have hy : (y 0).val < 8 := (y 0).isLt
  by_cases h : (y 0).val = 0
  · rw [if_pos h, h]
    rfl
  · rw [if_neg h]
    have : IntOp.cmpi CmpIPredicate.eq (BitVec.ofNat 32 (y 0).val) 0#32 = 0#1 := by
      generalize (y 0).val = q at hy h
      interval_cases q <;> first | exact absurd rfl h | rfl
    rw [this]
    rfl

theorem scr_A (c : Dev nD) (i : grid0.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S8x512 .f32) (harg9 : arg9.IsWhole) (arg10 : Memref sig .tc .vmem S1024x512 .f32) (harg10 : arg10.IsWhole) (hc0 : cond0_0 i) (hc1 : ¬cond0_1 i) (hc2 : ¬cond0_2 i)
    (x0 : Vec Ideal S1024x2048 .bf16) (x1 : Vec Ideal S2048x512 .bf16) (x2 x3 : Vec Ideal S1024x512 .f32) :
    sout0_A_0 c i arg3 harg3 arg4 harg4 arg5 harg5 arg6 harg6 arg7 harg7 arg8 harg8 arg9 harg9 arg10 harg10 hc0 hc1 hc2 x0 x1 x2 x3 = k0_pay1 x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 x0 x1 x2 x3)]
  unfold kernelRun0_A
  dsimp only
  try sl_unfold_words
  rw [View.canon_unit_zero hz]
  unfold k0_pay2
  simp only [View.readAt_eq_ld, harg3.read_unread, harg4.read_unread, harg5.read_unread, harg6.read_unread, harg10.read_unread, View.ld_unit_zero (S := S1024x2048) hz, View.ld_unit_zero (S := S2048x512) hz, View.ld_unit_zero (S := S1024x512) hz, shapeCast_self]

theorem out_4 (c : Dev nD) (i : grid0.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S8x512 .f32) (harg9 : arg9.IsWhole) (arg10 : Memref sig .tc .vmem S1024x512 .f32) (harg10 : arg10.IsWhole) (hc0 : ¬cond0_0 i) (hc1 : ¬cond0_1 i) (hc2 : cond0_2 i)
    (x0 : Vec Ideal S1024x2048 .bf16) (x1 : Vec Ideal S2048x512 .bf16) (x2 x3 : Vec Ideal S1024x512 .f32) (xs0 : Vec Ideal S1024x512 .f32) :
    out0_B_4 c i arg3 harg3 arg4 harg4 arg5 harg5 arg6 harg6 arg7 harg7 arg8 harg8 arg9 harg9 arg10 harg10 hc0 hc1 hc2 x0 x1 x2 x3 xs0 = k0_pay4 x0 x1 xs0 x2 x3 := by
  unfold out0_B_4
  rw [View.read_writes_eq_canon _ _ _ (cover0_B_4 c i arg3 harg3 arg4 harg4 arg5 harg5 arg6 harg6 arg7 harg7 arg8 harg8 arg9 harg9 arg10 harg10 hc0 hc1 hc2 x0 x1 x2 x3 xs0)]
  unfold kernelRun0_B
  dsimp only
  try sl_unfold_words
  rw [View.canon_unit_zero hz]
  simp only [View.readAt_eq_ld, harg3.read_unread, harg4.read_unread, harg5.read_unread, harg6.read_unread, harg10.read_unread, View.ld_unit_zero (S := S1024x2048) hz, View.ld_unit_zero (S := S2048x512) hz, View.ld_unit_zero (S := S1024x512) hz, shapeCast_self]

theorem out_5 (c : Dev nD) (i : grid0.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S8x512 .f32) (harg9 : arg9.IsWhole) (arg10 : Memref sig .tc .vmem S1024x512 .f32) (harg10 : arg10.IsWhole) (hc0 : ¬cond0_0 i) (hc1 : ¬cond0_1 i) (hc2 : cond0_2 i)
    (x0 : Vec Ideal S1024x2048 .bf16) (x1 : Vec Ideal S2048x512 .bf16) (x2 x3 : Vec Ideal S1024x512 .f32) (xs0 : Vec Ideal S1024x512 .f32) :
    out0_B_5 c i arg3 harg3 arg4 harg4 arg5 harg5 arg6 harg6 arg7 harg7 arg8 harg8 arg9 harg9 arg10 harg10 hc0 hc1 hc2 x0 x1 x2 x3 xs0 = k0_pay5 x0 x1 xs0 x2 x3 := by
  unfold out0_B_5
  rw [View.read_writes_eq_canon _ _ _ (cover0_B_5 c i arg3 harg3 arg4 harg4 arg5 harg5 arg6 harg6 arg7 harg7 arg8 harg8 arg9 harg9 arg10 harg10 hc0 hc1 hc2 x0 x1 x2 x3 xs0)]
  unfold kernelRun0_B
  dsimp only
  try sl_unfold_words
  rw [View.canon_unit_zero hz]
  simp only [View.readAt_eq_ld, harg3.read_unread, harg4.read_unread, harg5.read_unread, harg6.read_unread, harg10.read_unread, View.ld_unit_zero (S := S1024x2048) hz, View.ld_unit_zero (S := S2048x512) hz, View.ld_unit_zero (S := S1024x512) hz, shapeCast_self]

theorem out_6 (c : Dev nD) (i : grid0.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S8x512 .f32) (harg9 : arg9.IsWhole) (arg10 : Memref sig .tc .vmem S1024x512 .f32) (harg10 : arg10.IsWhole) (hc0 : ¬cond0_0 i) (hc1 : ¬cond0_1 i) (hc2 : cond0_2 i)
    (x0 : Vec Ideal S1024x2048 .bf16) (x1 : Vec Ideal S2048x512 .bf16) (x2 x3 : Vec Ideal S1024x512 .f32) (xs0 : Vec Ideal S1024x512 .f32) :
    out0_B_6 c i arg3 harg3 arg4 harg4 arg5 harg5 arg6 harg6 arg7 harg7 arg8 harg8 arg9 harg9 arg10 harg10 hc0 hc1 hc2 x0 x1 x2 x3 xs0 = k0_pay6 x0 x1 xs0 x2 x3 := by
  unfold out0_B_6
  rw [View.read_writes_eq_canon _ _ _ (cover0_B_6 c i arg3 harg3 arg4 harg4 arg5 harg5 arg6 harg6 arg7 harg7 arg8 harg8 arg9 harg9 arg10 harg10 hc0 hc1 hc2 x0 x1 x2 x3 xs0)]
  unfold kernelRun0_B
  dsimp only
  try sl_unfold_words
  rw [View.canon_unit_zero hz]
  simp only [View.readAt_eq_ld, harg3.read_unread, harg4.read_unread, harg5.read_unread, harg6.read_unread, harg10.read_unread, View.ld_unit_zero (S := S1024x2048) hz, View.ld_unit_zero (S := S2048x512) hz, View.ld_unit_zero (S := S1024x512) hz, shapeCast_self]

/-- Every window's block index at each point. -/
theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] ∧ win0_4.index t = ![t.val / 4, t.val / 2 % 2] ∧ win0_5.index t = ![t.val / 4, t.val / 2 % 2] ∧ win0_6.index t = ![t.val / 4, t.val / 2 % 2] :=
  (by decide +kernel : ∀ t : Fin grid0.N, _)

/-- The activations: the positive part, squared. -/
def leftA : S2048x4096.Idx → EReal := Cert.Reference10Ideal.Read.val_main_v1 (F := Ideal) (m ((c.tc : Thread nD τ).loc main_arg0))
/-- The residual. -/
def resA : S2048x1024.Idx → EReal := m ((c.tc : Thread nD τ).loc main_arg1)
/-- The target. -/
def tgtA : S2048x1024.Idx → EReal := m ((c.tc : Thread nD τ).loc main_arg2)
/-- The weights. -/
def rightA : S4096x1024.Idx → EReal := m ((c.tc : Thread nD τ).loc main_arg3)

theorem left : V m c main_v2 = leftA m c := by
  unfold V V0
  simp only [hostOps0, List.flatten_cons, List.flatten_nil, List.append_nil, List.cons_append, List.nil_append]
  after_reads_simp
  rfl

theorem right : V m c main_v3 = rightA m c := by
  unfold V V0
  simp only [hostOps0, List.flatten_cons, List.flatten_nil, List.append_nil, List.cons_append, List.nil_append]
  after_reads_simp
  rfl

/-- The product. -/
def prod (i : S2048x1024.Idx) : EReal := ∑ k : Fin 4096, leftA m c (ix2 (i 0) k) * rightA m c (ix2 k (i 1))

/-- The part of it one point's blocks make. -/
def part (t : Fin cfg0.N) : S1024x512.Idx → EReal := k0_pay1 (iblk m c 0 t) (iblk m c 1 t)

/-- The left block. -/
def inL (t : Fin cfg0.N) : S1024x2048.Idx → EReal := iblk m c 0 t
/-- The right block. -/
def inR (t : Fin cfg0.N) : S2048x512.Idx → EReal := iblk m c 1 t
/-- The residual's block. -/
def inX (t : Fin cfg0.N) : S1024x512.Idx → EReal := iblk m c 2 t
/-- The target's block. -/
def inT (t : Fin cfg0.N) : S1024x512.Idx → EReal := iblk m c 3 t

/-- The array element `i` is the element `y` of the point's block. -/
def At (t : Fin cfg0.N) (y : S1024x512.Idx) (i : S2048x1024.Idx) : Prop := (i 0).val = 1024 * (t.val / 4) + (y 0).val ∧ (i 1).val = 512 * (t.val / 2 % 2) + (y 1).val

theorem part_eq (t : Fin cfg0.N) (y : S1024x512.Idx) (i : S2048x1024.Idx) (h : At t y i) :
    part m c t y = ∑ k : Fin 2048, leftA m c (ix2 (i 0) ⟨2048 * (t.val % 2) + k.val, by omega⟩) * rightA m c (ix2 ⟨2048 * (t.val % 2) + k.val, by omega⟩ (i 1)) := by
  refine (pay1 _ _ y).trans (Finset.sum_congr rfl fun k _ => ?_)
  show inL m c t (ix2 (y 0) k) * inR m c t (ix2 k (y 1)) = _
  refine congrArg₂ (· * ·) ?_ ?_
  · show V m c main_v2 (((cfg0.win 0).blk t).view.emb (ix2 (y 0) k)) = _
    rw [left]
    refine congrArg _ (funext fun a => Fin.ext ?_)
    match a with
    | ⟨0, _⟩ =>
      refine Eq.trans ?_ h.1.symm
      blk_simp [idx t]
      first | done | rfl | exact congrArg (· + _) (Nat.mul_comm _ _) | omega
    | ⟨1, _⟩ =>
      blk_simp [idx t]
      first | done | rfl | exact congrArg (· + _) (Nat.mul_comm _ _) | omega
  · show V m c main_v3 (((cfg0.win 1).blk t).view.emb (ix2 k (y 1))) = _
    rw [right]
    refine congrArg _ (funext fun a => Fin.ext ?_)
    match a with
    | ⟨1, _⟩ =>
      refine Eq.trans ?_ h.2.symm
      blk_simp [idx t]
      first | done | rfl | exact congrArg (· + _) (Nat.mul_comm _ _) | omega
    | ⟨0, _⟩ =>
      blk_simp [idx t]
      first | done | rfl | exact congrArg (· + _) (Nat.mul_comm _ _) | omega

theorem inX_eq (t : Fin cfg0.N) (y : S1024x512.Idx) (i : S2048x1024.Idx) (h : At t y i) : inX m c t y = resA m c i := by
  show V m c main_arg1 (((cfg0.win 2).blk t).view.emb y) = _
  rw [V_main_arg1]
  refine congrArg (resA m c) (funext fun a => Fin.ext ?_)
  match a with
  | ⟨0, _⟩ =>
    refine Eq.trans ?_ h.1.symm
    blk_simp [idx t]
    first | done | rfl | exact congrArg (· + _) (Nat.mul_comm _ _) | omega
  | ⟨1, _⟩ =>
    refine Eq.trans ?_ h.2.symm
    blk_simp [idx t]
    first | done | rfl | exact congrArg (· + _) (Nat.mul_comm _ _) | omega

theorem inT_eq (t : Fin cfg0.N) (y : S1024x512.Idx) (i : S2048x1024.Idx) (h : At t y i) : inT m c t y = tgtA m c i := by
  show V m c main_arg2 (((cfg0.win 3).blk t).view.emb y) = _
  rw [V_main_arg2]
  refine congrArg (tgtA m c) (funext fun a => Fin.ext ?_)
  match a with
  | ⟨0, _⟩ =>
    refine Eq.trans ?_ h.1.symm
    blk_simp [idx t]
    first | done | rfl | exact congrArg (· + _) (Nat.mul_comm _ _) | omega
  | ⟨1, _⟩ =>
    refine Eq.trans ?_ h.2.symm
    blk_simp [idx t]
    first | done | rfl | exact congrArg (· + _) (Nat.mul_comm _ _) | omega

/-- What the accumulator holds before the last step of a tile. -/
def acc (t : Fin cfg0.N) : S1024x512.Idx → EReal := (outsAt0 m c (t.val - 1) (Nat.lt_of_le_of_lt (Nat.sub_le _ _) t.isLt)).2.2.2

theorem first (t : Fin cfg0.N) (h : t.val % 2 = 0) : (outsAt0 m c t.val t.isLt).2.2.2 = part m c t := by
  rw [outsAt0_A m c t h (by omega)]
  dsimp only
  rw [scr_A]
  rfl

/-- At a tile's last step the accumulator and the step's part make the whole product. -/
theorem whole (t : Fin cfg0.N) (h : t.val % 2 = 1) (y : S1024x512.Idx) (i : S2048x1024.Idx) (hi : At t y i) :
    acc m c t y + part m c t y = prod m c i := by
  have e : acc m c t = part m c ⟨t.val - 1, by omega⟩ := first m c ⟨t.val - 1, by omega⟩ (by show (t.val - 1) % 2 = 0; omega)
  have hi' : At ⟨t.val - 1, by omega⟩ y i := ⟨by show (i 0).val = 1024 * ((t.val - 1) / 4) + (y 0).val; have := hi.1; omega, by show (i 1).val = 512 * ((t.val - 1) / 2 % 2) + (y 1).val; have := hi.2; omega⟩
  unfold prod
  rw [e, NormTail.sum_append (a := 2048) (b := 2048) rfl]
  refine congrArg₂ (· + ·) ((part_eq m c _ y i hi').trans ?_) ((part_eq m c t y i hi).trans ?_) <;>
    refine Finset.sum_congr rfl fun k _ => congrArg₂ (· * ·) (congrArg (fun q => leftA m c (ix2 (i 0) q)) (Fin.ext ?_)) (congrArg (fun q => rightA m c (ix2 q (i 1))) (Fin.ext ?_))
  · show 2048 * ((t.val - 1) % 2) + k.val = k.val
    omega
  · show 2048 * ((t.val - 1) % 2) + k.val = k.val
    omega
  · show 2048 * (t.val % 2) + k.val = 2048 + k.val
    omega
  · show 2048 * (t.val % 2) + k.val = 2048 + k.val
    omega

/-- The error, one element. -/
def err (i : S2048x1024.Idx) : EReal := resA m c i + prod m c i - tgtA m c i

/-- What a tile's last step stores, one element. -/
theorem store (t : Fin cfg0.N) (h : t.val % 2 = 1) (y : S1024x512.Idx) (i : S2048x1024.Idx) (hi : At t y i) :
    k0_pay4 (F := Ideal) (iblk m c 0 t) (iblk m c 1 t) (acc m c t) (inX m c t) (inT m c t) y = err m c i * (k : EReal) := by
  refine (pay4 _ _ _ _ _ y).trans ?_
  show (inX m c t y + (acc m c t y + part m c t y) - inT m c t y) * (k : EReal) = _
  rw [whole m c t h y i hi, inX_eq m c t y i hi, inT_eq m c t y i hi]
  rfl

theorem last_4 (t : Fin cfg0.N) (h : t.val % 2 = 1) : (outsAt0 m c t.val t.isLt).1 = k0_pay4 (F := Ideal) (iblk m c 0 t) (iblk m c 1 t) (acc m c t) (inX m c t) (inT m c t) := by
  rw [outsAt0_B m c t (by omega) h]
  dsimp only
  rw [out_4]
  rfl

theorem last_5 (t : Fin cfg0.N) (h : t.val % 2 = 1) : (outsAt0 m c t.val t.isLt).2.1 = k0_pay5 (F := Ideal) (iblk m c 0 t) (iblk m c 1 t) (acc m c t) (inX m c t) (inT m c t) := by
  rw [outsAt0_B m c t (by omega) h]
  dsimp only
  rw [out_5]
  rfl

theorem last_6 (t : Fin cfg0.N) (h : t.val % 2 = 1) : (outsAt0 m c t.val t.isLt).2.2.1 = k0_pay6 (F := Ideal) (iblk m c 0 t) (iblk m c 1 t) (acc m c t) (inX m c t) (inT m c t) := by
  rw [outsAt0_B m c t (by omega) h]
  dsimp only
  rw [out_6]
  rfl

/-- The reference's gradient of the output, for the kernel's arguments. -/
def goal : S2048x1024.Idx → EReal := Cert.Reference10Ideal.Read.val_main_v18 (F := Ideal) (m ((c.tc : Thread nD τ).loc main_arg0)) (m ((c.tc : Thread nD τ).loc main_arg1)) (m ((c.tc : Thread nD τ).loc main_arg2)) (m ((c.tc : Thread nD τ).loc main_arg3))

/-- The reference's loss. -/
def goalL : S_.Idx → EReal := Cert.Reference10Ideal.Read.val_main_v12 (F := Ideal) (m ((c.tc : Thread nD τ).loc main_arg0)) (m ((c.tc : Thread nD τ).loc main_arg1)) (m ((c.tc : Thread nD τ).loc main_arg2)) (m ((c.tc : Thread nD τ).loc main_arg3))

theorem ref_err (i : S2048x1024.Idx) : Cert.Reference10Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)) i = err m c i := by
  rw [Cert.Reference10Ideal.Read.val_main_v4_apply, Cert.Reference10Ideal.Read.val_main_v3_apply, Cert.Reference10Ideal.Read.val_main_v2_apply]
  refine congrArg (· - tgtA m c i) (congrArg (resA m c i + ·) (Finset.sum_congr rfl fun k _ => ?_))
  refine congrArg₂ (· * ·) (congrArg (leftA m c) (funext fun a => ?_)) (congrArg (rightA m c) (funext fun a => ?_)) <;> match a with
    | ⟨0, _⟩ => rfl
    | ⟨1, _⟩ => rfl

theorem goal_apply (i : S2048x1024.Idx) : goal m c i = err m c i * (k : EReal) := by
  unfold goal
  rw [Cert.Reference10Ideal.Read.val_main_v18_apply, Cert.Reference10Ideal.Read.val_main_v17_apply, Cert.Reference10Ideal.Read.val_main_v16_apply, Cert.Reference10Ideal.Read.val_main_v15_apply, Cert.Reference10Ideal.Read.val_main_cst_6_apply, Cert.Reference10Ideal.Read.val_main_v14_apply, Cert.Reference10Ideal.Read.val_main_v13_apply, Cert.Reference10Ideal.Read.val_main_cst_4_apply, Cert.Reference10Ideal.Read.val_main_cst_5_apply, Cert.Reference10Ideal.Read.val_main_v7_apply, Cert.Reference10Ideal.Read.val_main_v6_apply, Cert.Reference10Ideal.Read.val_main_cst_apply, ref_err, ofBits_n, ofBits_half, ofBits_one, ofBits_two]
  show Ideal.div (((1 / 2 : ℝ) : EReal) * ((1 : ℝ) : EReal)) ((1024 : ℝ) : EReal) * (((2 : ℝ) : EReal) * err m c i) = _
  rw [div_real, ← mul_assoc, ← EReal.coe_mul, ← EReal.coe_mul, ← EReal.coe_mul, mul_comm]
  unfold k
  norm_num

/-- The square of one element of the error. -/
def sq (s : Fin 2048) (j : Fin 1024) : EReal := err m c (ix2 s j) * err m c (ix2 s j)

theorem goalL_apply (i : S_.Idx) : goalL m c i = ((1 / 2048 : ℝ) : EReal) * ∑ s : Fin 2048, ∑ j : Fin 1024, sq m c s j := by
  unfold goalL
  rw [Cert.Reference10Ideal.Read.val_main_v12_apply, Cert.Reference10Ideal.Read.val_main_cst_3_apply, Cert.Reference10Ideal.Read.val_main_v11_apply, Cert.Reference10Ideal.Read.val_main_cst_2_apply, ofBits_zero, ofBits_half]
  have e : (∑ j : Cert.Reference10Ideal.S2048.Idx, Cert.Reference10Ideal.Read.val_main_v10 (F := Ideal) (m ((c.tc : Thread nD τ).loc main_arg0)) (m ((c.tc : Thread nD τ).loc main_arg1)) (m ((c.tc : Thread nD τ).loc main_arg2)) (m ((c.tc : Thread nD τ).loc main_arg3)) j) = (∑ s : Fin 2048, ∑ j : Fin 1024, sq m c s j) * ((1 / 1024 : ℝ) : EReal) := by
    refine Eq.trans ((Equiv.sum_comp ValueIdx.idxEquiv1.symm _).symm) ?_
    rw [← sum_mul _ _ (by norm_num)]
    refine Finset.sum_congr rfl fun s _ => ?_
    rw [Cert.Reference10Ideal.Read.val_main_v10_apply, Cert.Reference10Ideal.Read.val_main_v9_apply, Cert.Reference10Ideal.Read.val_main_cst_1_apply, ofBits_n, Cert.Reference10Ideal.Read.val_main_v8_apply, Cert.Reference10Ideal.Read.val_main_cst_0_apply, ofBits_zero]
    refine (div_real _).trans (congrArg (· * ((1 / 1024 : ℝ) : EReal)) ((zero_add _).trans (Finset.sum_congr rfl fun j _ => ?_)))
    rw [Cert.Reference10Ideal.Read.val_main_v5_apply, ref_err]
    unfold sq
    have e : Cert.Reference10Ideal.Read.idx_main_v8 (ValueIdx.idxEquiv1.symm s) j = ix2 s j := funext fun a => by match a with
      | ⟨0, _⟩ => rfl
      | ⟨1, _⟩ => rfl
    rw [e]
    rfl
  rw [e]
  show ((1 / 2 : ℝ) : EReal) * (0 + _ * ((1 / 1024 : ℝ) : EReal)) = _
  rw [zero_add, mul_comm _ ((1 / 1024 : ℝ) : EReal), ← mul_assoc, ← EReal.coe_mul]
  norm_num

theorem arr4 : (dats m 0 c).arrAt 4 cfg0.N = goal m c := by
  refine (dats m 0 c).arrAt_eq_of_cover 4 (goal m c) (fun t hf => ?_) (fun i => ?_)
  · have h : t.val % 2 = 1 := (flush0_4 t).mp hf
    funext y
    show (cfg0.win 4).cut (grid0.coords t) ((dats m 0 c).after 4 t) y = goal m c (((cfg0.win 4).blk t).view.emb y)
    rw [after0_4, last_4 m c t h, goal_apply]
    refine store m c t h y _ ⟨?_, ?_⟩
    · blk_simp [idx t]
      first | done | rfl | exact congrArg (· + _) (Nat.mul_comm _ _) | omega
    · blk_simp [idx t]
      first | done | rfl | exact congrArg (· + _) (Nat.mul_comm _ _) | omega
  · have hi0 : (i 0).val < 2048 := (i 0).isLt
    have hi1 : (i 1).val < 1024 := (i 1).isLt
    have hN : cfg0.N = 8 := N_0
    refine ⟨⟨4 * ((i 0).val / 1024) + 2 * ((i 1).val / 512) + 1, by omega⟩, (flush0_4 _).mpr (by show (4 * ((i 0).val / 1024) + 2 * ((i 1).val / 512) + 1) % 2 = 1; omega), ?_⟩
    set t : Fin cfg0.N := ⟨4 * ((i 0).val / 1024) + 2 * ((i 1).val / 512) + 1, by omega⟩ with ht
    have tv : t.val = 4 * ((i 0).val / 1024) + 2 * ((i 1).val / 512) + 1 := rfl
    refine ((cfg0.win 4).emb_mem_blk_iff t i).mpr fun a => ?_
    show win0_4.index t a * S1024x512.size a ≤ (i a).val ∧ (i a).val < win0_4.index t a * S1024x512.size a + S1024x512.size a
    rw [(idx t).2.2.2.2.1]
    match a with
    | ⟨0, _⟩ =>
      show (t.val / 4) * 1024 ≤ (i 0).val ∧ (i 0).val < (t.val / 4) * 1024 + 1024
      omega
    | ⟨1, _⟩ =>
      show (t.val / 2 % 2) * 512 ≤ (i 1).val ∧ (i 1).val < (t.val / 2 % 2) * 512 + 512
      omega

theorem arr5 : (dats m 0 c).arrAt 5 cfg0.N = goal m c := by
  refine (dats m 0 c).arrAt_eq_of_cover 5 (goal m c) (fun t hf => ?_) (fun i => ?_)
  · have h : t.val % 2 = 1 := (flush0_5 t).mp hf
    funext y
    show (cfg0.win 5).cut (grid0.coords t) ((dats m 0 c).after 5 t) y = goal m c (((cfg0.win 5).blk t).view.emb y)
    rw [after0_5, last_5 m c t h, goal_apply]
    refine store m c t h y _ ⟨?_, ?_⟩
    · blk_simp [idx t]
      first | done | rfl | exact congrArg (· + _) (Nat.mul_comm _ _) | omega
    · blk_simp [idx t]
      first | done | rfl | exact congrArg (· + _) (Nat.mul_comm _ _) | omega
  · have hi0 : (i 0).val < 2048 := (i 0).isLt
    have hi1 : (i 1).val < 1024 := (i 1).isLt
    have hN : cfg0.N = 8 := N_0
    refine ⟨⟨4 * ((i 0).val / 1024) + 2 * ((i 1).val / 512) + 1, by omega⟩, (flush0_5 _).mpr (by show (4 * ((i 0).val / 1024) + 2 * ((i 1).val / 512) + 1) % 2 = 1; omega), ?_⟩
    set t : Fin cfg0.N := ⟨4 * ((i 0).val / 1024) + 2 * ((i 1).val / 512) + 1, by omega⟩ with ht
    have tv : t.val = 4 * ((i 0).val / 1024) + 2 * ((i 1).val / 512) + 1 := rfl
    refine ((cfg0.win 5).emb_mem_blk_iff t i).mpr fun a => ?_
    show win0_5.index t a * S1024x512.size a ≤ (i a).val ∧ (i a).val < win0_5.index t a * S1024x512.size a + S1024x512.size a
    rw [(idx t).2.2.2.2.2.1]
    match a with
    | ⟨0, _⟩ =>
      show (t.val / 4) * 1024 ≤ (i 0).val ∧ (i 0).val < (t.val / 4) * 1024 + 1024
      omega
    | ⟨1, _⟩ =>
      show (t.val / 2 % 2) * 512 ≤ (i 1).val ∧ (i 1).val < (t.val / 2 % 2) * 512 + 512
      omega

/-- The column sums of squares, in every eighth row. -/
def sums (i : S16x1024.Idx) : EReal := if (i 0).val % 8 = 0 then ∑ a : Fin 1024, (err m c (ix2 ⟨1024 * ((i 0).val / 8) + a.val, by have : (i 0).val < 16 := (i 0).isLt; omega⟩ (i 1)) * (k : EReal)) * (err m c (ix2 ⟨1024 * ((i 0).val / 8) + a.val, by have : (i 0).val < 16 := (i 0).isLt; omega⟩ (i 1)) * (k : EReal)) else 0

theorem arr6 : (dats m 0 c).arrAt 6 cfg0.N = sums m c := by
  refine (dats m 0 c).arrAt_eq_of_cover 6 (sums m c) (fun t hf => ?_) (fun i => ?_)
  · have h : t.val % 2 = 1 := (flush0_6 t).mp hf
    funext y
    show (cfg0.win 6).cut (grid0.coords t) ((dats m 0 c).after 6 t) y = sums m c (((cfg0.win 6).blk t).view.emb y)
    rw [after0_6, last_6 m c t h]
    refine (pay6 _ _ _ _ _ y).trans ?_
    have h0 : ((((cfg0.win 6).blk t).view.emb y) 0).val = 8 * (t.val / 4) + (y 0).val := by
      blk_simp [idx t]
      first | done | rfl | exact congrArg (· + _) (Nat.mul_comm _ _) | omega
    have h1 : ((((cfg0.win 6).blk t).view.emb y) 1).val = 512 * (t.val / 2 % 2) + (y 1).val := by
      blk_simp [idx t]
      first | done | rfl | exact congrArg (· + _) (Nat.mul_comm _ _) | omega
    generalize ((cfg0.win 6).blk t).view.emb y = i at h0 h1
    have hy : (y 0).val < 8 := (y 0).isLt
    unfold sums
    by_cases hz : (y 0).val = 0
    · rw [if_pos hz, if_pos (by omega)]
      refine Finset.sum_congr rfl fun a _ => ?_
      have ha : a.val < 1024 := a.isLt
      have hi0 : (i 0).val < 16 := (i 0).isLt
      have e := store m c t h (ix2 a (y 1)) (ix2 ⟨1024 * ((i 0).val / 8) + a.val, by omega⟩ (i 1)) ⟨by show 1024 * ((i 0).val / 8) + a.val = 1024 * (t.val / 4) + a.val; omega, h1⟩
      exact congrArg₂ (· * ·) e e
    · rw [if_neg hz, if_neg (by omega)]
  · have hi0 : (i 0).val < 16 := (i 0).isLt
    have hi1 : (i 1).val < 1024 := (i 1).isLt
    have hN : cfg0.N = 8 := N_0
    refine ⟨⟨4 * ((i 0).val / 8) + 2 * ((i 1).val / 512) + 1, by omega⟩, (flush0_6 _).mpr (by show (4 * ((i 0).val / 8) + 2 * ((i 1).val / 512) + 1) % 2 = 1; omega), ?_⟩
    set t : Fin cfg0.N := ⟨4 * ((i 0).val / 8) + 2 * ((i 1).val / 512) + 1, by omega⟩ with ht
    have tv : t.val = 4 * ((i 0).val / 8) + 2 * ((i 1).val / 512) + 1 := rfl
    refine ((cfg0.win 6).emb_mem_blk_iff t i).mpr fun a => ?_
    show win0_6.index t a * S8x512.size a ≤ (i a).val ∧ (i a).val < win0_6.index t a * S8x512.size a + S8x512.size a
    rw [(idx t).2.2.2.2.2.2]
    match a with
    | ⟨0, _⟩ =>
      show (t.val / 4) * 8 ≤ (i 0).val ∧ (i 0).val < (t.val / 4) * 8 + 8
      omega
    | ⟨1, _⟩ =>
      show (t.val / 2 % 2) * 512 ≤ (i 1).val ∧ (i 1).val < (t.val / 2 % 2) * 512 + 512
      omega

/-- A column's sum over the rows that hold one. -/
theorem column (f : Fin 2048 → EReal) (g : Fin 16 → EReal)
    (hg : ∀ r : Fin 16, g r = if r.val % 8 = 0 then ∑ a : Fin 1024, f ⟨1024 * (r.val / 8) + a.val, by omega⟩ else 0) :
    ∑ r, g r = ∑ s, f s := by
  rw [NormTail.sum_append (a := 1024) (b := 1024) rfl f]
  rw [show (∑ r, g r) = g 0 + g 8 from by
    rw [← Finset.sum_subset (Finset.subset_univ ({0, 8} : Finset (Fin 16))) fun r _ hr => by
      rw [hg r, if_neg (by revert r; decide)]]
    rw [Finset.sum_insert (by decide), Finset.sum_singleton]]
  rw [(hg 0).trans (if_pos rfl), (hg 8).trans (if_pos rfl)]
  refine congrArg₂ (· + ·) ?_ ?_ <;> refine Finset.sum_congr rfl fun k _ => congrArg f (Fin.ext ?_)
  · exact Nat.zero_add _
  · rfl

/-- The sum of all the column sums. -/
theorem total : ∑ i : S16x1024.Idx, sums m c i = (∑ s : Fin 2048, ∑ j : Fin 1024, sq m c s j) * ((1 / 1048576 : ℝ) : EReal) := by
  rw [sum_idx2, Finset.sum_comm]
  rw [Finset.sum_congr rfl fun j _ => column (fun s => sq m c s j * ((1 / 1048576 : ℝ) : EReal)) (fun r => sums m c (ix2 r j)) fun r => ?_]
  · rw [Finset.sum_comm, ← sum_mul _ _ (by norm_num)]
    exact Finset.sum_congr rfl fun s _ => sum_mul _ _ (by norm_num)
  · show (if r.val % 8 = 0 then _ else 0) = _
    refine congrArg (fun q => if r.val % 8 = 0 then q else 0) (Finset.sum_congr rfl fun a _ => ?_)
    unfold sq
    show (err m c _ * (k : EReal)) * (err m c _ * (k : EReal)) = _
    rw [mul_mul_mul_comm, ← EReal.coe_mul]
    refine congrArg₂ (· * ·) rfl (congrArg _ ?_)
    unfold k
    norm_num

/-- The loss after the host's last lines. -/
theorem hostLoss (i : S_.Idx) : mulf (F := Ideal) (φ := .f32) (constant S_ .f32 0x44000000#32) (Host.reduceAdd (F := Ideal) (φ := .f32) (sums m c) (constant S_ .f32 0x00000000#32) reducesTo_S16x1024_S_d0_1 h_S_) i = goalL m c i := by
  rw [goalL_apply]
  have e : Host.reduceAdd (F := Ideal) (φ := .f32) (sums m c) (constant S_ .f32 0x00000000#32) reducesTo_S16x1024_S_d0_1 h_S_ i = (∑ s : Fin 2048, ∑ j : Fin 1024, sq m c s j) * ((1 / 1048576 : ℝ) : EReal) := by
    simp only [Host.reduceAdd, Ideal.hostReduceAdd_def]
    refine (Ideal.hostReduceAdd_total reducesTo_S16x1024_S_d0_1 (fun b => b.elim0) _ _ i).trans ?_
    rw [total]
    exact (congrArg (· + _) ofBits_zero).trans (zero_add _)
  show Ideal.ofBits .f32 0x44000000#32 * Host.reduceAdd (F := Ideal) (φ := .f32) (sums m c) (constant S_ .f32 0x00000000#32) reducesTo_S16x1024_S_d0_1 h_S_ i = _
  rw [e, ofBits_512, mul_comm _ ((1 / 1048576 : ℝ) : EReal), ← mul_assoc, ← EReal.coe_mul]
  norm_num

theorem tailL : Pipeline.afterTail₀ cfgs (dats m) 0 (V0 m) [hostOps1] c main_v6 = goalL m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 6
  funext i
  refine Eq.trans ?_ (hostLoss m c i)
  rw [← arr6, ← e]

theorem tailD : Pipeline.afterTail₀ cfgs (dats m) 0 (V0 m) [hostOps1] c main_v7 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 5
  refine Eq.trans ?_ (arr5 m c)
  rw [← e]
  rfl

/-- Both programs end with the loss and the output's gradient. -/
theorem algebraic [hK : Cert.Kernel10Ideal.Facts] [hR : Cert.Reference10Ideal.Facts] : Cert.algebraic_Kernel10Ideal_Reference10Ideal := by
  intro m g m' g' _ hagree
  refine ⟨fun c => goalL m c, fun c => goal m c, fun c => goal m c, ?_, ?_⟩
  · refine (θ_run Cert.Kernel10Ideal.defs _ _).mono (fun r h c => ?_) (run_main m g)
    exact ⟨((h c).2 main_v6 (Pipeline.mem_restRefs_of main_v6 (by decide) (by decide))).trans (tailL m c),
      ((h c).1 4).trans (arr4 m c),
      ((h c).2 main_v7 (Pipeline.mem_restRefs_of main_v7 (by decide) (by decide))).trans (tailD m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c)⟩
  · refine (θ_run Cert.Reference10Ideal.defs _ _).mono (fun r h c => ?_) (Cert.Reference10Ideal.Value.run (F := Ideal) m' g')
    have d : ∀ q, q = Cert.Reference10Ideal.Read.val_main_v18 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) → q = goal m c := fun q e => by
      rw [e, (hagree c).1, (hagree c).2.1, (hagree c).2.2.1, (hagree c).2.2.2]
      rfl
    refine ⟨(h c).1.trans ?_, d _ ((h c).2.1.trans (Cert.Reference10Ideal.Read.val_main_v18_eq _ _ _ _)), d _ ((h c).2.2.1.trans (Cert.Reference10Ideal.Read.val_main_v18_eq _ _ _ _)), (h c).2.2.2.1, (h c).2.2.2.2.1, (h c).2.2.2.2.2.1, (h c).2.2.2.2.2.2⟩
    rw [Cert.Reference10Ideal.Read.val_main_v12_eq, (hagree c).1, (hagree c).2.1, (hagree c).2.2.1, (hagree c).2.2.2]
    rfl

end Cert.FfDown
-- ==== Proof.DWOut.lean ====
/-
  The gradient of the mixer's output weight: the merged heads, transposed, times the residual's gradient.
-/
module

public import proofs.«01_k».proof.Proof.Gen.Kernel11Ideal.Frame
public import proofs.«01_k».proof.Proof.Gen.Reference11Ideal.Read
public import proofs.«01_k».proof.Defs
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.DWOut

open Cert.Kernel11Ideal Cert.Kernel11Ideal.Gen Idealize.ShloMosaic Idealize.ShloMosaic.TcCoe Idealize.SL.Sem

variable (m : (l : Loc nD τ sig) → BufTy.Contents (Elt Ideal) l.ty) (c : Dev nD)

/-- What one grid point stores: the whole sum. -/
theorem block (x0 : Vec Ideal S2048x1024 .bf16) (x1 : Vec Ideal S2048x1024 .f32) (y : S1024x1024.Idx) :
    out0_2 x0 x1 y = ∑ k : Fin 2048, x0 (ix2 k (y 0)) * x1 (ix2 k (y 1)) := by
  unfold out0_2
  rw [View.canon_unit_zero (by decide), View.ld_unit_zero (by decide), View.ld_unit_zero (by decide)]
  unfold k0_pay1
  pointwise

/-- Every window's block index at each point. -/
theorem idx : ∀ t : Fin cfg0.N, win0_0.index t = ![0, 0] ∧ win0_1.index t = ![0, 0] ∧ win0_2.index t = ![0, 0] :=
  (by decide +kernel : ∀ t : Fin grid0.N, _)

/-- The left operand, whole. -/
def leftA : S2048x1024.Idx → EReal := (m ((c.tc : Thread nD τ).loc main_arg0))

theorem left : V m c main_v0 = leftA m c := by
  unfold V V0
  simp only [hostOps0, List.flatten_cons, List.flatten_nil, List.append_nil, List.cons_append, List.nil_append]
  after_reads_simp
  rfl

/-- The right operand, whole. -/
def rightA : S2048x1024.Idx → EReal := (m ((c.tc : Thread nD τ).loc main_arg1))

theorem right : V m c main_arg1 = rightA m c := by
  unfold V V0
  simp only [hostOps0, List.flatten_cons, List.flatten_nil, List.append_nil, List.cons_append, List.nil_append]
  after_reads_simp
  rfl

/-- The reference's array, for the kernel's arguments. -/
def goal : S1024x1024.Idx → EReal :=
  Cert.Reference11Ideal.Read.val_main_v3 (F := Ideal) (m ((c.tc : Thread nD τ).loc main_arg0)) (m ((c.tc : Thread nD τ).loc main_arg1))

theorem goal_apply (i : S1024x1024.Idx) : goal m c i = ∑ k : Fin 2048,
    leftA m c (ix2 k (i 0)) * rightA m c (ix2 k (i 1)) := by
  unfold goal
  rw [Cert.Reference11Ideal.Read.val_main_v3_apply, Cert.Reference11Ideal.Read.val_main_v2_apply]
  refine Finset.sum_congr rfl fun k _ => ?_
  rw [mul_comm]
  refine congrArg₂ (· * ·) (congrArg _ (funext fun a => ?_)) (congrArg _ (funext fun a => ?_)) <;> match a with
    | ⟨0, _⟩ => rfl
    | ⟨1, _⟩ => rfl

/-- The result array once every block is written back. -/
theorem arr : (dats m 0 c).arrAt 2 cfg0.N = goal m c := by
  refine (dats m 0 c).arrAt_eq_of_cover 2 (goal m c) (fun t _ => ?_) (fun i => ?_)
  · funext y
    show (cfg0.win 2).cut (grid0.coords t) ((dats m 0 c).after 2 t) y = goal m c (((cfg0.win 2).blk t).view.emb y)
    rw [after0_2]
    refine (block _ _ y).trans ?_
    rw [goal_apply]
    refine Finset.sum_congr rfl fun k _ => ?_
    refine congrArg₂ (· * ·) ?_ ?_
    · show V m c main_v0 (((cfg0.win 0).blk t).view.emb (ix2 k (y 0))) = _
      rw [left]
      refine congrArg _ (funext fun a => Fin.ext ?_)
      match a with
      | ⟨0, _⟩ =>
        blk_simp [idx t]
        try omega
      | ⟨1, _⟩ =>
        blk_simp [idx t]
        try omega
    · show V m c main_arg1 (((cfg0.win 1).blk t).view.emb (ix2 k (y 1))) = _
      rw [right]
      refine congrArg _ (funext fun a => Fin.ext ?_)
      match a with
      | ⟨0, _⟩ =>
        blk_simp [idx t]
        try omega
      | ⟨1, _⟩ =>
        blk_simp [idx t]
        try omega
  · have hi0 : (i 0).val < 1024 := (i 0).isLt
    have hi1 : (i 1).val < 1024 := (i 1).isLt
    have hN : cfg0.N = 1 := N_0
    refine ⟨⟨0, by omega⟩, flush0_2 _, ?_⟩
    set t : Fin cfg0.N := ⟨0, by omega⟩ with ht
    have tv : t.val = 0 := rfl
    refine ((cfg0.win 2).emb_mem_blk_iff t i).mpr fun a => ?_
    show win0_2.index t a * S1024x1024.size a ≤ (i a).val ∧ (i a).val < win0_2.index t a * S1024x1024.size a + S1024x1024.size a
    rw [(idx t).2.2]
    match a with
    | ⟨0, _⟩ =>
      show 0 * 1024 ≤ (i 0).val ∧ (i 0).val < 0 * 1024 + 1024
      omega
    | ⟨1, _⟩ =>
      show 0 * 1024 ≤ (i 1).val ∧ (i 1).val < 0 * 1024 + 1024
      omega

/-- The result buffer after the host's last line. -/
theorem tail : Pipeline.afterTail₀ cfgs (dats m) 0 (V0 m) [hostOps1] c main_v2 = goal m c := by
  unfold Pipeline.afterTail₀
  simp only [hostOps1, List.flatten_cons, List.flatten_nil, List.append_nil]
  after_reads_simp
  have e := Pipeline.withArrays_arr spec0 launch0.win.arr_inj c (V0 m c) (fun w => (dats m 0 c).arrAt w cfg0.N) 2
  funext i
  exact congrFun (e.trans (arr m c)) i

/-- Both programs end with the gradient of the weight. -/
theorem algebraic [hK : Cert.Kernel11Ideal.Facts] [hR : Cert.Reference11Ideal.Facts] : Cert.algebraic_Kernel11Ideal_Reference11Ideal := by
  intro m g m' g' _ hagree
  refine ⟨fun c => goal m c, ?_, ?_⟩
  · refine (θ_run Cert.Kernel11Ideal.defs _ _).mono (fun r h c => ?_) (run_main m g)
    exact ⟨((h c).2 main_v2 (Pipeline.mem_restRefs_of main_v2 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩
  · refine (θ_run Cert.Reference11Ideal.defs _ _).mono (fun r h c => ?_) (Cert.Reference11Ideal.Value.run (F := Ideal) m' g')
    refine ⟨(h c).1.trans ?_, (h c).2.1, (h c).2.2⟩
    rw [Cert.Reference11Ideal.Read.val_main_v3_eq, (hagree c).1, (hagree c).2]
    rfl

end Cert.DWOut
-- ==== Proof.Gate.lean ====
/-
  The gate: one over one plus the exponential of the negative, in the form the kernels print and in the form the references print.
-/
module

public import Idealize.ShloMosaic.PureOps.Ideal
public import Idealize.ShloMosaic.Lib.Pointwise

@[expose] public section

noncomputable section

namespace Cert.Gate

open Idealize.ShloMosaic

theorem ofBits_one : FloatOps.ofBits (F := Ideal) .f32 0x3F800000#32 = (1 : EReal) := by
  show Ideal.ofBits .f32 _ = _
  rw [Ideal.ofBits_one_f32]

/-- The kernels' line: zero minus the entry in place of its negative. -/
theorem of_sub (z : EReal) : Ideal.div 1 (1 + Ideal.exp (0 - z)) = Ideal.logistic z := by
  rw [zero_sub]
  rfl

/-- The references' line. -/
theorem of_neg (z : EReal) : Ideal.div 1 (1 + Ideal.exp (-z)) = Ideal.logistic z := rfl

end Cert.Gate
-- ==== Proof.GateBwd.lean ====
/-
  The gated mixture backwards: from the gradient of the rows after the mixture, the gradients of the gates, of the branches'
  weights and of the branches' rows.
-/
module

public import proofs.«01_k».proof.Proof.Gen.Kernel12Ideal.Frame
public import proofs.«01_k».proof.Proof.Gen.Reference12Ideal.Read
public import proofs.«01_k».proof.Defs
public import proofs.«01_k».proof.Proof.NormTail
public import proofs.«01_k».proof.Proof.Gate
public import Idealize.ShloMosaic.Lib.KernelVsHost
public import Idealize.ShloMosaic.Lib.StableHlo.ReadAt
public import Idealize.ShloMosaic.Lib.Pipeline.ValueKit.Point
public import Idealize.ShloMosaic.Lib.Pipeline.ValueKit.Tiles
public import Idealize.ShloMosaic.Lib.Pointwise

@[expose] public section

set_option maxRecDepth 16384

noncomputable section

namespace Cert.GateBwd

open Cert.Kernel12Ideal Cert.Kernel12Ideal.Gen Idealize.ShloMosaic Idealize.ShloMosaic.TcCoe Idealize.SL.Sem

open Cert.NormTail Cert.Gate

variable (m : (l : Loc nD τ sig) → BufTy.Contents (Elt Ideal) l.ty) (c : Dev nD)

theorem hz : (![0, 0] : Fin 2 → Nat) = fun _ => 0 := funext fun a => by fin_cases a <;> rfl

/-- A sum over the rows, taken eight runs of 256 rows at a time. -/
theorem eighths (f : Fin 2048 → EReal) (u : (n : Nat) → n < 8 → EReal)
    (h0 : u 0 (by omega) = ∑ a : Fin 256, f ⟨256 * 0 + a.val, by omega⟩)
    (hs : ∀ n (h : n + 1 < 8), u (n + 1) h = u n (by omega) + ∑ a : Fin 256, f ⟨256 * (n + 1) + a.val, by omega⟩) :
    u 7 (by omega) = ∑ r : Fin 2048, f r := by
  let g : Nat → EReal := fun r => if h : r < 2048 then f ⟨r, h⟩ else 0
  have run : ∀ n, n < 8 → ∀ hb : (∀ a : Fin 256, 256 * n + a.val < 2048), (∑ a : Fin 256, f ⟨256 * n + a.val, hb a⟩) = ∑ a ∈ Finset.range 256, g (256 * n + a) := by
    intro n hn hb
    rw [Finset.sum_range]
    exact Finset.sum_congr rfl fun a _ => (show g (256 * n + a.val) = f ⟨256 * n + a.val, hb a⟩ from dif_pos (hb a)).symm
  have part : ∀ n (h : n < 8), u n h = ∑ r ∈ Finset.range (256 * (n + 1)), g r := by
    intro n
    induction n with
    | zero =>
      intro h
      rw [h0, run 0 h]
      exact Finset.sum_congr rfl fun a _ => congrArg g (by omega)
    | succ n ih =>
      intro h
      rw [hs n h, ih (by omega), run (n + 1) h, show 256 * (n + 1 + 1) = 256 * (n + 1) + 256 from by omega, Finset.sum_range_add]
  rw [part 7 (by omega), show 256 * (7 + 1) = 2048 from rfl, Finset.sum_range]
  exact Finset.sum_congr rfl fun r _ => dif_pos r.isLt

/-- A block of the rows' gradient times the output projection's weights. -/
theorem pay3 (x : Vec Ideal S256x1024 .f32) (wo : Vec Ideal S1024x1024 .bf16) (y : S256x1024.Idx) :
    k0_pay3 x wo y = ∑ k : Fin 1024, x (ix2 (y 0) k) * wo (ix2 (y 1) k) := by
  unfold k0_pay3
  pointwise

/-- A block of the gradient of branch 0's gates. -/
theorem gate0 (x : Vec Ideal S256x1024 .f32) (wo : Vec Ideal S1024x1024 .bf16) (z : Vec Ideal S256x1024 .f32) (o : Vec Ideal S256x512 .bf16) (w : Vec Ideal S512x1024 .bf16) (y : S256x1024.Idx) :
    k0_pay5 x wo z o w y = k0_pay3 x wo y * (∑ k : Fin 512, o (ix2 (y 0) k) * w (ix2 k (y 1))) * Ideal.logistic (z y) * (1 - Ideal.logistic (z y)) := by
  rw [← of_sub, ← ofBits_one, ← ofBits_zero]
  unfold k0_pay5 k0_pay4
  generalize k0_pay3 x wo = p
  pointwise

/-- A block of the gradient of branch 0's product. -/
theorem branch0 (x : Vec Ideal S256x1024 .f32) (wo : Vec Ideal S1024x1024 .bf16) (z : Vec Ideal S256x1024 .f32) (y : S256x1024.Idx) : k0_pay6 x wo z y = k0_pay3 x wo y * Ideal.logistic (z y) := by
  rw [← of_sub, ← ofBits_one, ← ofBits_zero]
  unfold k0_pay6 k0_pay4
  generalize k0_pay3 x wo = p
  pointwise

/-- A block of the gradient of branch 0's rows. -/
theorem rows0 (x : Vec Ideal S256x1024 .f32) (wo : Vec Ideal S1024x1024 .bf16) (z : Vec Ideal S256x1024 .f32) (w : Vec Ideal S512x1024 .bf16) (y : S256x512.Idx) : k0_pay7 x wo z w y = ∑ k : Fin 1024, k0_pay6 x wo z (ix2 (y 0) k) * w (ix2 (y 1) k) := by
  unfold k0_pay7
  generalize k0_pay6 x wo z = q
  pointwise

/-- One point's share of the gradient of branch 0's weights. -/
theorem share0 (q : FVec Ideal S256x1024 .bf16) (o : Vec Ideal S256x512 .bf16) (y : S512x1024.Idx) : k0_pay8 q o y = ∑ r : Fin 256, o (ix2 r (y 0)) * q (ix2 r (y 1)) := by
  unfold k0_pay8
  pointwise

theorem added0 (q : FVec Ideal S256x1024 .bf16) (o : Vec Ideal S256x512 .bf16) (v : Vec Ideal S512x1024 .f32) (y : S512x1024.Idx) : k0_pay9 q o v y = v y + ∑ r : Fin 256, o (ix2 r (y 0)) * q (ix2 r (y 1)) := by
  rw [← share0]
  unfold k0_pay9
  generalize k0_pay8 q o = p
  pointwise

/-- A block of the gradient of branch 1's gates. -/
theorem gate1 (p : FVec Ideal S256x1024 .f32) (z : Vec Ideal S256x1024 .f32) (o : Vec Ideal S256x512 .bf16) (w : Vec Ideal S512x1024 .bf16) (y : S256x1024.Idx) :
    k0_pay11 p z o w y = p y * (∑ k : Fin 512, o (ix2 (y 0) k) * w (ix2 k (y 1))) * Ideal.logistic (z y) * (1 - Ideal.logistic (z y)) := by
  rw [← of_sub, ← ofBits_one, ← ofBits_zero]
  unfold k0_pay11 k0_pay10
  pointwise

/-- A block of the gradient of branch 1's product. -/
theorem branch1 (p : FVec Ideal S256x1024 .f32) (z : Vec Ideal S256x1024 .f32) (y : S256x1024.Idx) : k0_pay12 p z y = p y * Ideal.logistic (z y) := by
  rw [← of_sub, ← ofBits_one, ← ofBits_zero]
  unfold k0_pay12 k0_pay10
  pointwise

/-- A block of the gradient of branch 1's rows. -/
theorem rows1 (p : FVec Ideal S256x1024 .f32) (z : Vec Ideal S256x1024 .f32) (w : Vec Ideal S512x1024 .bf16) (y : S256x512.Idx) : k0_pay13 p z w y = ∑ k : Fin 1024, k0_pay12 p z (ix2 (y 0) k) * w (ix2 (y 1) k) := by
  unfold k0_pay13
  generalize k0_pay12 p z = q
  pointwise

/-- One point's share of the gradient of branch 1's weights. -/
theorem share1 (q : FVec Ideal S256x1024 .bf16) (o : Vec Ideal S256x512 .bf16) (y : S512x1024.Idx) : k0_pay14 q o y = ∑ r : Fin 256, o (ix2 r (y 0)) * q (ix2 r (y 1)) := by
  unfold k0_pay14
  pointwise

theorem added1 (q : FVec Ideal S256x1024 .bf16) (o : Vec Ideal S256x512 .bf16) (v : Vec Ideal S512x1024 .f32) (y : S512x1024.Idx) : k0_pay15 q o v y = v y + ∑ r : Fin 256, o (ix2 r (y 0)) * q (ix2 r (y 1)) := by
  rw [← share1]
  unfold k0_pay15
  generalize k0_pay14 q o = p
  pointwise

/-- A block of the gradient of branch 2's gates. -/
theorem gate2 (p : FVec Ideal S256x1024 .f32) (z : Vec Ideal S256x1024 .f32) (o : Vec Ideal S256x512 .bf16) (w : Vec Ideal S512x1024 .bf16) (y : S256x1024.Idx) :
    k0_pay17 p z o w y = p y * (∑ k : Fin 512, o (ix2 (y 0) k) * w (ix2 k (y 1))) * Ideal.logistic (z y) * (1 - Ideal.logistic (z y)) := by
  rw [← of_sub, ← ofBits_one, ← ofBits_zero]
  unfold k0_pay17 k0_pay16
  pointwise

/-- A block of the gradient of branch 2's product. -/
theorem branch2 (p : FVec Ideal S256x1024 .f32) (z : Vec Ideal S256x1024 .f32) (y : S256x1024.Idx) : k0_pay18 p z y = p y * Ideal.logistic (z y) := by
  rw [← of_sub, ← ofBits_one, ← ofBits_zero]
  unfold k0_pay18 k0_pay16
  pointwise

/-- A block of the gradient of branch 2's rows. -/
theorem rows2 (p : FVec Ideal S256x1024 .f32) (z : Vec Ideal S256x1024 .f32) (w : Vec Ideal S512x1024 .bf16) (y : S256x512.Idx) : k0_pay19 p z w y = ∑ k : Fin 1024, k0_pay18 p z (ix2 (y 0) k) * w (ix2 (y 1) k) := by
  unfold k0_pay19
  generalize k0_pay18 p z = q
  pointwise

/-- One point's share of the gradient of branch 2's weights. -/
theorem share2 (q : FVec Ideal S256x1024 .bf16) (o : Vec Ideal S256x512 .bf16) (y : S512x1024.Idx) : k0_pay1 q o y = ∑ r : Fin 256, o (ix2 r (y 0)) * q (ix2 r (y 1)) := by
  unfold k0_pay1
  pointwise

theorem added2 (q : FVec Ideal S256x1024 .bf16) (o : Vec Ideal S256x512 .bf16) (v : Vec Ideal S512x1024 .f32) (y : S512x1024.Idx) : k0_pay2 q o v y = v y + ∑ r : Fin 256, o (ix2 r (y 0)) * q (ix2 r (y 1)) := by
  rw [← share2]
  unfold k0_pay2
  generalize k0_pay1 q o = p
  pointwise

/-- What a point leaves in the block of the gates' gradients. -/
theorem out_A_11 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (y : S256x3072.Idx) (v : EReal)
    (p0 : ∀ x : S256x1024.Idx, (y 0).val = (x 0).val → (y 1).val = (x 1).val → k0_pay5 x9 x10 x6 x0 x3 x = v)
    (p1 : ∀ x : S256x1024.Idx, (y 0).val = (x 0).val → (y 1).val = 1024 + (x 1).val → k0_pay11 (k0_pay3 x9 x10) x7 x1 x4 x = v)
    (p2 : ∀ x : S256x1024.Idx, (y 0).val = (x 0).val → (y 1).val = 2048 + (x 1).val → k0_pay17 (k0_pay3 x9 x10) x8 x2 x5 x = v) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 y = v := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]
  canon_tiles x e
  · exact p2 x e0 e1
  · exact p1 x e0 e1
  · exact p0 x e0 e1

/-- What a point leaves in the block of the gradient of branch 0's weights. -/
theorem out_A_12 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay8 (k0_pay6 x9 x10 x6) x0 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 1's weights. -/
theorem out_A_13 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay14 (k0_pay12 (k0_pay3 x9 x10) x7) x1 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 2's weights. -/
theorem out_A_14 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay1 (k0_pay18 (k0_pay3 x9 x10) x8) x2 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 0's rows. -/
theorem out_A_15 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay7 x9 x10 x6 x3 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 1's rows. -/
theorem out_A_16 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay13 (k0_pay3 x9 x10) x7 x4 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 2's rows. -/
theorem out_A_17 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : cond0_0 i) (hc1 : ¬cond0_1 i) (hc2 : cond0_2 i) (hc3 : ¬cond0_3 i) (hc4 : cond0_4 i) (hc5 : ¬cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 = k0_pay19 (k0_pay3 x9 x10) x8 x5 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gates' gradients. -/
theorem out_B_11 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) (y : S256x3072.Idx) (v : EReal)
    (p0 : ∀ x : S256x1024.Idx, (y 0).val = (x 0).val → (y 1).val = (x 1).val → k0_pay5 x9 x10 x6 x0 x3 x = v)
    (p1 : ∀ x : S256x1024.Idx, (y 0).val = (x 0).val → (y 1).val = 1024 + (x 1).val → k0_pay11 (k0_pay3 x9 x10) x7 x1 x4 x = v)
    (p2 : ∀ x : S256x1024.Idx, (y 0).val = (x 0).val → (y 1).val = 2048 + (x 1).val → k0_pay17 (k0_pay3 x9 x10) x8 x2 x5 x = v) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 y = v := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]
  canon_tiles x e
  · exact p2 x e0 e1
  · exact p1 x e0 e1
  · exact p0 x e0 e1

/-- What a point leaves in the block of the gradient of branch 0's weights. -/
theorem out_B_12 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay9 (k0_pay6 x9 x10 x6) x0 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 1's weights. -/
theorem out_B_13 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay15 (k0_pay12 (k0_pay3 x9 x10) x7) x1 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 2's weights. -/
theorem out_B_14 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay2 (k0_pay18 (k0_pay3 x9 x10) x8) x2 xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 0's rows. -/
theorem out_B_15 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay7 x9 x10 x6 x3 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 1's rows. -/
theorem out_B_16 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay13 (k0_pay3 x9 x10) x7 x4 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- What a point leaves in the block of the gradient of branch 2's rows. -/
theorem out_B_17 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S256x3072 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (hc0 : ¬cond0_0 i) (hc1 : cond0_1 i) (hc2 : ¬cond0_2 i) (hc3 : cond0_3 i) (hc4 : ¬cond0_4 i) (hc5 : cond0_5 i)
    (x0 : Vec Ideal S256x512 .bf16) (x1 : Vec Ideal S256x512 .bf16) (x2 : Vec Ideal S256x512 .bf16) (x3 : Vec Ideal S512x1024 .bf16) (x4 : Vec Ideal S512x1024 .bf16) (x5 : Vec Ideal S512x1024 .bf16) (x6 : Vec Ideal S256x1024 .f32) (x7 : Vec Ideal S256x1024 .f32) (x8 : Vec Ideal S256x1024 .f32) (x9 : Vec Ideal S256x1024 .f32) (x10 : Vec Ideal S1024x1024 .bf16) (xo12 : Vec Ideal S512x1024 .f32) (xo13 : Vec Ideal S512x1024 .f32) (xo14 : Vec Ideal S512x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14 = k0_pay19 (k0_pay3 x9 x10) x8 x5 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 x0 x1 x2 x3 x4 x5 x6 x7 x8 x9 x10 xo12 xo13 xo14)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x512) hz, View.ld_unit_zero (S := S512x1024) hz, View.ld_unit_zero (S := S1024x1024) hz, View.ld_unit_zero (S := S256x1024) hz, shapeCast_self]

/-- Every window's block index at each point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![t.val, 0] ∧ win0_7.index t = ![t.val, 1] ∧ win0_8.index t = ![t.val, 2] ∧ win0_9.index t = ![t.val, 0] ∧ win0_10.index t = ![0, 0] ∧ win0_11.index t = ![t.val, 0]
    ∧ win0_12.index t = ![0, 0] ∧ win0_13.index t = ![0, 0] ∧ win0_14.index t = ![0, 0] ∧ win0_15.index t = ![t.val, 0] ∧ win0_16.index t = ![t.val, 0] ∧ win0_17.index t = ![t.val, 0] :=
  (by decide +kernel : ∀ t : Fin grid0.N, _)

/-- The block of the gates' gradients is whole at each point. -/
theorem extent : ∀ (t : Fin cfg0.N) (a : Fin 2), win0_11.xsize (grid0.coords t) a = S256x3072.size a :=
  (by decide +kernel : ∀ (t : Fin grid0.N) (a : Fin 2), _)

theorem lt8 (t : Fin cfg0.N) : t.val < 8 := by
  have hN : cfg0.N = 8 := N_0
  have := t.isLt
  omega

/-- The branches' rows. -/
def oA (j : Fin 3) : S2048x512.Idx → EReal := match j with
  | 0 => m ((c.tc : Thread nD τ).loc main_arg0)
  | 1 => m ((c.tc : Thread nD τ).loc main_arg1)
  | 2 => m ((c.tc : Thread nD τ).loc main_arg2)
/-- The branches' weights. -/
def wA (j : Fin 3) : S512x1024.Idx → EReal := match j with
  | 0 => m ((c.tc : Thread nD τ).loc main_arg3)
  | 1 => m ((c.tc : Thread nD τ).loc main_arg4)
  | 2 => m ((c.tc : Thread nD τ).loc main_arg5)
/-- The input projection, whose first columns are the gates. -/
def zA : S2048x6912.Idx → EReal := m ((c.tc : Thread nD τ).loc main_arg6)
/-- The gradient of the rows after the mixture. -/
def dxA : S2048x1024.Idx → EReal := m ((c.tc : Thread nD τ).loc main_arg7)
/-- The output projection's weights. -/
def woA : S1024x1024.Idx → EReal := m ((c.tc : Thread nD τ).loc main_arg8)

theorem host_v0 : V m c main_v0 = oA m c 0 := by
  unfold V V0
  simp only [hostOps0, List.flatten_cons, List.flatten_nil, List.append_nil, List.cons_append, List.nil_append]
  after_reads_simp
  rfl

theorem host_v1 : V m c main_v1 = oA m c 1 := by
  unfold V V0
  simp only [hostOps0, List.flatten_cons, List.flatten_nil, List.append_nil, List.cons_append, List.nil_append]
  after_reads_simp
  rfl

theorem host_v2 : V m c main_v2 = oA m c 2 := by
  unfold V V0
  simp only [hostOps0, List.flatten_cons, List.flatten_nil, List.append_nil, List.cons_append, List.nil_append]
  after_reads_simp
  rfl

theorem host_v3 : V m c main_v3 = wA m c 0 := by
  unfold V V0
  simp only [hostOps0, List.flatten_cons, List.flatten_nil, List.append_nil, List.cons_append, List.nil_append]
  after_reads_simp
  rfl

theorem host_v4 : V m c main_v4 = wA m c 1 := by
  unfold V V0
  simp only [hostOps0, List.flatten_cons, List.flatten_nil, List.append_nil, List.cons_append, List.nil_append]
  after_reads_simp
  rfl

theorem host_v5 : V m c main_v5 = wA m c 2 := by
  unfold V V0
  simp only [hostOps0, List.flatten_cons, List.flatten_nil, List.append_nil, List.cons_append, List.nil_append]
  after_reads_simp
  rfl

theorem host_v6 : V m c main_v6 = woA m c := by
  unfold V V0
  simp only [hostOps0, List.flatten_cons, List.flatten_nil, List.append_nil, List.cons_append, List.nil_append]
  after_reads_simp
  rfl

/-- The column of the projection that holds gate `j` of channel `k`. -/
def col (j : Fin 3) (k : Fin 1024) : Fin 6912 := ⟨1024 * j.val + k.val, by have := j.isLt; have := k.isLt; omega⟩

/-- The row of the arrays that row `a` of a point's block is. -/
def row (t : Fin cfg0.N) (a : Fin 256) : Fin 2048 := ⟨256 * t.val + a.val, by have := lt8 t; have := a.isLt; omega⟩

/-- The gradient of the merged branches. -/
def dmV (r : Fin 2048) (k : Fin 1024) : EReal := ∑ q : Fin 1024, dxA m c (ix2 r q) * woA m c (ix2 k q)

/-- A gate. -/
def sgV (j : Fin 3) (r : Fin 2048) (k : Fin 1024) : EReal := Ideal.logistic (zA m c (ix2 r (col j k)))

/-- A branch's product with its weights. -/
def brV (j : Fin 3) (r : Fin 2048) (k : Fin 1024) : EReal := ∑ q : Fin 512, oA m c j (ix2 r q) * wA m c j (ix2 q k)

/-- The gradient of a branch's product. -/
def dbrV (j : Fin 3) (r : Fin 2048) (k : Fin 1024) : EReal := dmV m c r k * sgV m c j r k

/-- The gradient of a gate's argument. -/
def gateV (j : Fin 3) (r : Fin 2048) (k : Fin 1024) : EReal := dmV m c r k * brV m c j r k * sgV m c j r k * (1 - sgV m c j r k)

/-- The same, the three gates side by side. -/
def gateAt (r : Fin 2048) (q : Fin 3072) : EReal := gateV m c ⟨q.val / 1024, by have := q.isLt; omega⟩ r ⟨q.val % 1024, by omega⟩

theorem gateAt_eq (r : Fin 2048) (q : Fin 3072) (j : Fin 3) (k : Fin 1024) (h : q.val = 1024 * j.val + k.val) : gateAt m c r q = gateV m c j r k := by
  have hk := k.isLt
  have e1 : (⟨q.val / 1024, by have := q.isLt; omega⟩ : Fin 3) = j := Fin.ext (by show q.val / 1024 = j.val; omega)
  have e2 : (⟨q.val % 1024, by omega⟩ : Fin 1024) = k := Fin.ext (by show q.val % 1024 = k.val; omega)
  unfold gateAt
  rw [e1, e2]

/-- The gradient of a branch's rows. -/
def doV (j : Fin 3) (r : Fin 2048) (k : Fin 512) : EReal := ∑ q : Fin 1024, dbrV m c j r q * wA m c j (ix2 k q)

/-- The gradient of a branch's weights. -/
def dwV (j : Fin 3) (i : S512x1024.Idx) : EReal := ∑ r : Fin 2048, oA m c j (ix2 r (i 0)) * dbrV m c j r (i 1)

/-- The reference's gate. -/
theorem ref_gate (j : Cert.Reference12Ideal.S2048x3x1024.Idx) : Cert.Reference12Ideal.Read.val_main_v7 (F := Ideal) (m ((c.tc : Thread nD τ).loc main_arg6)) j = sgV m c (j 1) (j 0) (j 2) := by
  rw [Cert.Reference12Ideal.Read.val_main_v7_apply, Cert.Reference12Ideal.Read.val_main_v6_apply, Cert.Reference12Ideal.Read.val_main_cst_0_apply, Cert.Reference12Ideal.Read.val_main_v5_apply, Cert.Reference12Ideal.Read.val_main_v4_apply, Cert.Reference12Ideal.Read.val_main_cst_apply, Cert.Reference12Ideal.Read.val_main_v3_apply, Cert.Reference12Ideal.Read.val_main_v2_apply, Cert.Reference12Ideal.Read.val_main_v1_apply, Cert.Reference12Ideal.Read.val_main_v0_apply, ofBits_one]
  refine (of_neg _).trans (congrArg (fun q => Ideal.logistic (zA m c q)) (funext fun a => ?_))
  have h1 : (j 1).val < 3 := (j 1).isLt
  have h2 : (j 2).val < 1024 := (j 2).isLt
  match a with
  | ⟨0, _⟩ => exact Fin.ext (by show (((j 0).val * 3 + (j 1).val) * 1024 + (j 2).val) / 3072 = (j 0).val; omega)
  | ⟨1, _⟩ => exact Fin.ext (by show (((j 0).val * 3 + (j 1).val) * 1024 + (j 2).val) % 3072 = 1024 * (j 1).val + (j 2).val; omega)

theorem ref_dm (i : S2048x1024.Idx) : Cert.Reference12Ideal.Read.val_main_v26 (F := Ideal) (m ((c.tc : Thread nD τ).loc main_arg7)) (m ((c.tc : Thread nD τ).loc main_arg8)) i = dmV m c (i 0) (i 1) := by
  rw [Cert.Reference12Ideal.Read.val_main_v26_apply]
  refine Finset.sum_congr rfl fun k _ => congrArg₂ (· * ·) (congrArg (dxA m c) (funext fun a => ?_)) (congrArg (woA m c) (funext fun a => ?_)) <;> match a with
    | ⟨0, _⟩ => rfl
    | ⟨1, _⟩ => rfl

theorem ref_gate0 (i : S2048x1024.Idx) : Cert.Reference12Ideal.Read.val_main_v15 (F := Ideal) (m ((c.tc : Thread nD τ).loc main_arg6)) i = sgV m c 0 (i 0) (i 1) := by
  rw [Cert.Reference12Ideal.Read.val_main_v15_apply, Cert.Reference12Ideal.Read.val_main_v14_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * 0 + ((i 0).val * 1024 + (i 1).val) % 1024 = 1024 * 0 + (i 1).val; omega)

theorem ref_branch0 (i : S2048x1024.Idx) : Cert.Reference12Ideal.Read.val_main_v11 (F := Ideal) (m ((c.tc : Thread nD τ).loc main_arg0)) (m ((c.tc : Thread nD τ).loc main_arg3)) i = brV m c 0 (i 0) (i 1) := by
  rw [Cert.Reference12Ideal.Read.val_main_v11_apply]
  refine Finset.sum_congr rfl fun k _ => congrArg₂ (· * ·) (congrArg (oA m c 0) (funext fun a => ?_)) (congrArg (wA m c 0) (funext fun a => ?_)) <;> match a with
    | ⟨0, _⟩ => rfl
    | ⟨1, _⟩ => rfl

theorem ref_dbr0 (i : S2048x1024.Idx) : Cert.Reference12Ideal.Read.val_main_v36 (F := Ideal) (m ((c.tc : Thread nD τ).loc main_arg6)) (m ((c.tc : Thread nD τ).loc main_arg7)) (m ((c.tc : Thread nD τ).loc main_arg8)) i = dbrV m c 0 (i 0) (i 1) := by
  rw [Cert.Reference12Ideal.Read.val_main_v36_apply, ref_gate0, ref_dm]
  exact mul_comm _ _

theorem ref_dgate0 (i : S2048x1024.Idx) : Cert.Reference12Ideal.Read.val_main_v37 (F := Ideal) (m ((c.tc : Thread nD τ).loc main_arg0)) (m ((c.tc : Thread nD τ).loc main_arg3)) (m ((c.tc : Thread nD τ).loc main_arg7)) (m ((c.tc : Thread nD τ).loc main_arg8)) i = dmV m c (i 0) (i 1) * brV m c 0 (i 0) (i 1) := by
  rw [Cert.Reference12Ideal.Read.val_main_v37_apply, ref_branch0, ref_dm]
  rfl

theorem ref_rows0 (i : S2048x512.Idx) : Cert.Reference12Ideal.Read.val_main_v49 (F := Ideal) (m ((c.tc : Thread nD τ).loc main_arg3)) (m ((c.tc : Thread nD τ).loc main_arg6)) (m ((c.tc : Thread nD τ).loc main_arg7)) (m ((c.tc : Thread nD τ).loc main_arg8)) i = doV m c 0 (i 0) (i 1) := by
  rw [Cert.Reference12Ideal.Read.val_main_v49_apply]
  refine Finset.sum_congr rfl fun k _ => congrArg₂ (· * ·) (ref_dbr0 m c _) (congrArg (wA m c 0) (funext fun a => ?_))
  match a with
    | ⟨0, _⟩ => rfl
    | ⟨1, _⟩ => rfl

theorem ref_weights0 (i : S512x1024.Idx) : Cert.Reference12Ideal.Read.val_main_v48 (F := Ideal) (m ((c.tc : Thread nD τ).loc main_arg0)) (m ((c.tc : Thread nD τ).loc main_arg6)) (m ((c.tc : Thread nD τ).loc main_arg7)) (m ((c.tc : Thread nD τ).loc main_arg8)) i = dwV m c 0 i := by
  rw [Cert.Reference12Ideal.Read.val_main_v48_apply, Cert.Reference12Ideal.Read.val_main_v47_apply]
  refine Finset.sum_congr rfl fun k _ => (congrArg₂ (· * ·) (ref_dbr0 m c _) (congrArg (oA m c 0) (funext fun a => ?_))).trans (mul_comm _ _)
  match a with
    | ⟨0, _⟩ => rfl
    | ⟨1, _⟩ => rfl

theorem ref_gate1 (i : S2048x1024.Idx) : Cert.Reference12Ideal.Read.val_main_v18 (F := Ideal) (m ((c.tc : Thread nD τ).loc main_arg6)) i = sgV m c 1 (i 0) (i 1) := by
  rw [Cert.Reference12Ideal.Read.val_main_v18_apply, Cert.Reference12Ideal.Read.val_main_v17_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * (1 + 0) + ((i 0).val * 1024 + (i 1).val) % 1024 = 1024 * 1 + (i 1).val; omega)

theorem ref_branch1 (i : S2048x1024.Idx) : Cert.Reference12Ideal.Read.val_main_v12 (F := Ideal) (m ((c.tc : Thread nD τ).loc main_arg1)) (m ((c.tc : Thread nD τ).loc main_arg4)) i = brV m c 1 (i 0) (i 1) := by
  rw [Cert.Reference12Ideal.Read.val_main_v12_apply]
  refine Finset.sum_congr rfl fun k _ => congrArg₂ (· * ·) (congrArg (oA m c 1) (funext fun a => ?_)) (congrArg (wA m c 1) (funext fun a => ?_)) <;> match a with
    | ⟨0, _⟩ => rfl
    | ⟨1, _⟩ => rfl

theorem ref_dbr1 (i : S2048x1024.Idx) : Cert.Reference12Ideal.Read.val_main_v31 (F := Ideal) (m ((c.tc : Thread nD τ).loc main_arg6)) (m ((c.tc : Thread nD τ).loc main_arg7)) (m ((c.tc : Thread nD τ).loc main_arg8)) i = dbrV m c 1 (i 0) (i 1) := by
  rw [Cert.Reference12Ideal.Read.val_main_v31_apply, ref_gate1, ref_dm]
  exact mul_comm _ _

theorem ref_dgate1 (i : S2048x1024.Idx) : Cert.Reference12Ideal.Read.val_main_v32 (F := Ideal) (m ((c.tc : Thread nD τ).loc main_arg1)) (m ((c.tc : Thread nD τ).loc main_arg4)) (m ((c.tc : Thread nD τ).loc main_arg7)) (m ((c.tc : Thread nD τ).loc main_arg8)) i = dmV m c (i 0) (i 1) * brV m c 1 (i 0) (i 1) := by
  rw [Cert.Reference12Ideal.Read.val_main_v32_apply, ref_branch1, ref_dm]
  rfl

theorem ref_rows1 (i : S2048x512.Idx) : Cert.Reference12Ideal.Read.val_main_v46 (F := Ideal) (m ((c.tc : Thread nD τ).loc main_arg4)) (m ((c.tc : Thread nD τ).loc main_arg6)) (m ((c.tc : Thread nD τ).loc main_arg7)) (m ((c.tc : Thread nD τ).loc main_arg8)) i = doV m c 1 (i 0) (i 1) := by
  rw [Cert.Reference12Ideal.Read.val_main_v46_apply]
  refine Finset.sum_congr rfl fun k _ => congrArg₂ (· * ·) (ref_dbr1 m c _) (congrArg (wA m c 1) (funext fun a => ?_))
  match a with
    | ⟨0, _⟩ => rfl
    | ⟨1, _⟩ => rfl

theorem ref_weights1 (i : S512x1024.Idx) : Cert.Reference12Ideal.Read.val_main_v45 (F := Ideal) (m ((c.tc : Thread nD τ).loc main_arg1)) (m ((c.tc : Thread nD τ).loc main_arg6)) (m ((c.tc : Thread nD τ).loc main_arg7)) (m ((c.tc : Thread nD τ).loc main_arg8)) i = dwV m c 1 i := by
  rw [Cert.Reference12Ideal.Read.val_main_v45_apply, Cert.Reference12Ideal.Read.val_main_v44_apply]
  refine Finset.sum_congr rfl fun k _ => (congrArg₂ (· * ·) (ref_dbr1 m c _) (congrArg (oA m c 1) (funext fun a => ?_))).trans (mul_comm _ _)
  match a with
    | ⟨0, _⟩ => rfl
    | ⟨1, _⟩ => rfl

theorem ref_gate2 (i : S2048x1024.Idx) : Cert.Reference12Ideal.Read.val_main_v22 (F := Ideal) (m ((c.tc : Thread nD τ).loc main_arg6)) i = sgV m c 2 (i 0) (i 1) := by
  rw [Cert.Reference12Ideal.Read.val_main_v22_apply, Cert.Reference12Ideal.Read.val_main_v21_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * (2 + 0) + ((i 0).val * 1024 + (i 1).val) % 1024 = 1024 * 2 + (i 1).val; omega)

theorem ref_branch2 (i : S2048x1024.Idx) : Cert.Reference12Ideal.Read.val_main_v13 (F := Ideal) (m ((c.tc : Thread nD τ).loc main_arg2)) (m ((c.tc : Thread nD τ).loc main_arg5)) i = brV m c 2 (i 0) (i 1) := by
  rw [Cert.Reference12Ideal.Read.val_main_v13_apply]
  refine Finset.sum_congr rfl fun k _ => congrArg₂ (· * ·) (congrArg (oA m c 2) (funext fun a => ?_)) (congrArg (wA m c 2) (funext fun a => ?_)) <;> match a with
    | ⟨0, _⟩ => rfl
    | ⟨1, _⟩ => rfl

theorem ref_dbr2 (i : S2048x1024.Idx) : Cert.Reference12Ideal.Read.val_main_v27 (F := Ideal) (m ((c.tc : Thread nD τ).loc main_arg6)) (m ((c.tc : Thread nD τ).loc main_arg7)) (m ((c.tc : Thread nD τ).loc main_arg8)) i = dbrV m c 2 (i 0) (i 1) := by
  rw [Cert.Reference12Ideal.Read.val_main_v27_apply, ref_gate2, ref_dm]
  exact mul_comm _ _

theorem ref_dgate2 (i : S2048x1024.Idx) : Cert.Reference12Ideal.Read.val_main_v28 (F := Ideal) (m ((c.tc : Thread nD τ).loc main_arg2)) (m ((c.tc : Thread nD τ).loc main_arg5)) (m ((c.tc : Thread nD τ).loc main_arg7)) (m ((c.tc : Thread nD τ).loc main_arg8)) i = dmV m c (i 0) (i 1) * brV m c 2 (i 0) (i 1) := by
  rw [Cert.Reference12Ideal.Read.val_main_v28_apply, ref_branch2, ref_dm]
  rfl

theorem ref_rows2 (i : S2048x512.Idx) : Cert.Reference12Ideal.Read.val_main_v43 (F := Ideal) (m ((c.tc : Thread nD τ).loc main_arg5)) (m ((c.tc : Thread nD τ).loc main_arg6)) (m ((c.tc : Thread nD τ).loc main_arg7)) (m ((c.tc : Thread nD τ).loc main_arg8)) i = doV m c 2 (i 0) (i 1) := by
  rw [Cert.Reference12Ideal.Read.val_main_v43_apply]
  refine Finset.sum_congr rfl fun k _ => congrArg₂ (· * ·) (ref_dbr2 m c _) (congrArg (wA m c 2) (funext fun a => ?_))
  match a with
    | ⟨0, _⟩ => rfl
    | ⟨1, _⟩ => rfl

theorem ref_weights2 (i : S512x1024.Idx) : Cert.Reference12Ideal.Read.val_main_v42 (F := Ideal) (m ((c.tc : Thread nD τ).loc main_arg2)) (m ((c.tc : Thread nD τ).loc main_arg6)) (m ((c.tc : Thread nD τ).loc main_arg7)) (m ((c.tc : Thread nD τ).loc main_arg8)) i = dwV m c 2 i := by
  rw [Cert.Reference12Ideal.Read.val_main_v42_apply, Cert.Reference12Ideal.Read.val_main_v41_apply]
  refine Finset.sum_congr rfl fun k _ => (congrArg₂ (· * ·) (ref_dbr2 m c _) (congrArg (oA m c 2) (funext fun a => ?_))).trans (mul_comm _ _)
  match a with
    | ⟨0, _⟩ => rfl
    | ⟨1, _⟩ => rfl

/-- Row and channel of an index, the gate left out. -/
def mid (j : Cert.Reference12Ideal.S2048x3x1024.Idx) : Cert.Reference12Ideal.S2048x1x1024.Idx := fun a => match a with
  | ⟨0, _⟩ => j 0
  | ⟨1, _⟩ => ⟨0, Nat.one_pos⟩
  | ⟨2, _⟩ => j 2

/-- The gate gradients of branch 0 in their place. -/
theorem in0 (j : Cert.Reference12Ideal.S2048x3x1024.Idx) (h : (j 1).val = 0) : Cert.Reference12Ideal.Read.val_main_v39 (F := Ideal) (m ((c.tc : Thread nD τ).loc main_arg0)) (m ((c.tc : Thread nD τ).loc main_arg3)) (m ((c.tc : Thread nD τ).loc main_arg7)) (m ((c.tc : Thread nD τ).loc main_arg8)) j = dmV m c (j 0) (j 2) * brV m c 0 (j 0) (j 2) := by
  unfold Cert.Reference12Ideal.Read.val_main_v39
  refine (pad_apply_of_inside _ _ _ _ _ _ _ j (mid j) fun a => ?_).trans ?_
  · match a with
    | ⟨0, _⟩ => show (j 0).val = 0 + (j 0).val * (0 + 1); omega
    | ⟨1, _⟩ => show (j 1).val = 0 + 0 * (0 + 1); omega
    | ⟨2, _⟩ => show (j 2).val = 0 + (j 2).val * (0 + 1); omega
  · rw [Cert.Reference12Ideal.Read.val_main_v38_apply, ref_dgate0]
    rfl

/-- And zeros elsewhere. -/
theorem off0 (j : Cert.Reference12Ideal.S2048x3x1024.Idx) (h : (j 1).val ≠ 0) : Cert.Reference12Ideal.Read.val_main_v39 (F := Ideal) (m ((c.tc : Thread nD τ).loc main_arg0)) (m ((c.tc : Thread nD τ).loc main_arg3)) (m ((c.tc : Thread nD τ).loc main_arg7)) (m ((c.tc : Thread nD τ).loc main_arg8)) j = 0 := by
  unfold Cert.Reference12Ideal.Read.val_main_v39
  have h1 : (j 1).val < 3 := (j 1).isLt
  refine (pad_apply_of_not_inside _ _ _ _ _ _ _ j 1 ?_).trans ofBits_zero
  show ¬(0 ≤ (j 1).val ∧ ((j 1).val - 0) % (0 + 1) = 0 ∧ ((j 1).val - 0) / (0 + 1) < 1)
  omega

/-- The gate gradients of branch 1 in their place. -/
theorem in1 (j : Cert.Reference12Ideal.S2048x3x1024.Idx) (h : (j 1).val = 1) : Cert.Reference12Ideal.Read.val_main_v34 (F := Ideal) (m ((c.tc : Thread nD τ).loc main_arg1)) (m ((c.tc : Thread nD τ).loc main_arg4)) (m ((c.tc : Thread nD τ).loc main_arg7)) (m ((c.tc : Thread nD τ).loc main_arg8)) j = dmV m c (j 0) (j 2) * brV m c 1 (j 0) (j 2) := by
  unfold Cert.Reference12Ideal.Read.val_main_v34
  refine (pad_apply_of_inside _ _ _ _ _ _ _ j (mid j) fun a => ?_).trans ?_
  · match a with
    | ⟨0, _⟩ => show (j 0).val = 0 + (j 0).val * (0 + 1); omega
    | ⟨1, _⟩ => show (j 1).val = 1 + 0 * (0 + 1); omega
    | ⟨2, _⟩ => show (j 2).val = 0 + (j 2).val * (0 + 1); omega
  · rw [Cert.Reference12Ideal.Read.val_main_v33_apply, ref_dgate1]
    rfl

/-- And zeros elsewhere. -/
theorem off1 (j : Cert.Reference12Ideal.S2048x3x1024.Idx) (h : (j 1).val ≠ 1) : Cert.Reference12Ideal.Read.val_main_v34 (F := Ideal) (m ((c.tc : Thread nD τ).loc main_arg1)) (m ((c.tc : Thread nD τ).loc main_arg4)) (m ((c.tc : Thread nD τ).loc main_arg7)) (m ((c.tc : Thread nD τ).loc main_arg8)) j = 0 := by
  unfold Cert.Reference12Ideal.Read.val_main_v34
  have h1 : (j 1).val < 3 := (j 1).isLt
  refine (pad_apply_of_not_inside _ _ _ _ _ _ _ j 1 ?_).trans ofBits_zero
  show ¬(1 ≤ (j 1).val ∧ ((j 1).val - 1) % (0 + 1) = 0 ∧ ((j 1).val - 1) / (0 + 1) < 1)
  omega

/-- The gate gradients of branch 2 in their place. -/
theorem in2 (j : Cert.Reference12Ideal.S2048x3x1024.Idx) (h : (j 1).val = 2) : Cert.Reference12Ideal.Read.val_main_v30 (F := Ideal) (m ((c.tc : Thread nD τ).loc main_arg2)) (m ((c.tc : Thread nD τ).loc main_arg5)) (m ((c.tc : Thread nD τ).loc main_arg7)) (m ((c.tc : Thread nD τ).loc main_arg8)) j = dmV m c (j 0) (j 2) * brV m c 2 (j 0) (j 2) := by
  unfold Cert.Reference12Ideal.Read.val_main_v30
  refine (pad_apply_of_inside _ _ _ _ _ _ _ j (mid j) fun a => ?_).trans ?_
  · match a with
    | ⟨0, _⟩ => show (j 0).val = 0 + (j 0).val * (0 + 1); omega
    | ⟨1, _⟩ => show (j 1).val = 2 + 0 * (0 + 1); omega
    | ⟨2, _⟩ => show (j 2).val = 0 + (j 2).val * (0 + 1); omega
  · rw [Cert.Reference12Ideal.Read.val_main_v29_apply, ref_dgate2]
    rfl

/-- And zeros elsewhere. -/
theorem off2 (j : Cert.Reference12Ideal.S2048x3x1024.Idx) (h : (j 1).val ≠ 2) : Cert.Reference12Ideal.Read.val_main_v30 (F := Ideal) (m ((c.tc : Thread nD τ).loc main_arg2)) (m ((c.tc : Thread nD τ).loc main_arg5)) (m ((c.tc : Thread nD τ).loc main_arg7)) (m ((c.tc : Thread nD τ).loc main_arg8)) j = 0 := by
  unfold Cert.Reference12Ideal.Read.val_main_v30
  have h1 : (j 1).val < 3 := (j 1).isLt
  refine (pad_apply_of_not_inside _ _ _ _ _ _ _ j 1 ?_).trans ofBits_zero
  show ¬(2 ≤ (j 1).val ∧ ((j 1).val - 2) % (0 + 1) = 0 ∧ ((j 1).val - 2) / (0 + 1) < 1)
  omega

theorem ref_sum (j : Cert.Reference12Ideal.S2048x3x1024.Idx) : ∀ b : Fin 3, (j 1).val = b.val → Cert.Reference12Ideal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) j = dmV m c (j 0) (j 2) * brV m c b (j 0) (j 2)
  | 0, h => by
    have h : (j 1).val = 0 := h
    rw [Cert.Reference12Ideal.Read.val_main_v40_apply, Cert.Reference12Ideal.Read.val_main_v35_apply, in0 m c j h, off1 m c j (by omega), off2 m c j (by omega)]
    show (0 : EReal) + 0 + _ = _
    rw [zero_add, zero_add]
  | 1, h => by
    have h : (j 1).val = 1 := h
    rw [Cert.Reference12Ideal.Read.val_main_v40_apply, Cert.Reference12Ideal.Read.val_main_v35_apply, in1 m c j h, off0 m c j (by omega), off2 m c j (by omega)]
    show (0 : EReal) + _ + 0 = _
    rw [zero_add, add_zero]
  | 2, h => by
    have h : (j 1).val = 2 := h
    rw [Cert.Reference12Ideal.Read.val_main_v40_apply, Cert.Reference12Ideal.Read.val_main_v35_apply, in2 m c j h, off0 m c j (by omega), off1 m c j (by omega)]
    show _ + (0 : EReal) + 0 = _
    rw [add_zero, add_zero]

theorem ref_out (i : S2048x3072.Idx) : Cert.Reference12Ideal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i = gateAt m c (i 0) (i 1) := by
  have h1 : (i 1).val < 3072 := (i 1).isLt
  rw [Cert.Reference12Ideal.Read.val_main_v51_apply, Cert.Reference12Ideal.Read.val_main_v50_apply, Cert.Reference12Ideal.Read.val_main_v10_apply, Cert.Reference12Ideal.Read.val_main_v9_apply, Cert.Reference12Ideal.Read.val_main_v8_apply, Cert.Reference12Ideal.Read.val_main_cst_1_apply, ofBits_one, ref_gate, ref_sum m c _ (Cert.Reference12Ideal.Read.idx_main_v51 i 1) rfl]
  have e0 : Cert.Reference12Ideal.Read.idx_main_v51 i 0 = i 0 := Fin.ext (by show ((i 0).val * 3072 + (i 1).val) / 3072 = (i 0).val; omega)
  have e1 : Cert.Reference12Ideal.Read.idx_main_v51 i 1 = (⟨(i 1).val / 1024, by omega⟩ : Fin 3) := Fin.ext (by show ((i 0).val * 3072 + (i 1).val) / 1024 % 3 = (i 1).val / 1024; omega)
  have e2 : Cert.Reference12Ideal.Read.idx_main_v51 i 2 = (⟨(i 1).val % 1024, by omega⟩ : Fin 1024) := Fin.ext (by show ((i 0).val * 3072 + (i 1).val) % 1024 = (i 1).val % 1024; omega)
  rw [e0, e1, e2]
  exact (mul_assoc _ _ _).symm

/-- Window 0's block. -/
def o0B (t : Fin cfg0.N) : S256x512.Idx → EReal := iblk m c 0 t

theorem o0B_eq (t : Fin cfg0.N) (y : S256x512.Idx) (i : S2048x512.Idx) (h0 : (i 0).val = 256 * t.val + (y 0).val) (h1 : (i 1).val = (y 1).val) : o0B m c t y = oA m c 0 i := by
  show V m c main_v0 (((cfg0.win 0).blk t).view.emb y) = _
  rw [host_v0]
  refine congrArg (oA m c 0) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 1's block. -/
def o1B (t : Fin cfg0.N) : S256x512.Idx → EReal := iblk m c 1 t

theorem o1B_eq (t : Fin cfg0.N) (y : S256x512.Idx) (i : S2048x512.Idx) (h0 : (i 0).val = 256 * t.val + (y 0).val) (h1 : (i 1).val = (y 1).val) : o1B m c t y = oA m c 1 i := by
  show V m c main_v1 (((cfg0.win 1).blk t).view.emb y) = _
  rw [host_v1]
  refine congrArg (oA m c 1) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 2's block. -/
def o2B (t : Fin cfg0.N) : S256x512.Idx → EReal := iblk m c 2 t

theorem o2B_eq (t : Fin cfg0.N) (y : S256x512.Idx) (i : S2048x512.Idx) (h0 : (i 0).val = 256 * t.val + (y 0).val) (h1 : (i 1).val = (y 1).val) : o2B m c t y = oA m c 2 i := by
  show V m c main_v2 (((cfg0.win 2).blk t).view.emb y) = _
  rw [host_v2]
  refine congrArg (oA m c 2) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 3's block. -/
def w0B (t : Fin cfg0.N) : S512x1024.Idx → EReal := iblk m c 3 t

theorem w0B_eq (t : Fin cfg0.N) (y : S512x1024.Idx) (i : S512x1024.Idx) (h0 : (i 0).val = (y 0).val) (h1 : (i 1).val = (y 1).val) : w0B m c t y = wA m c 0 i := by
  show V m c main_v3 (((cfg0.win 3).blk t).view.emb y) = _
  rw [host_v3]
  refine congrArg (wA m c 0) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 4's block. -/
def w1B (t : Fin cfg0.N) : S512x1024.Idx → EReal := iblk m c 4 t

theorem w1B_eq (t : Fin cfg0.N) (y : S512x1024.Idx) (i : S512x1024.Idx) (h0 : (i 0).val = (y 0).val) (h1 : (i 1).val = (y 1).val) : w1B m c t y = wA m c 1 i := by
  show V m c main_v4 (((cfg0.win 4).blk t).view.emb y) = _
  rw [host_v4]
  refine congrArg (wA m c 1) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 5's block. -/
def w2B (t : Fin cfg0.N) : S512x1024.Idx → EReal := iblk m c 5 t

theorem w2B_eq (t : Fin cfg0.N) (y : S512x1024.Idx) (i : S512x1024.Idx) (h0 : (i 0).val = (y 0).val) (h1 : (i 1).val = (y 1).val) : w2B m c t y = wA m c 2 i := by
  show V m c main_v5 (((cfg0.win 5).blk t).view.emb y) = _
  rw [host_v5]
  refine congrArg (wA m c 2) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 6's block. -/
def z0B (t : Fin cfg0.N) : S256x1024.Idx → EReal := X0_6 m c t

theorem z0B_eq (t : Fin cfg0.N) (y : S256x1024.Idx) (i : S2048x6912.Idx) (h0 : (i 0).val = 256 * t.val + (y 0).val) (h1 : (i 1).val = 1024 * 0 + (y 1).val) : z0B m c t y = zA m c i := by
  show X0_6 m c t y = _
  unfold X0_6 Pipeline.Window.fill
  rw [dif_pos (moved0_6 t y)]
  show V m c main_arg6 (((cfg0.win 6).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 7's block. -/
def z1B (t : Fin cfg0.N) : S256x1024.Idx → EReal := X0_7 m c t

theorem z1B_eq (t : Fin cfg0.N) (y : S256x1024.Idx) (i : S2048x6912.Idx) (h0 : (i 0).val = 256 * t.val + (y 0).val) (h1 : (i 1).val = 1024 * 1 + (y 1).val) : z1B m c t y = zA m c i := by
  show X0_7 m c t y = _
  unfold X0_7 Pipeline.Window.fill
  rw [dif_pos (moved0_7 t y)]
  show V m c main_arg6 (((cfg0.win 7).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 8's block. -/
def z2B (t : Fin cfg0.N) : S256x1024.Idx → EReal := X0_8 m c t

theorem z2B_eq (t : Fin cfg0.N) (y : S256x1024.Idx) (i : S2048x6912.Idx) (h0 : (i 0).val = 256 * t.val + (y 0).val) (h1 : (i 1).val = 1024 * 2 + (y 1).val) : z2B m c t y = zA m c i := by
  show X0_8 m c t y = _
  unfold X0_8 Pipeline.Window.fill
  rw [dif_pos (moved0_8 t y)]
  show V m c main_arg6 (((cfg0.win 8).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 9's block. -/
def dxB (t : Fin cfg0.N) : S256x1024.Idx → EReal := iblk m c 9 t

theorem dxB_eq (t : Fin cfg0.N) (y : S256x1024.Idx) (i : S2048x1024.Idx) (h0 : (i 0).val = 256 * t.val + (y 0).val) (h1 : (i 1).val = (y 1).val) : dxB m c t y = dxA m c i := by
  show V m c main_arg7 (((cfg0.win 9).blk t).view.emb y) = _
  rw [V_main_arg7]
  refine congrArg (dxA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 10's block. -/
def woB (t : Fin cfg0.N) : S1024x1024.Idx → EReal := iblk m c 10 t

theorem woB_eq (t : Fin cfg0.N) (y : S1024x1024.Idx) (i : S1024x1024.Idx) (h0 : (i 0).val = (y 0).val) (h1 : (i 1).val = (y 1).val) : woB m c t y = woA m c i := by
  show V m c main_v6 (((cfg0.win 10).blk t).view.emb y) = _
  rw [host_v6]
  refine congrArg (woA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- A sum over the rows, one point's rows after another's. -/
theorem points (f : Fin 2048 → EReal) (u : Fin cfg0.N → EReal) (h0 : ∀ t, t.val = 0 → u t = ∑ a : Fin 256, f (row t a))
    (hs : ∀ t s : Fin cfg0.N, t.val = s.val + 1 → u t = u s + ∑ a : Fin 256, f (row t a)) (t : Fin cfg0.N) (h : t.val = 7) : u t = ∑ r : Fin 2048, f r := by
  have hN : cfg0.N = 8 := N_0
  have e : t = ⟨7, by omega⟩ := Fin.ext h
  rw [e]
  exact eighths f (fun n hn => u ⟨n, by omega⟩) (h0 ⟨0, by omega⟩ rfl) (fun n hn => hs ⟨n + 1, by omega⟩ ⟨n, by omega⟩ rfl)

theorem same (n k : Nat) (hn : n < cfg0.N) (hk : k < cfg0.N) (h : n = k) : outsAt0 m c n hn = outsAt0 m c k hk := by
  subst h
  rfl

theorem dm_eq (t : Fin cfg0.N) (y : S256x1024.Idx) : k0_pay3 (F := Ideal) (dxB m c t) (woB m c t) y = dmV m c (row t (y 0)) (y 1) :=
  (pay3 (dxB m c t) (woB m c t) y).trans (Finset.sum_congr rfl fun q _ => congrArg₂ (· * ·) (dxB_eq m c t _ _ rfl rfl) (woB_eq m c t _ _ rfl rfl))

theorem sg0_eq (t : Fin cfg0.N) (y : S256x1024.Idx) : Ideal.logistic (z0B m c t y) = sgV m c 0 (row t (y 0)) (y 1) :=
  congrArg Ideal.logistic (z0B_eq m c t y _ rfl rfl)

theorem gate0_eq (t : Fin cfg0.N) (y : S256x1024.Idx) : k0_pay5 (F := Ideal) (dxB m c t) (woB m c t) (z0B m c t) (o0B m c t) (w0B m c t) y = gateV m c 0 (row t (y 0)) (y 1) := by
  refine (gate0 (dxB m c t) (woB m c t) (z0B m c t) (o0B m c t) (w0B m c t) y).trans ?_
  rw [sg0_eq, dm_eq]
  exact congrArg (· * sgV m c 0 (row t (y 0)) (y 1) * (1 - sgV m c 0 (row t (y 0)) (y 1))) (congrArg (dmV m c (row t (y 0)) (y 1) * ·)
    (Finset.sum_congr rfl fun k _ => congrArg₂ (· * ·) (o0B_eq m c t _ _ rfl rfl) (w0B_eq m c t _ _ rfl rfl)))

theorem branch0_eq (t : Fin cfg0.N) (y : S256x1024.Idx) : k0_pay6 (F := Ideal) (dxB m c t) (woB m c t) (z0B m c t) y = dbrV m c 0 (row t (y 0)) (y 1) := by
  refine (branch0 (dxB m c t) (woB m c t) (z0B m c t) y).trans ?_
  rw [sg0_eq, dm_eq]
  rfl

theorem rows0_eq (t : Fin cfg0.N) (y : S256x512.Idx) : k0_pay7 (F := Ideal) (dxB m c t) (woB m c t) (z0B m c t) (w0B m c t) y = doV m c 0 (row t (y 0)) (y 1) :=
  (rows0 (dxB m c t) (woB m c t) (z0B m c t) (w0B m c t) y).trans (Finset.sum_congr rfl fun q _ => congrArg₂ (· * ·) (branch0_eq m c t _) (w0B_eq m c t _ _ rfl rfl))

theorem share0_eq (t : Fin cfg0.N) (y : S512x1024.Idx) : (∑ r : Fin 256, o0B m c t (ix2 r (y 0)) * k0_pay6 (F := Ideal) (dxB m c t) (woB m c t) (z0B m c t) (ix2 r (y 1)))
    = ∑ a : Fin 256, oA m c 0 (ix2 (row t a) (y 0)) * dbrV m c 0 (row t a) (y 1) :=
  Finset.sum_congr rfl fun r _ => congrArg₂ (· * ·) (o0B_eq m c t _ _ rfl rfl) (branch0_eq m c t _)

theorem sg1_eq (t : Fin cfg0.N) (y : S256x1024.Idx) : Ideal.logistic (z1B m c t y) = sgV m c 1 (row t (y 0)) (y 1) :=
  congrArg Ideal.logistic (z1B_eq m c t y _ rfl rfl)

theorem gate1_eq (t : Fin cfg0.N) (y : S256x1024.Idx) : k0_pay11 (F := Ideal) (k0_pay3 (F := Ideal) (dxB m c t) (woB m c t)) (z1B m c t) (o1B m c t) (w1B m c t) y = gateV m c 1 (row t (y 0)) (y 1) := by
  refine (gate1 (k0_pay3 (F := Ideal) (dxB m c t) (woB m c t)) (z1B m c t) (o1B m c t) (w1B m c t) y).trans ?_
  rw [sg1_eq, dm_eq]
  exact congrArg (· * sgV m c 1 (row t (y 0)) (y 1) * (1 - sgV m c 1 (row t (y 0)) (y 1))) (congrArg (dmV m c (row t (y 0)) (y 1) * ·)
    (Finset.sum_congr rfl fun k _ => congrArg₂ (· * ·) (o1B_eq m c t _ _ rfl rfl) (w1B_eq m c t _ _ rfl rfl)))

theorem branch1_eq (t : Fin cfg0.N) (y : S256x1024.Idx) : k0_pay12 (F := Ideal) (k0_pay3 (F := Ideal) (dxB m c t) (woB m c t)) (z1B m c t) y = dbrV m c 1 (row t (y 0)) (y 1) := by
  refine (branch1 (k0_pay3 (F := Ideal) (dxB m c t) (woB m c t)) (z1B m c t) y).trans ?_
  rw [sg1_eq, dm_eq]
  rfl

theorem rows1_eq (t : Fin cfg0.N) (y : S256x512.Idx) : k0_pay13 (F := Ideal) (k0_pay3 (F := Ideal) (dxB m c t) (woB m c t)) (z1B m c t) (w1B m c t) y = doV m c 1 (row t (y 0)) (y 1) :=
  (rows1 (k0_pay3 (F := Ideal) (dxB m c t) (woB m c t)) (z1B m c t) (w1B m c t) y).trans (Finset.sum_congr rfl fun q _ => congrArg₂ (· * ·) (branch1_eq m c t _) (w1B_eq m c t _ _ rfl rfl))

theorem share1_eq (t : Fin cfg0.N) (y : S512x1024.Idx) : (∑ r : Fin 256, o1B m c t (ix2 r (y 0)) * k0_pay12 (F := Ideal) (k0_pay3 (F := Ideal) (dxB m c t) (woB m c t)) (z1B m c t) (ix2 r (y 1)))
    = ∑ a : Fin 256, oA m c 1 (ix2 (row t a) (y 0)) * dbrV m c 1 (row t a) (y 1) :=
  Finset.sum_congr rfl fun r _ => congrArg₂ (· * ·) (o1B_eq m c t _ _ rfl rfl) (branch1_eq m c t _)

theorem sg2_eq (t : Fin cfg0.N) (y : S256x1024.Idx) : Ideal.logistic (z2B m c t y) = sgV m c 2 (row t (y 0)) (y 1) :=
  congrArg Ideal.logistic (z2B_eq m c t y _ rfl rfl)

theorem gate2_eq (t : Fin cfg0.N) (y : S256x1024.Idx) : k0_pay17 (F := Ideal) (k0_pay3 (F := Ideal) (dxB m c t) (woB m c t)) (z2B m c t) (o2B m c t) (w2B m c t) y = gateV m c 2 (row t (y 0)) (y 1) := by
  refine (gate2 (k0_pay3 (F := Ideal) (dxB m c t) (woB m c t)) (z2B m c t) (o2B m c t) (w2B m c t) y).trans ?_
  rw [sg2_eq, dm_eq]
  exact congrArg (· * sgV m c 2 (row t (y 0)) (y 1) * (1 - sgV m c 2 (row t (y 0)) (y 1))) (congrArg (dmV m c (row t (y 0)) (y 1) * ·)
    (Finset.sum_congr rfl fun k _ => congrArg₂ (· * ·) (o2B_eq m c t _ _ rfl rfl) (w2B_eq m c t _ _ rfl rfl)))

theorem branch2_eq (t : Fin cfg0.N) (y : S256x1024.Idx) : k0_pay18 (F := Ideal) (k0_pay3 (F := Ideal) (dxB m c t) (woB m c t)) (z2B m c t) y = dbrV m c 2 (row t (y 0)) (y 1) := by
  refine (branch2 (k0_pay3 (F := Ideal) (dxB m c t) (woB m c t)) (z2B m c t) y).trans ?_
  rw [sg2_eq, dm_eq]
  rfl

theorem rows2_eq (t : Fin cfg0.N) (y : S256x512.Idx) : k0_pay19 (F := Ideal) (k0_pay3 (F := Ideal) (dxB m c t) (woB m c t)) (z2B m c t) (w2B m c t) y = doV m c 2 (row t (y 0)) (y 1) :=
  (rows2 (k0_pay3 (F := Ideal) (dxB m c t) (woB m c t)) (z2B m c t) (w2B m c t) y).trans (Finset.sum_congr rfl fun q _ => congrArg₂ (· * ·) (branch2_eq m c t _) (w2B_eq m c t _ _ rfl rfl))

theorem share2_eq (t : Fin cfg0.N) (y : S512x1024.Idx) : (∑ r : Fin 256, o2B m c t (ix2 r (y 0)) * k0_pay18 (F := Ideal) (k0_pay3 (F := Ideal) (dxB m c t) (woB m c t)) (z2B m c t) (ix2 r (y 1)))
    = ∑ a : Fin 256, oA m c 2 (ix2 (row t a) (y 0)) * dbrV m c 2 (row t a) (y 1) :=
  Finset.sum_congr rfl fun r _ => congrArg₂ (· * ·) (o2B_eq m c t _ _ rfl rfl) (branch2_eq m c t _)

/-- What each point leaves in the block of the gates' gradients. -/
theorem after_gate (t : Fin cfg0.N) (y : S256x3072.Idx) : (outsAt0 m c t.val t.isLt).1 y = gateAt m c (row t (y 0)) (y 1) := by
  have h8 := lt8 t
  by_cases h : t.val = 0
  · skip
    rw [outsAt0_A m c t (by omega) (by omega) (by omega) (by omega) (by omega) (by omega)]
    dsimp only
    refine out_A_11 (y := y) (v := gateAt m c (row t (y 0)) (y 1)) (p0 := ?_) (p1 := ?_) (p2 := ?_) ..
    · intro x e0 e1
      refine (gate0_eq m c t x).trans ?_
      rw [show (x 0) = (y 0) from Fin.ext e0.symm]
      exact (gateAt_eq m c _ _ 0 (x 1) (e1.trans (Nat.zero_add _).symm)).symm
    · intro x e0 e1
      refine (gate1_eq m c t x).trans ?_
      rw [show (x 0) = (y 0) from Fin.ext e0.symm]
      exact (gateAt_eq m c _ _ 1 (x 1) e1).symm
    · intro x e0 e1
      refine (gate2_eq m c t x).trans ?_
      rw [show (x 0) = (y 0) from Fin.ext e0.symm]
      exact (gateAt_eq m c _ _ 2 (x 1) e1).symm
  · skip
    rw [outsAt0_B m c t (by omega) (by omega) (by omega) (by omega) (by omega) (by omega)]
    dsimp only
    refine out_B_11 (y := y) (v := gateAt m c (row t (y 0)) (y 1)) (p0 := ?_) (p1 := ?_) (p2 := ?_) ..
    · intro x e0 e1
      refine (gate0_eq m c t x).trans ?_
      rw [show (x 0) = (y 0) from Fin.ext e0.symm]
      exact (gateAt_eq m c _ _ 0 (x 1) (e1.trans (Nat.zero_add _).symm)).symm
    · intro x e0 e1
      refine (gate1_eq m c t x).trans ?_
      rw [show (x 0) = (y 0) from Fin.ext e0.symm]
      exact (gateAt_eq m c _ _ 1 (x 1) e1).symm
    · intro x e0 e1
      refine (gate2_eq m c t x).trans ?_
      rw [show (x 0) = (y 0) from Fin.ext e0.symm]
      exact (gateAt_eq m c _ _ 2 (x 1) e1).symm

theorem after_rows0 (t : Fin cfg0.N) (y : S256x512.Idx) : (outsAt0 m c t.val t.isLt).2.2.2.2.1 y = doV m c 0 (row t (y 0)) (y 1) := by
  have h8 := lt8 t
  by_cases h : t.val = 0
  · rw [outsAt0_A m c t (by omega) (by omega) (by omega) (by omega) (by omega) (by omega)]
    dsimp only
    rw [out_A_15]
    exact rows0_eq m c t y
  · rw [outsAt0_B m c t (by omega) (by omega) (by omega) (by omega) (by omega) (by omega)]
    dsimp only
    rw [out_B_15]
    exact rows0_eq m c t y

/-- The gradient of branch 0's weights, summed over the points. -/
theorem total0 (t : Fin cfg0.N) (h : t.val = 7) (y : S512x1024.Idx) : (outsAt0 m c t.val t.isLt).2.1 y = dwV m c 0 y := by
  refine points (fun r => oA m c 0 (ix2 r (y 0)) * dbrV m c 0 r (y 1)) (fun t => (outsAt0 m c t.val t.isLt).2.1 y) (fun t h0 => ?_) (fun t s h0 => ?_) t h
  · have h8 := lt8 t
    show (outsAt0 m c t.val t.isLt).2.1 y = _
    rw [outsAt0_A m c t (by omega) (by omega) (by omega) (by omega) (by omega) (by omega)]
    dsimp only
    rw [out_A_12]
    exact (share0 _ (o0B m c t) y).trans (share0_eq m c t y)
  · have h8 := lt8 t
    show (outsAt0 m c t.val t.isLt).2.1 y = (outsAt0 m c s.val s.isLt).2.1 y + _
    rw [outsAt0_B m c t (by omega) (by omega) (by omega) (by omega) (by omega) (by omega)]
    dsimp only
    rw [out_B_12, same m c (t.val - 1) s.val _ s.isLt (by omega)]
    exact (added0 _ (o0B m c t) _ y).trans (congrArg₂ (· + ·) rfl (share0_eq m c t y))

/-- The gradient of branch 0's weights once every block is written back. -/
theorem arr_weights0 : (dats m 0 c).arrAt 12 cfg0.N = dwV m c 0 := by
  refine (dats m 0 c).arrAt_eq_of_cover 12 (dwV m c 0) (fun t hf => ?_) (fun i => ?_)
  · have h8 := lt8 t
    have h : t.val % 8 = 7 := (flush0_12 t).mp hf
    have h7 : t.val = 7 := by omega
    funext y
    show (cfg0.win 12).cut (grid0.coords t) ((dats m 0 c).after 12 t) y = dwV m c 0 (((cfg0.win 12).blk t).view.emb y)
    rw [after0_12]
    refine (total0 m c t h7 y).trans (congrArg (dwV m c 0) (funext fun a => Fin.ext ?_))
    match a with
    | ⟨0, _⟩ =>
      refine Eq.symm ?_
      blk_simp [idx t]
      try first | done | rfl | omega
    | ⟨1, _⟩ =>
      refine Eq.symm ?_
      blk_simp [idx t]
      try first | done | rfl | omega
  · have hi0 : (i 0).val < 512 := (i 0).isLt
    have hi1 : (i 1).val < 1024 := (i 1).isLt
    have hN : cfg0.N = 8 := N_0
    refine ⟨⟨7, by omega⟩, (flush0_12 _).mpr (by show 7 % 8 = 7; rfl), ?_⟩
    set t : Fin cfg0.N := ⟨7, by omega⟩ with ht
    refine ((cfg0.win 12).emb_mem_blk_iff t i).mpr fun a => ?_
    show win0_12.index t a * S512x1024.size a ≤ (i a).val ∧ (i a).val < win0_12.index t a * S512x1024.size a + S512x1024.size a
    rw [(idx t).2.2.2.2.2.2.2.2.2.2.2.2.1]
    match a with
    | ⟨0, _⟩ =>
      show 0 * 512 ≤ (i 0).val ∧ (i 0).val < 0 * 512 + 512
      omega
    | ⟨1, _⟩ =>
      show 0 * 1024 ≤ (i 1).val ∧ (i 1).val < 0 * 1024 + 1024
      omega

/-- The gradient of branch 0's rows once every block is written back. -/
theorem arr_rows0 : (dats m 0 c).arrAt 15 cfg0.N = fun i : S2048x512.Idx => doV m c 0 (i 0) (i 1) := by
  refine (dats m 0 c).arrAt_eq_of_cover 15 (fun i : S2048x512.Idx => doV m c 0 (i 0) (i 1)) (fun t _ => ?_) (fun i => ?_)
  · funext y
    show (cfg0.win 15).cut (grid0.coords t) ((dats m 0 c).after 15 t) y = doV m c 0 ((((cfg0.win 15).blk t).view.emb y) 0) ((((cfg0.win 15).blk t).view.emb y) 1)
    rw [after0_15]
    refine (after_rows0 m c t y).trans (congrArg₂ (doV m c 0) (Fin.ext (Eq.symm ?_)) (Fin.ext (Eq.symm ?_)))
    · show _ = 256 * t.val + (y 0).val
      blk_simp [idx t]
      try first | done | rfl | exact congrArg (· + _) (Nat.mul_comm _ _) | omega
    · blk_simp [idx t]
      try first | done | rfl | omega
  · have hi0 : (i 0).val < 2048 := (i 0).isLt
    have hi1 : (i 1).val < 512 := (i 1).isLt
    have hN : cfg0.N = 8 := N_0
    refine ⟨⟨(i 0).val / 256, by omega⟩, flush0_15 _, ?_⟩
    set t : Fin cfg0.N := ⟨(i 0).val / 256, by omega⟩ with ht
    have tv : t.val = (i 0).val / 256 := rfl
    refine ((cfg0.win 15).emb_mem_blk_iff t i).mpr fun a => ?_
    show win0_15.index t a * S256x512.size a ≤ (i a).val ∧ (i a).val < win0_15.index t a * S256x512.size a + S256x512.size a
    rw [(idx t).2.2.2.2.2.2.2.2.2.2.2.2.2.2.2.1]
    match a with
    | ⟨0, _⟩ =>
      show t.val * 256 ≤ (i 0).val ∧ (i 0).val < t.val * 256 + 256
      omega
    | ⟨1, _⟩ =>
      show 0 * 512 ≤ (i 1).val ∧ (i 1).val < 0 * 512 + 512
      omega

theorem after_rows1 (t : Fin cfg0.N) (y : S256x512.Idx) : (outsAt0 m c t.val t.isLt).2.2.2.2.2.1 y = doV m c 1 (row t (y 0)) (y 1) := by
  have h8 := lt8 t
  by_cases h : t.val = 0
  · rw [outsAt0_A m c t (by omega) (by omega) (by omega) (by omega) (by omega) (by omega)]
    dsimp only
    rw [out_A_16]
    exact rows1_eq m c t y
  · rw [outsAt0_B m c t (by omega) (by omega) (by omega) (by omega) (by omega) (by omega)]
    dsimp only
    rw [out_B_16]
    exact rows1_eq m c t y

/-- The gradient of branch 1's weights, summed over the points. -/
theorem total1 (t : Fin cfg0.N) (h : t.val = 7) (y : S512x1024.Idx) : (outsAt0 m c t.val t.isLt).2.2.1 y = dwV m c 1 y := by
  refine points (fun r => oA m c 1 (ix2 r (y 0)) * dbrV m c 1 r (y 1)) (fun t => (outsAt0 m c t.val t.isLt).2.2.1 y) (fun t h0 => ?_) (fun t s h0 => ?_) t h
  · have h8 := lt8 t
    show (outsAt0 m c t.val t.isLt).2.2.1 y = _
    rw [outsAt0_A m c t (by omega) (by omega) (by omega) (by omega) (by omega) (by omega)]
    dsimp only
    rw [out_A_13]
    exact (share1 _ (o1B m c t) y).trans (share1_eq m c t y)
  · have h8 := lt8 t
    show (outsAt0 m c t.val t.isLt).2.2.1 y = (outsAt0 m c s.val s.isLt).2.2.1 y + _
    rw [outsAt0_B m c t (by omega) (by omega) (by omega) (by omega) (by omega) (by omega)]
    dsimp only
    rw [out_B_13, same m c (t.val - 1) s.val _ s.isLt (by omega)]
    exact (added1 _ (o1B m c t) _ y).trans (congrArg₂ (· + ·) rfl (share1_eq m c t y))

/-- The gradient of branch 1's weights once every block is written back. -/
theorem arr_weights1 : (dats m 0 c).arrAt 13 cfg0.N = dwV m c 1 := by
  refine (dats m 0 c).arrAt_eq_of_cover 13 (dwV m c 1) (fun t hf => ?_) (fun i => ?_)
  · have h8 := lt8 t
    have h : t.val % 8 = 7 := (flush0_13 t).mp hf
    have h7 : t.val = 7 := by omega
    funext y
    show (cfg0.win 13).cut (grid0.coords t) ((dats m 0 c).after 13 t) y = dwV m c 1 (((cfg0.win 13).blk t).view.emb y)
    rw [after0_13]
    refine (total1 m c t h7 y).trans (congrArg (dwV m c 1) (funext fun a => Fin.ext ?_))
    match a with
    | ⟨0, _⟩ =>
      refine Eq.symm ?_
      blk_simp [idx t]
      try first | done | rfl | omega
    | ⟨1, _⟩ =>
      refine Eq.symm ?_
      blk_simp [idx t]
      try first | done | rfl | omega
  · have hi0 : (i 0).val < 512 := (i 0).isLt
    have hi1 : (i 1).val < 1024 := (i 1).isLt
    have hN : cfg0.N = 8 := N_0
    refine ⟨⟨7, by omega⟩, (flush0_13 _).mpr (by show 7 % 8 = 7; rfl), ?_⟩
    set t : Fin cfg0.N := ⟨7, by omega⟩ with ht
    refine ((cfg0.win 13).emb_mem_blk_iff t i).mpr fun a => ?_
    show win0_13.index t a * S512x1024.size a ≤ (i a).val ∧ (i a).val < win0_13.index t a * S512x1024.size a + S512x1024.size a
    rw [(idx t).2.2.2.2.2.2.2.2.2.2.2.2.2.1]
    match a with
    | ⟨0, _⟩ =>
      show 0 * 512 ≤ (i 0).val ∧ (i 0).val < 0 * 512 + 512
      omega
    | ⟨1, _⟩ =>
      show 0 * 1024 ≤ (i 1).val ∧ (i 1).val < 0 * 1024 + 1024
      omega

/-- The gradient of branch 1's rows once every block is written back. -/
theorem arr_rows1 : (dats m 0 c).arrAt 16 cfg0.N = fun i : S2048x512.Idx => doV m c 1 (i 0) (i 1) := by
  refine (dats m 0 c).arrAt_eq_of_cover 16 (fun i : S2048x512.Idx => doV m c 1 (i 0) (i 1)) (fun t _ => ?_) (fun i => ?_)
  · funext y
    show (cfg0.win 16).cut (grid0.coords t) ((dats m 0 c).after 16 t) y = doV m c 1 ((((cfg0.win 16).blk t).view.emb y) 0) ((((cfg0.win 16).blk t).view.emb y) 1)
    rw [after0_16]
    refine (after_rows1 m c t y).trans (congrArg₂ (doV m c 1) (Fin.ext (Eq.symm ?_)) (Fin.ext (Eq.symm ?_)))
    · show _ = 256 * t.val + (y 0).val
      blk_simp [idx t]
      try first | done | rfl | exact congrArg (· + _) (Nat.mul_comm _ _) | omega
    · blk_simp [idx t]
      try first | done | rfl | omega
  · have hi0 : (i 0).val < 2048 := (i 0).isLt
    have hi1 : (i 1).val < 512 := (i 1).isLt
    have hN : cfg0.N = 8 := N_0
    refine ⟨⟨(i 0).val / 256, by omega⟩, flush0_16 _, ?_⟩
    set t : Fin cfg0.N := ⟨(i 0).val / 256, by omega⟩ with ht
    have tv : t.val = (i 0).val / 256 := rfl
    refine ((cfg0.win 16).emb_mem_blk_iff t i).mpr fun a => ?_
    show win0_16.index t a * S256x512.size a ≤ (i a).val ∧ (i a).val < win0_16.index t a * S256x512.size a + S256x512.size a
    rw [(idx t).2.2.2.2.2.2.2.2.2.2.2.2.2.2.2.2.1]
    match a with
    | ⟨0, _⟩ =>
      show t.val * 256 ≤ (i 0).val ∧ (i 0).val < t.val * 256 + 256
      omega
    | ⟨1, _⟩ =>
      show 0 * 512 ≤ (i 1).val ∧ (i 1).val < 0 * 512 + 512
      omega

theorem after_rows2 (t : Fin cfg0.N) (y : S256x512.Idx) : (outsAt0 m c t.val t.isLt).2.2.2.2.2.2 y = doV m c 2 (row t (y 0)) (y 1) := by
  have h8 := lt8 t
  by_cases h : t.val = 0
  · rw [outsAt0_A m c t (by omega) (by omega) (by omega) (by omega) (by omega) (by omega)]
    dsimp only
    rw [out_A_17]
    exact rows2_eq m c t y
  · rw [outsAt0_B m c t (by omega) (by omega) (by omega) (by omega) (by omega) (by omega)]
    dsimp only
    rw [out_B_17]
    exact rows2_eq m c t y

/-- The gradient of branch 2's weights, summed over the points. -/
theorem total2 (t : Fin cfg0.N) (h : t.val = 7) (y : S512x1024.Idx) : (outsAt0 m c t.val t.isLt).2.2.2.1 y = dwV m c 2 y := by
  refine points (fun r => oA m c 2 (ix2 r (y 0)) * dbrV m c 2 r (y 1)) (fun t => (outsAt0 m c t.val t.isLt).2.2.2.1 y) (fun t h0 => ?_) (fun t s h0 => ?_) t h
  · have h8 := lt8 t
    show (outsAt0 m c t.val t.isLt).2.2.2.1 y = _
    rw [outsAt0_A m c t (by omega) (by omega) (by omega) (by omega) (by omega) (by omega)]
    dsimp only
    rw [out_A_14]
    exact (share2 _ (o2B m c t) y).trans (share2_eq m c t y)
  · have h8 := lt8 t
    show (outsAt0 m c t.val t.isLt).2.2.2.1 y = (outsAt0 m c s.val s.isLt).2.2.2.1 y + _
    rw [outsAt0_B m c t (by omega) (by omega) (by omega) (by omega) (by omega) (by omega)]
    dsimp only
    rw [out_B_14, same m c (t.val - 1) s.val _ s.isLt (by omega)]
    exact (added2 _ (o2B m c t) _ y).trans (congrArg₂ (· + ·) rfl (share2_eq m c t y))

/-- The gradient of branch 2's weights once every block is written back. -/
theorem arr_weights2 : (dats m 0 c).arrAt 14 cfg0.N = dwV m c 2 := by
  refine (dats m 0 c).arrAt_eq_of_cover 14 (dwV m c 2) (fun t hf => ?_) (fun i => ?_)
  · have h8 := lt8 t
    have h : t.val % 8 = 7 := (flush0_14 t).mp hf
    have h7 : t.val = 7 := by omega
    funext y
    show (cfg0.win 14).cut (grid0.coords t) ((dats m 0 c).after 14 t) y = dwV m c 2 (((cfg0.win 14).blk t).view.emb y)
    rw [after0_14]
    refine (total2 m c t h7 y).trans (congrArg (dwV m c 2) (funext fun a => Fin.ext ?_))
    match a with
    | ⟨0, _⟩ =>
      refine Eq.symm ?_
      blk_simp [idx t]
      try first | done | rfl | omega
    | ⟨1, _⟩ =>
      refine Eq.symm ?_
      blk_simp [idx t]
      try first | done | rfl | omega
  · have hi0 : (i 0).val < 512 := (i 0).isLt
    have hi1 : (i 1).val < 1024 := (i 1).isLt
    have hN : cfg0.N = 8 := N_0
    refine ⟨⟨7, by omega⟩, (flush0_14 _).mpr (by show 7 % 8 = 7; rfl), ?_⟩
    set t : Fin cfg0.N := ⟨7, by omega⟩ with ht
    refine ((cfg0.win 14).emb_mem_blk_iff t i).mpr fun a => ?_
    show win0_14.index t a * S512x1024.size a ≤ (i a).val ∧ (i a).val < win0_14.index t a * S512x1024.size a + S512x1024.size a
    rw [(idx t).2.2.2.2.2.2.2.2.2.2.2.2.2.2.1]
    match a with
    | ⟨0, _⟩ =>
      show 0 * 512 ≤ (i 0).val ∧ (i 0).val < 0 * 512 + 512
      omega
    | ⟨1, _⟩ =>
      show 0 * 1024 ≤ (i 1).val ∧ (i 1).val < 0 * 1024 + 1024
      omega

/-- The gradient of branch 2's rows once every block is written back. -/
theorem arr_rows2 : (dats m 0 c).arrAt 17 cfg0.N = fun i : S2048x512.Idx => doV m c 2 (i 0) (i 1) := by
  refine (dats m 0 c).arrAt_eq_of_cover 17 (fun i : S2048x512.Idx => doV m c 2 (i 0) (i 1)) (fun t _ => ?_) (fun i => ?_)
  · funext y
    show (cfg0.win 17).cut (grid0.coords t) ((dats m 0 c).after 17 t) y = doV m c 2 ((((cfg0.win 17).blk t).view.emb y) 0) ((((cfg0.win 17).blk t).view.emb y) 1)
    rw [after0_17]
    refine (after_rows2 m c t y).trans (congrArg₂ (doV m c 2) (Fin.ext (Eq.symm ?_)) (Fin.ext (Eq.symm ?_)))
    · show _ = 256 * t.val + (y 0).val
      blk_simp [idx t]
      try first | done | rfl | exact congrArg (· + _) (Nat.mul_comm _ _) | omega
    · blk_simp [idx t]
      try first | done | rfl | omega
  · have hi0 : (i 0).val < 2048 := (i 0).isLt
    have hi1 : (i 1).val < 512 := (i 1).isLt
    have hN : cfg0.N = 8 := N_0
    refine ⟨⟨(i 0).val / 256, by omega⟩, flush0_17 _, ?_⟩
    set t : Fin cfg0.N := ⟨(i 0).val / 256, by omega⟩ with ht
    have tv : t.val = (i 0).val / 256 := rfl
    refine ((cfg0.win 17).emb_mem_blk_iff t i).mpr fun a => ?_
    show win0_17.index t a * S256x512.size a ≤ (i a).val ∧ (i a).val < win0_17.index t a * S256x512.size a + S256x512.size a
    rw [(idx t).2.2.2.2.2.2.2.2.2.2.2.2.2.2.2.2.2]
    match a with
    | ⟨0, _⟩ =>
      show t.val * 256 ≤ (i 0).val ∧ (i 0).val < t.val * 256 + 256
      omega
    | ⟨1, _⟩ =>
      show 0 * 512 ≤ (i 1).val ∧ (i 1).val < 0 * 512 + 512
      omega

/-- The gates' gradients in the wide array; the columns past the gates are of no account. -/
def wide (i : S2048x6912.Idx) : EReal := if h : (i 1).val < 3072 then gateAt m c (i 0) ⟨(i 1).val, h⟩ else 0

theorem idx11 : ∀ t : Fin cfg0.N, win0_11.index t = ![t.val, 0] := (by decide +kernel : ∀ t : Fin grid0.N, _)

theorem start_row (t : Fin cfg0.N) : win0_11.kind.off (win0_11.index t 0) (win0_11.size 0) = 256 * t.val := by
  rw [idx11]
  exact Nat.mul_comm _ _

theorem start_col (t : Fin cfg0.N) : win0_11.kind.off (win0_11.index t 1) (win0_11.size 1) = 0 := by
  rw [idx11]
  exact Nat.zero_mul _

/-- Where an entry of a point's block of the gates' gradients lies in the wide array. -/
theorem place (t : Fin cfg0.N) (y : (win0_11.xblock (grid0.coords t)).Idx) (a : Fin win0_11.shape.rank) : (((win0_11.blk t).view.emb y) a).val = win0_11.kind.off (win0_11.index t a) (win0_11.size a) + (y a).val :=
  ValueKit.rect_emb_unit_val (fun a => win0_11.kind.off (win0_11.index t a) (win0_11.size a)) (win0_11.xsize (grid0.coords t)) _ y a

theorem place_row (t : Fin cfg0.N) (y : ((cfg0.win 11).xblock (grid0.coords t)).Idx) : ((((cfg0.win 11).blk t).view.emb y) 0).val = 256 * t.val + (y 0).val :=
  (place t y 0).trans (congrArg (· + (y 0).val) (start_row t))

theorem place_col (t : Fin cfg0.N) (y : ((cfg0.win 11).xblock (grid0.coords t)).Idx) : ((((cfg0.win 11).blk t).view.emb y) 1).val = (y 1).val :=
  (place t y 1).trans ((congrArg (· + (y 1).val) (start_col t)).trans (Nat.zero_add _))

theorem wide_at (j : S2048x6912.Idx) (r : Fin 2048) (q : Fin 3072) (h0 : (j 0).val = r.val) (h1 : (j 1).val = q.val) : gateAt m c r q = wide m c j := by
  have hq := q.isLt
  unfold wide
  rw [dif_pos (by omega)]
  exact congrArg₂ (gateAt m c) (Fin.ext h0.symm) (Fin.ext h1.symm)

/-- What a point writes back is its block of the wide array. -/
theorem flushed_gate (t : Fin cfg0.N) : (dats m 0 c).flushed 11 t = ((cfg0.win 11).blk t).view.read (Elt Ideal) (wide m c) := by
  funext y
  show (cfg0.win 11).cut (grid0.coords t) ((dats m 0 c).after 11 t) y = wide m c (((cfg0.win 11).blk t).view.emb y)
  rw [after0_11]
  exact (after_gate m c t ((cfg0.win 11).xinj (grid0.coords t) y)).trans (wide_at m c _ _ _ (place_row t y) (place_col t y))

/-- The gates' columns of the wide array once every block is written back. -/
theorem arr_gate (i : S2048x6912.Idx) (h : (i 1).val < 3072) : (dats m 0 c).arrAt 11 cfg0.N i = gateAt m c (i 0) ⟨(i 1).val, h⟩ := by
  have hi0 : (i 0).val < 2048 := (i 0).isLt
  have hN : cfg0.N = 8 := N_0
  refine ((dats m 0 c).arrAt_apply_of_mem 11 (wide m c) (fun t _ => flushed_gate m c t) cfg0.N ⟨(i 0).val / 256, by omega⟩ i (Fin.isLt _) (flush0_11 _) ?_).trans (dif_pos h)
  · set t : Fin cfg0.N := ⟨(i 0).val / 256, by omega⟩ with ht
    have tv : t.val = (i 0).val / 256 := rfl
    refine ((cfg0.win 11).emb_mem_blk_iff t i).mpr fun a => ?_
    show win0_11.index t a * S256x3072.size a ≤ (i a).val ∧ (i a).val < win0_11.index t a * S256x3072.size a + win0_11.xsize (grid0.coords t) a
    rw [(idx t).2.2.2.2.2.2.2.2.2.2.2.1, extent t a]
    match a with
    | ⟨0, _⟩ =>
      show t.val * 256 ≤ (i 0).val ∧ (i 0).val < t.val * 256 + 256
      omega
    | ⟨1, _⟩ =>
      show 0 * 3072 ≤ (i 1).val ∧ (i 1).val < 0 * 3072 + 3072
      omega

/-- Each window's array after the last point. -/
theorem at_end (w : Fin 18) : Pipeline.withArrays spec0 c (V0 m c) (fun w => (dats m 0 c).arrAt w cfg0.N) (Proc.devRef .tc (Pipeline.arrRef spec0 w)) = (dats m 0 c).arrAt w cfg0.N :=
  Pipeline.Dat.withArrays_arrAt (dats m 0 c) sharedIn0 (V0 m c) (A_eq m c) w

/-- The gates' columns as the host cuts them out. -/
theorem tail_gate : Pipeline.afterTail₀ cfgs (dats m) 0 (V0 m) [hostOps1] c main_v9 = fun i : S2048x3072.Idx => gateAt m c (i 0) (i 1) := by
  unfold Pipeline.afterTail₀
  simp only [hostOps1, List.flatten_cons, List.flatten_nil, List.append_nil]
  after_reads_simp
  funext i
  have h1 : (i 1).val < 3072 := (i 1).isLt
  refine (extractStridedSlice_apply _ _ slices_S2048x6912_S2048x3072_0_0 i (ix2 (i 0) ⟨(i 1).val, by omega⟩) fun a => ?_).trans
    ((congrFun (at_end m c 11) _).trans (arr_gate m c _ h1))
  match a with
  | ⟨0, _⟩ => exact (Nat.zero_add _).symm
  | ⟨1, _⟩ => exact (Nat.zero_add _).symm

/-- Both programs end with the gradients of the gates, of the branches' weights and of their rows. -/
theorem algebraic [hK : Cert.Kernel12Ideal.Facts] [hR : Cert.Reference12Ideal.Facts] : Cert.algebraic_Kernel12Ideal_Reference12Ideal := by
  intro m g m' g' _ hagree
  refine ⟨fun c => fun i : S2048x3072.Idx => gateAt m c (i 0) (i 1), fun c => dwV m c 0, fun c => dwV m c 1, fun c => dwV m c 2, fun c => fun i : S2048x512.Idx => doV m c 0 (i 0) (i 1), fun c => fun i : S2048x512.Idx => doV m c 1 (i 0) (i 1), fun c => fun i : S2048x512.Idx => doV m c 2 (i 0) (i 1), ?_, ?_⟩
  · refine (θ_run Cert.Kernel12Ideal.defs _ _).mono (fun r h c => ?_) (run_main m g)
    exact ⟨((h c).2 main_v9 (Pipeline.mem_restRefs_of main_v9 (by decide) (by decide))).trans (tail_gate m c),
      ((h c).1 12).trans (arr_weights0 m c), ((h c).1 13).trans (arr_weights1 m c), ((h c).1 14).trans (arr_weights2 m c),
      ((h c).1 15).trans (arr_rows0 m c), ((h c).1 16).trans (arr_rows1 m c), ((h c).1 17).trans (arr_rows2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 9).trans (((dats m 0 c).arrAt_in 9 rfl _).trans ((A_eq m c 9).trans (V_main_arg7 m c))),
      ((h c).2 main_arg8 (Pipeline.mem_restRefs_of main_arg8 (by decide) (by decide))).trans (W_main_arg8 m (dats m) c)⟩
  · refine (θ_run Cert.Reference12Ideal.defs _ _).mono (fun r h c => ?_) (Cert.Reference12Ideal.Value.run (F := Ideal) m' g')
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Cert.Reference12Ideal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact funext fun i => ref_out m c i
    · rw [Cert.Reference12Ideal.Read.val_main_v48_eq, (hagree c).1, (hagree c).2.2.2.2.2.2.1, (hagree c).2.2.2.2.2.2.2.1, (hagree c).2.2.2.2.2.2.2.2]
      exact funext fun i => ref_weights0 m c i
    · rw [Cert.Reference12Ideal.Read.val_main_v45_eq, (hagree c).2.1, (hagree c).2.2.2.2.2.2.1, (hagree c).2.2.2.2.2.2.2.1, (hagree c).2.2.2.2.2.2.2.2]
      exact funext fun i => ref_weights1 m c i
    · rw [Cert.Reference12Ideal.Read.val_main_v42_eq, (hagree c).2.2.1, (hagree c).2.2.2.2.2.2.1, (hagree c).2.2.2.2.2.2.2.1, (hagree c).2.2.2.2.2.2.2.2]
      exact funext fun i => ref_weights2 m c i
    · rw [Cert.Reference12Ideal.Read.val_main_v49_eq, (hagree c).2.2.2.1, (hagree c).2.2.2.2.2.2.1, (hagree c).2.2.2.2.2.2.2.1, (hagree c).2.2.2.2.2.2.2.2]
      exact funext fun i => ref_rows0 m c i
    · rw [Cert.Reference12Ideal.Read.val_main_v46_eq, (hagree c).2.2.2.2.1, (hagree c).2.2.2.2.2.2.1, (hagree c).2.2.2.2.2.2.2.1, (hagree c).2.2.2.2.2.2.2.2]
      exact funext fun i => ref_rows1 m c i
    · rw [Cert.Reference12Ideal.Read.val_main_v43_eq, (hagree c).2.2.2.2.2.1, (hagree c).2.2.2.2.2.2.1, (hagree c).2.2.2.2.2.2.2.1, (hagree c).2.2.2.2.2.2.2.2]
      exact funext fun i => ref_rows2 m c i

end Cert.GateBwd
-- ==== Proof.GateFwd.lean ====
/-
  The gated mixture: each branch's product with its weights times its gate, their sum's product with the output projection
  added to the residual rows, and those rows normalised.
-/
module

public import proofs.«01_k».proof.Proof.Gen.Kernel13Ideal.Frame
public import proofs.«01_k».proof.Proof.Gen.Reference13Ideal.Read
public import proofs.«01_k».proof.Defs
public import proofs.«01_k».proof.Proof.NormTail
public import proofs.«01_k».proof.Proof.Gate
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.GateFwd

open Cert.Kernel13Ideal Cert.Kernel13Ideal.Gen Idealize.ShloMosaic Idealize.ShloMosaic.TcCoe Idealize.SL.Sem

open Cert.NormTail Cert.Gate

variable (m : (l : Loc nD τ sig) → BufTy.Contents (Elt Ideal) l.ty) (c : Dev nD)

theorem hz : (![0, 0] : Fin 2 → Nat) = fun _ => 0 := funext fun a => by fin_cases a <;> rfl

/-- A block's merged branches: each branch's product times its gate. -/
def mergedB (o0 o1 o2 : S512x512.Idx → EReal) (w0 w1 w2 z0 z1 z2 : S512x1024.Idx → EReal) (y : S512x1024.Idx) : EReal :=
  Ideal.logistic (z0 y) * (∑ k : Fin 512, o0 (ix2 (y 0) k) * w0 (ix2 k (y 1))) + Ideal.logistic (z1 y) * (∑ k : Fin 512, o1 (ix2 (y 0) k) * w1 (ix2 k (y 1)))
    + Ideal.logistic (z2 y) * (∑ k : Fin 512, o2 (ix2 (y 0) k) * w2 (ix2 k (y 1)))

theorem pay4 (z0 z1 : Vec Ideal S512x1024 .f32) (o0 o1 : Vec Ideal S512x512 .bf16) (w0 w1 : Vec Ideal S512x1024 .bf16) (y : S512x1024.Idx) :
    k0_pay4 z0 o0 w0 z1 o1 w1 y = Ideal.logistic (z0 y) * (∑ k : Fin 512, o0 (ix2 (y 0) k) * w0 (ix2 k (y 1))) + Ideal.logistic (z1 y) * (∑ k : Fin 512, o1 (ix2 (y 0) k) * w1 (ix2 k (y 1))) := by
  rw [← of_sub, ← of_sub, ← ofBits_one, ← ofBits_zero]
  unfold k0_pay4
  pointwise

theorem pay5 (z : Vec Ideal S512x1024 .f32) (y : S512x1024.Idx) : k0_pay5 z y = 1 + Ideal.exp (0 - z y) := by
  rw [← ofBits_one, ← ofBits_zero]
  unfold k0_pay5
  pointwise

theorem pay1 (a b : FVec Ideal S512x1024 .f32) (o : Vec Ideal S512x512 .bf16) (w : Vec Ideal S512x1024 .bf16) (y : S512x1024.Idx) :
    k0_pay1 a b o w y = a y + Ideal.div 1 (b y) * (∑ k : Fin 512, o (ix2 (y 0) k) * w (ix2 k (y 1))) := by
  rw [← ofBits_one]
  unfold k0_pay1
  pointwise

/-- A block of the merged branches, entry by entry. -/
theorem merged (o0 o1 o2 : Vec Ideal S512x512 .bf16) (w0 w1 w2 : Vec Ideal S512x1024 .bf16) (z0 z1 z2 : Vec Ideal S512x1024 .f32) (y : S512x1024.Idx) :
    k0_pay1 (k0_pay4 z0 o0 w0 z1 o1 w1) (k0_pay5 z2) o2 w2 y = mergedB o0 o1 o2 w0 w1 w2 z0 z1 z2 y := by
  rw [pay1, pay4, pay5, of_sub]
  rfl

/-- A block of the rows after the residual addition, entry by entry. -/
theorem pay2 (a b : FVec Ideal S512x1024 .f32) (o : Vec Ideal S512x512 .bf16) (w : Vec Ideal S512x1024 .bf16) (x : Vec Ideal S512x1024 .f32) (wo : Vec Ideal S1024x1024 .bf16) (y : S512x1024.Idx) :
    k0_pay2 a b o w x wo y = x y + ∑ k : Fin 1024, k0_pay1 a b o w (ix2 (y 0) k) * wo (ix2 k (y 1)) := by
  unfold k0_pay2
  generalize k0_pay1 a b o w = p
  pointwise

/-- A block of the normalised rows, entry by entry. -/
theorem pay3 (a b : FVec Ideal S512x1024 .f32) (o : Vec Ideal S512x512 .bf16) (w : Vec Ideal S512x1024 .bf16) (x : Vec Ideal S512x1024 .f32) (wo : Vec Ideal S1024x1024 .bf16) (g : Vec Ideal S1x1024 .f32) (y : S512x1024.Idx) :
    k0_pay3 a b o w x wo g y = k0_pay2 a b o w x wo y * scale eps (fun k => k0_pay2 a b o w x wo (ix2 (y 0) k)) * g (ix2 0 (y 1)) := by
  unfold scale meanSq
  rw [← ofBits_eps, ← ofBits_n]
  unfold k0_pay3
  generalize k0_pay2 a b o w x wo = p
  pointwise

/-- What one point leaves in the block of the merged branches. -/
theorem out_12 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x1024 .bf16) (harg15 : arg15.IsWhole)
    (x0 : Vec Ideal S512x512 .bf16) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .f32) (x7 : Vec Ideal S512x1024 .f32) (x8 : Vec Ideal S512x1024 .f32) (x9 : Vec Ideal S512x1024 .f32) (x10 : Vec Ideal S1024x1024 .bf16) (x11 : Vec Ideal S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay1 (k0_pay4 x6 x0 x3 x7 x1 x4) (k0_pay5 x8) x2 x5 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x1024) hz, View.ld_unit_zero (S := S1024x1024) hz, View.ld_unit_zero (S := S1x1024) hz, shapeCast_self]

/-- What one point leaves in the block of the rows after the residual addition. -/
theorem out_13 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x1024 .bf16) (harg15 : arg15.IsWhole)
    (x0 : Vec Ideal S512x512 .bf16) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .f32) (x7 : Vec Ideal S512x1024 .f32) (x8 : Vec Ideal S512x1024 .f32) (x9 : Vec Ideal S512x1024 .f32) (x10 : Vec Ideal S1024x1024 .bf16) (x11 : Vec Ideal S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay2 (k0_pay4 x6 x0 x3 x7 x1 x4) (k0_pay5 x8) x2 x5 x9 x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x1024) hz, View.ld_unit_zero (S := S1024x1024) hz, View.ld_unit_zero (S := S1x1024) hz, shapeCast_self]

/-- What one point leaves in the block of the normalised rows. -/
theorem out_14 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x1024 .bf16) (harg15 : arg15.IsWhole)
    (x0 : Vec Ideal S512x512 .bf16) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .f32) (x7 : Vec Ideal S512x1024 .f32) (x8 : Vec Ideal S512x1024 .f32) (x9 : Vec Ideal S512x1024 .f32) (x10 : Vec Ideal S1024x1024 .bf16) (x11 : Vec Ideal S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay3 (k0_pay4 x6 x0 x3 x7 x1 x4) (k0_pay5 x8) x2 x5 x9 x10 x11 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x1024) hz, View.ld_unit_zero (S := S1024x1024) hz, View.ld_unit_zero (S := S1x1024) hz, shapeCast_self]

/-- Every window's block index at each point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![t.val, 0] ∧ win0_7.index t = ![t.val, 1] ∧ win0_8.index t = ![t.val, 2] ∧ win0_9.index t = ![t.val, 0] ∧ win0_10.index t = ![0, 0] ∧ win0_11.index t = ![0, 0]
    ∧ win0_12.index t = ![t.val, 0] ∧ win0_13.index t = ![t.val, 0] ∧ win0_14.index t = ![t.val, 0] :=
  (by decide +kernel : ∀ t : Fin grid0.N, _)

/-- The first branch's rows. -/
def o0A : S2048x512.Idx → EReal := m ((c.tc : Thread nD τ).loc main_arg0)
/-- The second branch's rows. -/
def o1A : S2048x512.Idx → EReal := m ((c.tc : Thread nD τ).loc main_arg1)
/-- The third branch's rows. -/
def o2A : S2048x512.Idx → EReal := m ((c.tc : Thread nD τ).loc main_arg2)
/-- The first branch's weights. -/
def w0A : S512x1024.Idx → EReal := m ((c.tc : Thread nD τ).loc main_arg3)
/-- The second branch's weights. -/
def w1A : S512x1024.Idx → EReal := m ((c.tc : Thread nD τ).loc main_arg4)
/-- The third branch's weights. -/
def w2A : S512x1024.Idx → EReal := m ((c.tc : Thread nD τ).loc main_arg5)
/-- The input projection, whose first columns are the gates. -/
def zA : S2048x6912.Idx → EReal := m ((c.tc : Thread nD τ).loc main_arg6)
/-- The residual rows. -/
def xA : S2048x1024.Idx → EReal := m ((c.tc : Thread nD τ).loc main_arg7)
/-- The output projection's weights. -/
def woA : S1024x1024.Idx → EReal := m ((c.tc : Thread nD τ).loc main_arg8)
/-- The gains. -/
def gA : S1x1024.Idx → EReal := m ((c.tc : Thread nD τ).loc main_arg9)

theorem o0_host : V m c main_v0 = o0A m c := by
  unfold V V0
  simp only [hostOps0, List.flatten_cons, List.flatten_nil, List.append_nil, List.cons_append, List.nil_append]
  after_reads_simp
  rfl

theorem o1_host : V m c main_v1 = o1A m c := by
  unfold V V0
  simp only [hostOps0, List.flatten_cons, List.flatten_nil, List.append_nil, List.cons_append, List.nil_append]
  after_reads_simp
  rfl

theorem o2_host : V m c main_v2 = o2A m c := by
  unfold V V0
  simp only [hostOps0, List.flatten_cons, List.flatten_nil, List.append_nil, List.cons_append, List.nil_append]
  after_reads_simp
  rfl

theorem w0_host : V m c main_v3 = w0A m c := by
  unfold V V0
  simp only [hostOps0, List.flatten_cons, List.flatten_nil, List.append_nil, List.cons_append, List.nil_append]
  after_reads_simp
  rfl

theorem w1_host : V m c main_v4 = w1A m c := by
  unfold V V0
  simp only [hostOps0, List.flatten_cons, List.flatten_nil, List.append_nil, List.cons_append, List.nil_append]
  after_reads_simp
  rfl

theorem w2_host : V m c main_v5 = w2A m c := by
  unfold V V0
  simp only [hostOps0, List.flatten_cons, List.flatten_nil, List.append_nil, List.cons_append, List.nil_append]
  after_reads_simp
  rfl

theorem wo_host : V m c main_v6 = woA m c := by
  unfold V V0
  simp only [hostOps0, List.flatten_cons, List.flatten_nil, List.append_nil, List.cons_append, List.nil_append]
  after_reads_simp
  rfl

/-- The column of the projection that holds gate `j` of channel `k`. -/
def col (j : Fin 3) (k : Fin 1024) : Fin 6912 := ⟨1024 * j.val + k.val, by have := j.isLt; have := k.isLt; omega⟩

/-- One entry of the merged branches. -/
def mergedV (i : S2048x1024.Idx) : EReal :=
  Ideal.logistic (zA m c (ix2 (i 0) (col 0 (i 1)))) * (∑ k : Fin 512, o0A m c (ix2 (i 0) k) * w0A m c (ix2 k (i 1))) + Ideal.logistic (zA m c (ix2 (i 0) (col 1 (i 1)))) * (∑ k : Fin 512, o1A m c (ix2 (i 0) k) * w1A m c (ix2 k (i 1)))
    + Ideal.logistic (zA m c (ix2 (i 0) (col 2 (i 1)))) * (∑ k : Fin 512, o2A m c (ix2 (i 0) k) * w2A m c (ix2 k (i 1)))

/-- One entry of the rows after the residual addition. -/
def rowsV (i : S2048x1024.Idx) : EReal := xA m c i + ∑ k : Fin 1024, mergedV m c (ix2 (i 0) k) * woA m c (ix2 k (i 1))

/-- One entry of the normalised rows. -/
def normV (i : S2048x1024.Idx) : EReal := rowsV m c i * scale eps (fun k => rowsV m c (ix2 (i 0) k)) * gA m c (ix2 0 (i 1))

/-- The reference's gate. -/
theorem ref_gate (j : Cert.Reference13Ideal.S2048x3x1024.Idx) : Cert.Reference13Ideal.Read.val_main_v7 (F := Ideal) (m ((c.tc : Thread nD τ).loc main_arg6)) j = Ideal.logistic (zA m c (ix2 (j 0) (col (j 1) (j 2)))) := by
  rw [Cert.Reference13Ideal.Read.val_main_v7_apply, Cert.Reference13Ideal.Read.val_main_v6_apply, Cert.Reference13Ideal.Read.val_main_cst_0_apply, Cert.Reference13Ideal.Read.val_main_v5_apply, Cert.Reference13Ideal.Read.val_main_v4_apply, Cert.Reference13Ideal.Read.val_main_cst_apply, Cert.Reference13Ideal.Read.val_main_v3_apply, Cert.Reference13Ideal.Read.val_main_v2_apply, Cert.Reference13Ideal.Read.val_main_v1_apply, Cert.Reference13Ideal.Read.val_main_v0_apply, ofBits_one]
  refine (of_neg _).trans (congrArg (fun q => Ideal.logistic (zA m c q)) (funext fun a => ?_))
  have h1 : (j 1).val < 3 := (j 1).isLt
  have h2 : (j 2).val < 1024 := (j 2).isLt
  match a with
  | ⟨0, _⟩ => exact Fin.ext (by show (((j 0).val * 3 + (j 1).val) * 1024 + (j 2).val) / 3072 = (j 0).val; omega)
  | ⟨1, _⟩ => exact Fin.ext (by show (((j 0).val * 3 + (j 1).val) * 1024 + (j 2).val) % 3072 = 1024 * (j 1).val + (j 2).val; omega)

theorem ref_gate0 (i : S2048x1024.Idx) : Cert.Reference13Ideal.Read.val_main_v12 (F := Ideal) (m ((c.tc : Thread nD τ).loc main_arg6)) i = Ideal.logistic (zA m c (ix2 (i 0) (col 0 (i 1)))) := by
  rw [Cert.Reference13Ideal.Read.val_main_v12_apply, Cert.Reference13Ideal.Read.val_main_v11_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * 0 + ((i 0).val * 1024 + (i 1).val) % 1024 = 1024 * 0 + (i 1).val; omega)

theorem ref_branch0 (i : S2048x1024.Idx) : Cert.Reference13Ideal.Read.val_main_v8 (F := Ideal) (m ((c.tc : Thread nD τ).loc main_arg0)) (m ((c.tc : Thread nD τ).loc main_arg3)) i = ∑ k : Fin 512, o0A m c (ix2 (i 0) k) * w0A m c (ix2 k (i 1)) := by
  rw [Cert.Reference13Ideal.Read.val_main_v8_apply]
  refine Finset.sum_congr rfl fun k _ => congrArg₂ (· * ·) (congrArg (o0A m c) (funext fun a => ?_)) (congrArg (w0A m c) (funext fun a => ?_)) <;> match a with
    | ⟨0, _⟩ => rfl
    | ⟨1, _⟩ => rfl

theorem ref_gate1 (i : S2048x1024.Idx) : Cert.Reference13Ideal.Read.val_main_v15 (F := Ideal) (m ((c.tc : Thread nD τ).loc main_arg6)) i = Ideal.logistic (zA m c (ix2 (i 0) (col 1 (i 1)))) := by
  rw [Cert.Reference13Ideal.Read.val_main_v15_apply, Cert.Reference13Ideal.Read.val_main_v14_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * (1 + 0) + ((i 0).val * 1024 + (i 1).val) % 1024 = 1024 * 1 + (i 1).val; omega)

theorem ref_branch1 (i : S2048x1024.Idx) : Cert.Reference13Ideal.Read.val_main_v9 (F := Ideal) (m ((c.tc : Thread nD τ).loc main_arg1)) (m ((c.tc : Thread nD τ).loc main_arg4)) i = ∑ k : Fin 512, o1A m c (ix2 (i 0) k) * w1A m c (ix2 k (i 1)) := by
  rw [Cert.Reference13Ideal.Read.val_main_v9_apply]
  refine Finset.sum_congr rfl fun k _ => congrArg₂ (· * ·) (congrArg (o1A m c) (funext fun a => ?_)) (congrArg (w1A m c) (funext fun a => ?_)) <;> match a with
    | ⟨0, _⟩ => rfl
    | ⟨1, _⟩ => rfl

theorem ref_gate2 (i : S2048x1024.Idx) : Cert.Reference13Ideal.Read.val_main_v19 (F := Ideal) (m ((c.tc : Thread nD τ).loc main_arg6)) i = Ideal.logistic (zA m c (ix2 (i 0) (col 2 (i 1)))) := by
  rw [Cert.Reference13Ideal.Read.val_main_v19_apply, Cert.Reference13Ideal.Read.val_main_v18_apply, ref_gate]
  have h1 : (i 1).val < 1024 := (i 1).isLt
  refine congrArg (fun q => Ideal.logistic (zA m c q)) (funext fun a => ?_)
  match a with
  | ⟨0, _⟩ => exact Fin.ext (by show ((i 0).val * 1024 + (i 1).val) / 1024 = (i 0).val; omega)
  | ⟨1, _⟩ => exact Fin.ext (by show 1024 * (2 + 0) + ((i 0).val * 1024 + (i 1).val) % 1024 = 1024 * 2 + (i 1).val; omega)

theorem ref_branch2 (i : S2048x1024.Idx) : Cert.Reference13Ideal.Read.val_main_v10 (F := Ideal) (m ((c.tc : Thread nD τ).loc main_arg2)) (m ((c.tc : Thread nD τ).loc main_arg5)) i = ∑ k : Fin 512, o2A m c (ix2 (i 0) k) * w2A m c (ix2 k (i 1)) := by
  rw [Cert.Reference13Ideal.Read.val_main_v10_apply]
  refine Finset.sum_congr rfl fun k _ => congrArg₂ (· * ·) (congrArg (o2A m c) (funext fun a => ?_)) (congrArg (w2A m c) (funext fun a => ?_)) <;> match a with
    | ⟨0, _⟩ => rfl
    | ⟨1, _⟩ => rfl

theorem ref_merged (i : S2048x1024.Idx) : Cert.Reference13Ideal.Read.val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i = mergedV m c i := by
  rw [Cert.Reference13Ideal.Read.val_main_v21_apply, Cert.Reference13Ideal.Read.val_main_v17_apply, Cert.Reference13Ideal.Read.val_main_v13_apply, Cert.Reference13Ideal.Read.val_main_v16_apply, Cert.Reference13Ideal.Read.val_main_v20_apply, ref_gate0, ref_gate1, ref_gate2, ref_branch0, ref_branch1, ref_branch2]
  rfl

theorem ref_rows (i : S2048x1024.Idx) : Cert.Reference13Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i = rowsV m c i := by
  rw [Cert.Reference13Ideal.Read.val_main_v23_apply, Cert.Reference13Ideal.Read.val_main_v22_apply]
  unfold rowsV
  refine congrArg (xA m c i + ·) (Finset.sum_congr rfl fun k _ => ?_)
  rw [ref_merged]
  refine congrArg₂ (· * ·) (congrArg (mergedV m c) (funext fun a => ?_)) (congrArg (woA m c) (funext fun a => ?_)) <;> match a with
    | ⟨0, _⟩ => rfl
    | ⟨1, _⟩ => rfl

theorem ref_meanSq (s : Cert.Reference13Ideal.S2048x1.Idx) : Cert.Reference13Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) s = meanSq eps (fun k => rowsV m c (ix2 (s 0) k)) := by
  rw [Cert.Reference13Ideal.Read.val_main_v30_apply, Cert.Reference13Ideal.Read.val_main_v28_apply, Cert.Reference13Ideal.Read.val_main_v26_apply, Cert.Reference13Ideal.Read.val_main_v25_apply, Cert.Reference13Ideal.Read.val_main_v27_apply, Cert.Reference13Ideal.Read.val_main_cst_2_apply, Cert.Reference13Ideal.Read.val_main_v29_apply, Cert.Reference13Ideal.Read.val_main_cst_3_apply, Cert.Reference13Ideal.Read.val_main_cst_1_apply, ofBits_n, ofBits_eps, ofBits_zero]
  unfold meanSq
  refine congrArg (· + ((eps : ℝ) : EReal)) (congrArg (Ideal.div · ((1024 : ℝ) : EReal)) ((zero_add _).trans (Finset.sum_congr rfl fun k _ => ?_)))
  rw [Cert.Reference13Ideal.Read.val_main_v24_apply, ref_rows]
  have e : Cert.Reference13Ideal.Read.idx_main_v25 (Cert.Reference13Ideal.Read.idx_main_v26 s) k = ix2 (s 0) k := funext fun a => by match a with
    | ⟨0, _⟩ => rfl
    | ⟨1, _⟩ => rfl
  rw [e]
  rfl

theorem ref_norm (i : S2048x1024.Idx) : Cert.Reference13Ideal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i = normV m c i := by
  rw [Cert.Reference13Ideal.Read.val_main_v35_apply, Cert.Reference13Ideal.Read.val_main_v33_apply, Cert.Reference13Ideal.Read.val_main_v32_apply, Cert.Reference13Ideal.Read.val_main_v31_apply, ref_meanSq, ref_rows, Cert.Reference13Ideal.Read.val_main_v34_apply]
  refine congrArg₂ (· * ·) rfl (congrArg (gA m c) (funext fun a => ?_))
  match a with
    | ⟨0, _⟩ => rfl
    | ⟨1, _⟩ => rfl

/-- Window 0's block. -/
def o0B (t : Fin cfg0.N) : S512x512.Idx → EReal := iblk m c 0 t

theorem o0B_eq (t : Fin cfg0.N) (y : S512x512.Idx) (i : S2048x512.Idx) (h0 : (i 0).val = 512 * t.val + (y 0).val) (h1 : (i 1).val = (y 1).val) : o0B m c t y = o0A m c i := by
  show V m c main_v0 (((cfg0.win 0).blk t).view.emb y) = _
  rw [o0_host]
  refine congrArg (o0A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 1's block. -/
def o1B (t : Fin cfg0.N) : S512x512.Idx → EReal := iblk m c 1 t

theorem o1B_eq (t : Fin cfg0.N) (y : S512x512.Idx) (i : S2048x512.Idx) (h0 : (i 0).val = 512 * t.val + (y 0).val) (h1 : (i 1).val = (y 1).val) : o1B m c t y = o1A m c i := by
  show V m c main_v1 (((cfg0.win 1).blk t).view.emb y) = _
  rw [o1_host]
  refine congrArg (o1A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 2's block. -/
def o2B (t : Fin cfg0.N) : S512x512.Idx → EReal := iblk m c 2 t

theorem o2B_eq (t : Fin cfg0.N) (y : S512x512.Idx) (i : S2048x512.Idx) (h0 : (i 0).val = 512 * t.val + (y 0).val) (h1 : (i 1).val = (y 1).val) : o2B m c t y = o2A m c i := by
  show V m c main_v2 (((cfg0.win 2).blk t).view.emb y) = _
  rw [o2_host]
  refine congrArg (o2A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 3's block. -/
def w0B (t : Fin cfg0.N) : S512x1024.Idx → EReal := iblk m c 3 t

theorem w0B_eq (t : Fin cfg0.N) (y : S512x1024.Idx) (i : S512x1024.Idx) (h0 : (i 0).val = (y 0).val) (h1 : (i 1).val = (y 1).val) : w0B m c t y = w0A m c i := by
  show V m c main_v3 (((cfg0.win 3).blk t).view.emb y) = _
  rw [w0_host]
  refine congrArg (w0A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 4's block. -/
def w1B (t : Fin cfg0.N) : S512x1024.Idx → EReal := iblk m c 4 t

theorem w1B_eq (t : Fin cfg0.N) (y : S512x1024.Idx) (i : S512x1024.Idx) (h0 : (i 0).val = (y 0).val) (h1 : (i 1).val = (y 1).val) : w1B m c t y = w1A m c i := by
  show V m c main_v4 (((cfg0.win 4).blk t).view.emb y) = _
  rw [w1_host]
  refine congrArg (w1A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 5's block. -/
def w2B (t : Fin cfg0.N) : S512x1024.Idx → EReal := iblk m c 5 t

theorem w2B_eq (t : Fin cfg0.N) (y : S512x1024.Idx) (i : S512x1024.Idx) (h0 : (i 0).val = (y 0).val) (h1 : (i 1).val = (y 1).val) : w2B m c t y = w2A m c i := by
  show V m c main_v5 (((cfg0.win 5).blk t).view.emb y) = _
  rw [w2_host]
  refine congrArg (w2A m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 6's block. -/
def z0B (t : Fin cfg0.N) : S512x1024.Idx → EReal := X0_6 m c t

theorem z0B_eq (t : Fin cfg0.N) (y : S512x1024.Idx) (i : S2048x6912.Idx) (h0 : (i 0).val = 512 * t.val + (y 0).val) (h1 : (i 1).val = 1024 * 0 + (y 1).val) : z0B m c t y = zA m c i := by
  show X0_6 m c t y = _
  unfold X0_6 Pipeline.Window.fill
  rw [dif_pos (moved0_6 t y)]
  show V m c main_arg6 (((cfg0.win 6).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 7's block. -/
def z1B (t : Fin cfg0.N) : S512x1024.Idx → EReal := X0_7 m c t

theorem z1B_eq (t : Fin cfg0.N) (y : S512x1024.Idx) (i : S2048x6912.Idx) (h0 : (i 0).val = 512 * t.val + (y 0).val) (h1 : (i 1).val = 1024 * 1 + (y 1).val) : z1B m c t y = zA m c i := by
  show X0_7 m c t y = _
  unfold X0_7 Pipeline.Window.fill
  rw [dif_pos (moved0_7 t y)]
  show V m c main_arg6 (((cfg0.win 7).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 8's block. -/
def z2B (t : Fin cfg0.N) : S512x1024.Idx → EReal := X0_8 m c t

theorem z2B_eq (t : Fin cfg0.N) (y : S512x1024.Idx) (i : S2048x6912.Idx) (h0 : (i 0).val = 512 * t.val + (y 0).val) (h1 : (i 1).val = 1024 * 2 + (y 1).val) : z2B m c t y = zA m c i := by
  show X0_8 m c t y = _
  unfold X0_8 Pipeline.Window.fill
  rw [dif_pos (moved0_8 t y)]
  show V m c main_arg6 (((cfg0.win 8).blk t).view.emb _) = _
  rw [V_main_arg6]
  refine congrArg (zA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 9's block. -/
def xB (t : Fin cfg0.N) : S512x1024.Idx → EReal := iblk m c 9 t

theorem xB_eq (t : Fin cfg0.N) (y : S512x1024.Idx) (i : S2048x1024.Idx) (h0 : (i 0).val = 512 * t.val + (y 0).val) (h1 : (i 1).val = (y 1).val) : xB m c t y = xA m c i := by
  show V m c main_arg7 (((cfg0.win 9).blk t).view.emb y) = _
  rw [V_main_arg7]
  refine congrArg (xA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 10's block. -/
def woB (t : Fin cfg0.N) : S1024x1024.Idx → EReal := iblk m c 10 t

theorem woB_eq (t : Fin cfg0.N) (y : S1024x1024.Idx) (i : S1024x1024.Idx) (h0 : (i 0).val = (y 0).val) (h1 : (i 1).val = (y 1).val) : woB m c t y = woA m c i := by
  show V m c main_v6 (((cfg0.win 10).blk t).view.emb y) = _
  rw [wo_host]
  refine congrArg (woA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- Window 11's block. -/
def gB (t : Fin cfg0.N) : S1x1024.Idx → EReal := iblk m c 11 t

theorem gB_eq (t : Fin cfg0.N) (y : S1x1024.Idx) (i : S1x1024.Idx) (h0 : (i 0).val = (y 0).val) (h1 : (i 1).val = (y 1).val) : gB m c t y = gA m c i := by
  show V m c main_arg9 (((cfg0.win 11).blk t).view.emb y) = _
  rw [V_main_arg9]
  refine congrArg (gA m c) (funext fun a => Fin.ext ?_)
  match a with
  | ⟨0, _⟩ =>
    refine Eq.trans ?_ h0.symm
    blk_simp [idx t]
    try first | done | rfl | exact congrArg (· + _) (Nat.mul_comm _ _) | omega
  | ⟨1, _⟩ =>
    refine Eq.trans ?_ h1.symm
    blk_simp [idx t]
    try first | done | rfl | omega | exact (Nat.zero_add _).symm

/-- The block of merged branches is a block of the whole. -/
theorem merged_eq (t : Fin cfg0.N) (y : S512x1024.Idx) (i : S2048x1024.Idx) (h0 : (i 0).val = 512 * t.val + (y 0).val) (h1 : (i 1).val = (y 1).val) :
    mergedB (o0B m c t) (o1B m c t) (o2B m c t) (w0B m c t) (w1B m c t) (w2B m c t) (z0B m c t) (z1B m c t) (z2B m c t) y = mergedV m c i := by
  unfold mergedB mergedV
  refine congrArg₂ (· + ·) (congrArg₂ (· + ·) (congrArg₂ (· * ·) (congrArg Ideal.logistic (z0B_eq m c t y _ h0 (congrArg (1024 * 0 + ·) h1))) (Finset.sum_congr rfl fun k _ => congrArg₂ (· * ·) (o0B_eq m c t _ _ h0 rfl) (w0B_eq m c t _ _ rfl h1)))
    (congrArg₂ (· * ·) (congrArg Ideal.logistic (z1B_eq m c t y _ h0 (congrArg (1024 * 1 + ·) h1))) (Finset.sum_congr rfl fun k _ => congrArg₂ (· * ·) (o1B_eq m c t _ _ h0 rfl) (w1B_eq m c t _ _ rfl h1))))
    (congrArg₂ (· * ·) (congrArg Ideal.logistic (z2B_eq m c t y _ h0 (congrArg (1024 * 2 + ·) h1))) (Finset.sum_congr rfl fun k _ => congrArg₂ (· * ·) (o2B_eq m c t _ _ h0 rfl) (w2B_eq m c t _ _ rfl h1)))

theorem after_merged (t : Fin cfg0.N) (y : S512x1024.Idx) (i : S2048x1024.Idx) (h0 : (i 0).val = 512 * t.val + (y 0).val) (h1 : (i 1).val = (y 1).val) : (outsAt0 m c t).1 y = mergedV m c i := by
  unfold outsAt0
  dsimp only
  rw [out_12]
  exact (merged (o0B m c t) (o1B m c t) (o2B m c t) (w0B m c t) (w1B m c t) (w2B m c t) (z0B m c t) (z1B m c t) (z2B m c t) y).trans (merged_eq m c t y i h0 h1)

/-- The rows after the residual addition, as one point computes them. -/
def rowsB (t : Fin cfg0.N) : S512x1024.Idx → EReal :=
  k0_pay2 (F := Ideal) (k0_pay4 (F := Ideal) (z0B m c t) (o0B m c t) (w0B m c t) (z1B m c t) (o1B m c t) (w1B m c t)) (k0_pay5 (F := Ideal) (z2B m c t)) (o2B m c t) (w2B m c t) (xB m c t) (woB m c t)

theorem rowsB_eq (t : Fin cfg0.N) (y : S512x1024.Idx) (i : S2048x1024.Idx) (h0 : (i 0).val = 512 * t.val + (y 0).val) (h1 : (i 1).val = (y 1).val) : rowsB m c t y = rowsV m c i := by
  unfold rowsB
  rw [pay2]
  unfold rowsV
  refine congrArg₂ (· + ·) (xB_eq m c t y i h0 h1) (Finset.sum_congr rfl fun k _ => congrArg₂ (· * ·) ?_ (woB_eq m c t _ _ rfl h1))
  exact (merged (o0B m c t) (o1B m c t) (o2B m c t) (w0B m c t) (w1B m c t) (w2B m c t) (z0B m c t) (z1B m c t) (z2B m c t) _).trans (merged_eq m c t _ _ h0 rfl)

theorem after_rows (t : Fin cfg0.N) (y : S512x1024.Idx) (i : S2048x1024.Idx) (h0 : (i 0).val = 512 * t.val + (y 0).val) (h1 : (i 1).val = (y 1).val) : (outsAt0 m c t).2.1 y = rowsV m c i := by
  unfold outsAt0
  dsimp only
  rw [out_13]
  exact rowsB_eq m c t y i h0 h1

theorem after_norm (t : Fin cfg0.N) (y : S512x1024.Idx) (i : S2048x1024.Idx) (h0 : (i 0).val = 512 * t.val + (y 0).val) (h1 : (i 1).val = (y 1).val) : (outsAt0 m c t).2.2 y = normV m c i := by
  unfold outsAt0
  dsimp only
  rw [out_14]
  refine (pay3 (k0_pay4 (F := Ideal) (z0B m c t) (o0B m c t) (w0B m c t) (z1B m c t) (o1B m c t) (w1B m c t)) (k0_pay5 (F := Ideal) (z2B m c t)) (o2B m c t) (w2B m c t) (xB m c t) (woB m c t) (gB m c t) y).trans ?_
  unfold normV
  exact congrArg₂ (· * ·) (congrArg₂ (· * ·) (rowsB_eq m c t y i h0 h1) (congrArg (scale eps) (funext fun k => rowsB_eq m c t _ _ h0 rfl))) (gB_eq m c t _ _ rfl h1)

/-- The merged branches once every block is written back. -/
theorem arr_merged : (dats m 0 c).arrAt 12 cfg0.N = mergedV m c := by
  refine (dats m 0 c).arrAt_eq_of_cover 12 (mergedV m c) (fun t _ => ?_) (fun i => ?_)
  · funext y
    show (cfg0.win 12).cut (grid0.coords t) ((dats m 0 c).after 12 t) y = mergedV m c (((cfg0.win 12).blk t).view.emb y)
    rw [after0_12]
    refine after_merged m c t y _ ?_ ?_
    · blk_simp [idx t]
      try first | done | rfl | exact congrArg (· + _) (Nat.mul_comm _ _) | omega
    · blk_simp [idx t]
      try first | done | rfl | omega
  · have hi0 : (i 0).val < 2048 := (i 0).isLt
    have hi1 : (i 1).val < 1024 := (i 1).isLt
    have hN : cfg0.N = 4 := N_0
    refine ⟨⟨(i 0).val / 512, by omega⟩, flush0_12 _, ?_⟩
    set t : Fin cfg0.N := ⟨(i 0).val / 512, by omega⟩ with ht
    have tv : t.val = (i 0).val / 512 := rfl
    refine ((cfg0.win 12).emb_mem_blk_iff t i).mpr fun a => ?_
    show win0_12.index t a * S512x1024.size a ≤ (i a).val ∧ (i a).val < win0_12.index t a * S512x1024.size a + S512x1024.size a
    rw [(idx t).2.2.2.2.2.2.2.2.2.2.2.2.1]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

/-- The rows after the residual addition once every block is written back. -/
theorem arr_rows : (dats m 0 c).arrAt 13 cfg0.N = rowsV m c := by
  refine (dats m 0 c).arrAt_eq_of_cover 13 (rowsV m c) (fun t _ => ?_) (fun i => ?_)
  · funext y
    show (cfg0.win 13).cut (grid0.coords t) ((dats m 0 c).after 13 t) y = rowsV m c (((cfg0.win 13).blk t).view.emb y)
    rw [after0_13]
    refine after_rows m c t y _ ?_ ?_
    · blk_simp [idx t]
      try first | done | rfl | exact congrArg (· + _) (Nat.mul_comm _ _) | omega
    · blk_simp [idx t]
      try first | done | rfl | omega
  · have hi0 : (i 0).val < 2048 := (i 0).isLt
    have hi1 : (i 1).val < 1024 := (i 1).isLt
    have hN : cfg0.N = 4 := N_0
    refine ⟨⟨(i 0).val / 512, by omega⟩, flush0_13 _, ?_⟩
    set t : Fin cfg0.N := ⟨(i 0).val / 512, by omega⟩ with ht
    have tv : t.val = (i 0).val / 512 := rfl
    refine ((cfg0.win 13).emb_mem_blk_iff t i).mpr fun a => ?_
    show win0_13.index t a * S512x1024.size a ≤ (i a).val ∧ (i a).val < win0_13.index t a * S512x1024.size a + S512x1024.size a
    rw [(idx t).2.2.2.2.2.2.2.2.2.2.2.2.2.1]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

/-- The normalised rows once every block is written back. -/
theorem arr_norm : (dats m 0 c).arrAt 14 cfg0.N = normV m c := by
  refine (dats m 0 c).arrAt_eq_of_cover 14 (normV m c) (fun t _ => ?_) (fun i => ?_)
  · funext y
    show (cfg0.win 14).cut (grid0.coords t) ((dats m 0 c).after 14 t) y = normV m c (((cfg0.win 14).blk t).view.emb y)
    rw [after0_14]
    refine after_norm m c t y _ ?_ ?_
    · blk_simp [idx t]
      try first | done | rfl | exact congrArg (· + _) (Nat.mul_comm _ _) | omega
    · blk_simp [idx t]
      try first | done | rfl | omega
  · have hi0 : (i 0).val < 2048 := (i 0).isLt
    have hi1 : (i 1).val < 1024 := (i 1).isLt
    have hN : cfg0.N = 4 := N_0
    refine ⟨⟨(i 0).val / 512, by omega⟩, flush0_14 _, ?_⟩
    set t : Fin cfg0.N := ⟨(i 0).val / 512, by omega⟩ with ht
    have tv : t.val = (i 0).val / 512 := rfl
    refine ((cfg0.win 14).emb_mem_blk_iff t i).mpr fun a => ?_
    show win0_14.index t a * S512x1024.size a ≤ (i a).val ∧ (i a).val < win0_14.index t a * S512x1024.size a + S512x1024.size a
    rw [(idx t).2.2.2.2.2.2.2.2.2.2.2.2.2.2]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

/-- Each window's array after the last point. -/
theorem at_end (w : Fin 15) : Pipeline.withArrays spec0 c (V0 m c) (fun w => (dats m 0 c).arrAt w cfg0.N) (Proc.devRef .tc (Pipeline.arrRef spec0 w)) = (dats m 0 c).arrAt w cfg0.N :=
  Pipeline.Dat.withArrays_arrAt (dats m 0 c) sharedIn0 (V0 m c) (A_eq m c) w

theorem tail_merged : Pipeline.afterTail₀ cfgs (dats m) 0 (V0 m) [hostOps1] c main_v8 = mergedV m c := by
  unfold Pipeline.afterTail₀
  simp only [hostOps1, List.flatten_cons, List.flatten_nil, List.append_nil]
  after_reads_simp
  funext i
  exact congrFun ((at_end m c 12).trans (arr_merged m c)) i

theorem tail_norm : Pipeline.afterTail₀ cfgs (dats m) 0 (V0 m) [hostOps1] c main_v9 = normV m c := by
  unfold Pipeline.afterTail₀
  simp only [hostOps1, List.flatten_cons, List.flatten_nil, List.append_nil]
  after_reads_simp
  funext i
  exact congrFun ((at_end m c 14).trans (arr_norm m c)) i

/-- Both programs end with the merged branches, the rows and the normalised rows. -/
theorem algebraic [hK : Cert.Kernel13Ideal.Facts] [hR : Cert.Reference13Ideal.Facts] : Cert.algebraic_Kernel13Ideal_Reference13Ideal := by
  intro m g m' g' _ hagree
  refine ⟨fun c => mergedV m c, fun c => rowsV m c, fun c => normV m c, ?_, ?_⟩
  · refine (θ_run Cert.Kernel13Ideal.defs _ _).mono (fun r h c => ?_) (run_main m g)
    exact ⟨((h c).2 main_v8 (Pipeline.mem_restRefs_of main_v8 (by decide) (by decide))).trans (tail_merged m c),
      ((h c).1 13).trans (arr_rows m c),
      ((h c).2 main_v9 (Pipeline.mem_restRefs_of main_v9 (by decide) (by decide))).trans (tail_norm m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 9).trans (((dats m 0 c).arrAt_in 9 rfl _).trans ((A_eq m c 9).trans (V_main_arg7 m c))),
      ((h c).2 main_arg8 (Pipeline.mem_restRefs_of main_arg8 (by decide) (by decide))).trans (W_main_arg8 m (dats m) c),
      ((h c).1 11).trans (((dats m 0 c).arrAt_in 11 rfl _).trans ((A_eq m c 11).trans (V_main_arg9 m c)))⟩
  · refine (θ_run Cert.Reference13Ideal.defs _ _).mono (fun r h c => ?_) (Cert.Reference13Ideal.Value.run (F := Ideal) m' g')
    refine ⟨(h c).1.trans ?_, (h c).2.1.trans ?_, (h c).2.2.1.trans ?_, (h c).2.2.2⟩
    · rw [Cert.Reference13Ideal.Read.val_main_v21_eq, (hagree c).1, (hagree c).2.1, (hagree c).2.2.1, (hagree c).2.2.2.1, (hagree c).2.2.2.2.1, (hagree c).2.2.2.2.2.1, (hagree c).2.2.2.2.2.2.1]
      exact funext fun i => ref_merged m c i
    · rw [Cert.Reference13Ideal.Read.val_main_v23_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
      exact funext fun i => ref_rows m c i
    · rw [Cert.Reference13Ideal.Read.val_main_v35_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact funext fun i => ref_norm m c i

end Cert.GateFwd
-- ==== Proof.lean ====
/-
  The claims about every call: what runs and what it keeps, and that kernel and reference end with the same arrays.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.DFfAct
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.DWFfDown
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.DWFfUp
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.DMlpIn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.DWIn
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.DMixIn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.InProj
public import proofs.«01_k».proof.Proof.InProjRun
public import proofs.«01_k».proof.Proof.InProjRunIdeal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.FfUp
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.FfDown
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.DWOut
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.GateBwd
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.GateFwd
public import Idealize.ShloMosaic.Adequacy
public import Idealize.ShloMosaic.Init

@[expose] public section

noncomputable section

namespace Cert.Proof

open Idealize.ShloMosaic Idealize.SL.Sem Cert.Kernel

/-- The reference runs, keeps its arguments and leaves every semaphore at zero. -/
theorem reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩,
    Idealize.ShloMosaic.sem_eq_zero_of_no_sems (by decide) r.2⟩) (Cert.ReferenceIdeal.Value.run (F := Ideal) m ρ)

/-- The reference runs, keeps its arguments and leaves every semaphore at zero. -/
theorem reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => ⟨(h c).2.1, (h c).2.2.1, (h c).2.2.2⟩,
    Idealize.ShloMosaic.sem_eq_zero_of_no_sems (by decide) r.2⟩) (Cert.Reference2Ideal.Value.run (F := Ideal) m ρ)

/-- The reference runs, keeps its arguments and leaves every semaphore at zero. -/
theorem reference3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => ⟨(h c).2.1, (h c).2.2⟩,
    Idealize.ShloMosaic.sem_eq_zero_of_no_sems (by decide) r.2⟩) (Cert.Reference3Ideal.Value.run (F := Ideal) m ρ)

/-- The reference runs, keeps its arguments and leaves every semaphore at zero. -/
theorem reference4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono (fun r h => ⟨fun c => ⟨(h c).2.1, (h c).2.2.1, (h c).2.2.2⟩,
    Idealize.ShloMosaic.sem_eq_zero_of_no_sems (by decide) r.2⟩) (Cert.Reference4Ideal.Value.run (F := Ideal) m ρ)

/-- The reference runs, keeps its arguments and leaves every semaphore at zero. -/
theorem reference5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono (fun r h => ⟨fun c => ⟨(h c).2.2.1, (h c).2.2.2.1, (h c).2.2.2.2.1, (h c).2.2.2.2.2.1, (h c).2.2.2.2.2.2⟩,
    Idealize.ShloMosaic.sem_eq_zero_of_no_sems (by decide) r.2⟩) (Cert.Reference5Ideal.Value.run (F := Ideal) m ρ)

/-- The reference runs, keeps its arguments and leaves every semaphore at zero. -/
theorem reference6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono (fun r h => ⟨fun c => ⟨(h c).2.1, (h c).2.2.1, (h c).2.2.2⟩,
    Idealize.ShloMosaic.sem_eq_zero_of_no_sems (by decide) r.2⟩) (Cert.Reference6Ideal.Value.run (F := Ideal) m ρ)

/-- The reference runs, keeps its arguments and leaves every semaphore at zero. -/
theorem reference7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0) :=
  (θ_run Cert.Reference7Ideal.defs _ _).mono (fun r h => ⟨fun c => ⟨(h c).2.2.1, (h c).2.2.2.1, (h c).2.2.2.2.1, (h c).2.2.2.2.2.1, (h c).2.2.2.2.2.2⟩,
    Idealize.ShloMosaic.sem_eq_zero_of_no_sems (by decide) r.2⟩) (Cert.Reference7Ideal.Value.run (F := Ideal) m ρ)

/-- The reference runs, keeps its arguments and leaves every semaphore at zero. -/
theorem reference8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run Cert.Reference8Ideal.defs _ _).mono (fun r h => ⟨fun c => ⟨(h c).2.2.1, (h c).2.2.2.1, (h c).2.2.2.2⟩,
    Idealize.ShloMosaic.sem_eq_zero_of_no_sems (by decide) r.2⟩) (Cert.Reference8Ideal.Value.run (F := Ideal) m ρ)

/-- The reference runs, keeps its arguments and leaves every semaphore at zero. -/
theorem reference9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run Cert.Reference9Ideal.defs _ _).mono (fun r h => ⟨fun c => ⟨(h c).2.2.1, (h c).2.2.2.1, (h c).2.2.2.2⟩,
    Idealize.ShloMosaic.sem_eq_zero_of_no_sems (by decide) r.2⟩) (Cert.Reference9Ideal.Value.run (F := Ideal) m ρ)

/-- The reference runs, keeps its arguments and leaves every semaphore at zero. -/
theorem reference10 (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0) :=
  (θ_run Cert.Reference10Ideal.defs _ _).mono (fun r h => ⟨fun c => ⟨(h c).2.2.2.1, (h c).2.2.2.2.1, (h c).2.2.2.2.2.1, (h c).2.2.2.2.2.2⟩,
    Idealize.ShloMosaic.sem_eq_zero_of_no_sems (by decide) r.2⟩) (Cert.Reference10Ideal.Value.run (F := Ideal) m ρ)

/-- The reference runs, keeps its arguments and leaves every semaphore at zero. -/
theorem reference11 (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => ⟨(h c).2.1, (h c).2.2⟩,
    Idealize.ShloMosaic.sem_eq_zero_of_no_sems (by decide) r.2⟩) (Cert.Reference11Ideal.Value.run (F := Ideal) m ρ)

/-- The reference runs, keeps its arguments and leaves every semaphore at zero. -/
theorem reference12 (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0) :=
  (θ_run Cert.Reference12Ideal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩,
    Idealize.ShloMosaic.sem_eq_zero_of_no_sems (by decide) r.2⟩) (Cert.Reference12Ideal.Value.run (F := Ideal) m ρ)

/-- The reference runs, keeps its arguments and leaves every semaphore at zero. -/
theorem reference13 (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0) :=
  (θ_run Cert.Reference13Ideal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
    Idealize.ShloMosaic.sem_eq_zero_of_no_sems (by decide) r.2⟩) (Cert.Reference13Ideal.Value.run (F := Ideal) m ρ)

theorem claim : Cert.Claim := ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Sb.factsFinite, by
  exact ⟨fun m ρ _ => Cert.Kernel.Gen.frame m ρ,
    fun m ρ _ => Cert.KernelIdeal.Gen.frame m ρ,
    fun m ρ _ => Cert.KernelIdeal.Gen.frame m ρ,
    fun m ρ _ => reference m ρ,
    fun m ρ _ => reference m ρ,
    fun m ρ _ => Cert.Kernel2.Gen.frame m ρ,
    fun m ρ _ => Cert.Kernel2Ideal.Gen.frame m ρ,
    fun m ρ _ => reference2 m ρ,
    fun m ρ _ => Cert.Kernel3.Gen.frame m ρ,
    fun m ρ _ => Cert.Kernel3Ideal.Gen.frame m ρ,
    fun m ρ _ => reference3 m ρ,
    fun m ρ _ => Cert.Kernel4.Gen.frame m ρ,
    fun m ρ _ => Cert.Kernel4Ideal.Gen.frame m ρ,
    fun m ρ _ => reference4 m ρ,
    fun m ρ _ => Cert.Kernel5.Gen.frame m ρ,
    fun m ρ _ => Cert.Kernel5Ideal.Gen.frame m ρ,
    fun m ρ _ => reference5 m ρ,
    fun m ρ _ => Cert.Kernel6.Gen.frame m ρ,
    fun m ρ _ => Cert.Kernel6Ideal.Gen.frame m ρ,
    fun m ρ _ => reference6 m ρ,
    fun m ρ _ => Cert.Kernel7.Gen.frame m ρ,
    fun m ρ _ => Cert.Kernel7Ideal.Gen.frame m ρ,
    fun m ρ _ => reference7 m ρ,
    fun m ρ _ => Cert.InProj.Kernel8.frame m ρ,
    fun m ρ _ => Cert.InProj.Kernel8Ideal.frame m ρ,
    fun m ρ _ => reference8 m ρ,
    fun m ρ _ => Cert.Kernel9.Gen.frame m ρ,
    fun m ρ _ => Cert.Kernel9Ideal.Gen.frame m ρ,
    fun m ρ _ => reference9 m ρ,
    fun m ρ _ => Cert.Kernel10.Gen.frame m ρ,
    fun m ρ _ => Cert.Kernel10Ideal.Gen.frame m ρ,
    fun m ρ _ => reference10 m ρ,
    fun m ρ _ => Cert.Kernel11.Gen.frame m ρ,
    fun m ρ _ => Cert.Kernel11Ideal.Gen.frame m ρ,
    fun m ρ _ => reference11 m ρ,
    fun m ρ _ => Cert.Kernel12.Gen.frame m ρ,
    fun m ρ _ => Cert.Kernel12Ideal.Gen.frame m ρ,
    fun m ρ _ => reference12 m ρ,
    fun m ρ _ => Cert.Kernel13.Gen.frame m ρ,
    fun m ρ _ => Cert.Kernel13Ideal.Gen.frame m ρ,
    fun m ρ _ => reference13 m ρ,
    IdealRules.named_const.statement _ _ _ _ _ rfl,
    Cert.Sb.algebraic (hK := Cert.KernelIdeal.Gen.facts) (hR := Cert.ReferenceIdeal.Gen.facts) (hF := Cert.Sb.factsFinite),
    trivial,
    Cert.DFfAct.algebraic (hK := Cert.Kernel2Ideal.Gen.facts) (hR := Cert.Reference2Ideal.Gen.facts),
    trivial,
    Cert.DWFfDown.algebraic (hK := Cert.Kernel3Ideal.Gen.facts) (hR := Cert.Reference3Ideal.Gen.facts),
    trivial,
    Cert.DWFfUp.algebraic (hK := Cert.Kernel4Ideal.Gen.facts) (hR := Cert.Reference4Ideal.Gen.facts),
    trivial,
    Cert.DMlpIn.algebraic (hK := Cert.Kernel5Ideal.Gen.facts) (hR := Cert.Reference5Ideal.Gen.facts),
    trivial,
    Cert.DWIn.algebraic (hK := Cert.Kernel6Ideal.Gen.facts) (hR := Cert.Reference6Ideal.Gen.facts),
    trivial,
    Cert.DMixIn.algebraic (hK := Cert.Kernel7Ideal.Gen.facts) (hR := Cert.Reference7Ideal.Gen.facts),
    trivial,
    Cert.InProj.algebraic (hK := Cert.Kernel8Ideal.Gen.facts) (hR := Cert.Reference8Ideal.Gen.facts),
    trivial,
    Cert.FfUp.algebraic (hK := Cert.Kernel9Ideal.Gen.facts) (hR := Cert.Reference9Ideal.Gen.facts),
    trivial,
    Cert.FfDown.algebraic (hK := Cert.Kernel10Ideal.Gen.facts) (hR := Cert.Reference10Ideal.Gen.facts),
    trivial,
    Cert.DWOut.algebraic (hK := Cert.Kernel11Ideal.Gen.facts) (hR := Cert.Reference11Ideal.Gen.facts),
    trivial,
    Cert.GateBwd.algebraic (hK := Cert.Kernel12Ideal.Gen.facts) (hR := Cert.Reference12Ideal.Gen.facts),
    trivial,
    Cert.GateFwd.algebraic (hK := Cert.Kernel13Ideal.Gen.facts) (hR := Cert.Reference13Ideal.Gen.facts)⟩⟩

end Cert.Proof

end
